-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v739)) (v1 : (c : Dev Cert.KernelIdeal.nD) → Buf (Elt Ideal) ((c.tc : Thread Cert.KernelIdeal.nD Cert.KernelIdeal.τ).loc Cert.KernelIdeal.main_v194)) (v2 : (c : Dev Cert.KernelIdeal.nD) → Buf (Elt Ideal) ((c.tc : Thread Cert.KernelIdeal.nD Cert.KernelIdeal.τ).loc Cert.KernelIdeal.main_v195_0)) (v3 : (c : Dev Cert.KernelIdeal.nD) → Buf (Elt Ideal) ((c.tc : Thread Cert.KernelIdeal.nD Cert.KernelIdeal.τ).loc Cert.KernelIdeal.main_v195_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v739) = v0 c
          ∧ r.2.mem ((c.tc : Thread Cert.KernelIdeal.nD Cert.KernelIdeal.τ).loc Cert.KernelIdeal.main_v194) = v1 c
          ∧ r.2.mem ((c.tc : Thread Cert.KernelIdeal.nD Cert.KernelIdeal.τ).loc Cert.KernelIdeal.main_v195_0) = v2 c
          ∧ r.2.mem ((c.tc : Thread Cert.KernelIdeal.nD Cert.KernelIdeal.τ).loc Cert.KernelIdeal.main_v195_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_v325) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x3x64x64 : Shape := ⟨4, ![256, 3, 64, 64]⟩
abbrev S32x3x4x4 : Shape := ⟨4, ![32, 3, 4, 4]⟩
abbrev S32 : Shape := ⟨1, ![32]⟩
abbrev S32x32x4x4 : Shape := ⟨4, ![32, 32, 4, 4]⟩
abbrev S64x32x4x4 : Shape := ⟨4, ![64, 32, 4, 4]⟩
abbrev S64 : Shape := ⟨1, ![64]⟩
abbrev S64x64x4x4 : Shape := ⟨4, ![64, 64, 4, 4]⟩
abbrev S128x64x4x4 : Shape := ⟨4, ![128, 64, 4, 4]⟩
abbrev S128 : Shape := ⟨1, ![128]⟩
abbrev S64x128x1x1 : Shape := ⟨4, ![64, 128, 1, 1]⟩
abbrev S1024x64 : Shape := ⟨2, ![1024, 64]⟩
abbrev S128x64x1x1 : Shape := ⟨4, ![128, 64, 1, 1]⟩
abbrev S3 : Shape := ⟨1, ![3]⟩
abbrev S4 : Shape := ⟨1, ![4]⟩
abbrev S256x64x64x3 : Shape := ⟨4, ![256, 64, 64, 3]⟩
abbrev S_ : Shape := ⟨0, ![]⟩
abbrev S256x66x66x3 : Shape := ⟨4, ![256, 66, 66, 3]⟩
abbrev S256x32x32x3 : Shape := ⟨4, ![256, 32, 32, 3]⟩
abbrev S256x32x32x1x3 : Shape := ⟨5, ![256, 32, 32, 1, 3]⟩
abbrev S256x32x32x16x3 : Shape := ⟨5, ![256, 32, 32, 16, 3]⟩
abbrev S262144x48 : Shape := ⟨2, ![262144, 48]⟩
abbrev S4x4x3x32 : Shape := ⟨4, ![4, 4, 3, 32]⟩
abbrev S48x32 : Shape := ⟨2, ![48, 32]⟩
abbrev S1x262144x48 : Shape := ⟨3, ![1, 262144, 48]⟩
abbrev S1x48x32 : Shape := ⟨3, ![1, 48, 32]⟩
abbrev S1x32 : Shape := ⟨2, ![1, 32]⟩
abbrev S1x1x32 : Shape := ⟨3, ![1, 1, 32]⟩
abbrev S1x262144x32 : Shape := ⟨3, ![1, 262144, 32]⟩
abbrev S1x4096x48 : Shape := ⟨3, ![1, 4096, 48]⟩
abbrev S1x4096x32 : Shape := ⟨3, ![1, 4096, 32]⟩
abbrev S4096x48 : Shape := ⟨2, ![4096, 48]⟩
abbrev S4096x32 : Shape := ⟨2, ![4096, 32]⟩
abbrev S262144x32 : Shape := ⟨2, ![262144, 32]⟩
abbrev S256x32x32x32 : Shape := ⟨4, ![256, 32, 32, 32]⟩
abbrev S256x34x34x32 : Shape := ⟨4, ![256, 34, 34, 32]⟩
abbrev S256x16x16x32 : Shape := ⟨4, ![256, 16, 16, 32]⟩
abbrev S256x16x16x1x32 : Shape := ⟨5, ![256, 16, 16, 1, 32]⟩
abbrev S256x16x16x16x32 : Shape := ⟨5, ![256, 16, 16, 16, 32]⟩
abbrev S65536x512 : Shape := ⟨2, ![65536, 512]⟩
abbrev S4x4x32x32 : Shape := ⟨4, ![4, 4, 32, 32]⟩
abbrev S512x32 : Shape := ⟨2, ![512, 32]⟩
abbrev S1x65536x512 : Shape := ⟨3, ![1, 65536, 512]⟩
abbrev S1x512x32 : Shape := ⟨3, ![1, 512, 32]⟩
abbrev S1x65536x32 : Shape := ⟨3, ![1, 65536, 32]⟩
abbrev S1x2048x512 : Shape := ⟨3, ![1, 2048, 512]⟩
abbrev S1x2048x32 : Shape := ⟨3, ![1, 2048, 32]⟩
abbrev S2048x512 : Shape := ⟨2, ![2048, 512]⟩
abbrev S2048x32 : Shape := ⟨2, ![2048, 32]⟩
abbrev S65536x32 : Shape := ⟨2, ![65536, 32]⟩
abbrev S256x18x18x32 : Shape := ⟨4, ![256, 18, 18, 32]⟩
abbrev S256x8x8x32 : Shape := ⟨4, ![256, 8, 8, 32]⟩
abbrev S256x8x8x1x32 : Shape := ⟨5, ![256, 8, 8, 1, 32]⟩
abbrev S256x8x8x16x32 : Shape := ⟨5, ![256, 8, 8, 16, 32]⟩
abbrev S16384x512 : Shape := ⟨2, ![16384, 512]⟩
abbrev S4x4x32x64 : Shape := ⟨4, ![4, 4, 32, 64]⟩
abbrev S512x64 : Shape := ⟨2, ![512, 64]⟩
abbrev S1x16384x512 : Shape := ⟨3, ![1, 16384, 512]⟩
abbrev S1x512x64 : Shape := ⟨3, ![1, 512, 64]⟩
abbrev S1x64 : Shape := ⟨2, ![1, 64]⟩
abbrev S1x1x64 : Shape := ⟨3, ![1, 1, 64]⟩
abbrev S1x16384x64 : Shape := ⟨3, ![1, 16384, 64]⟩
abbrev S1x4096x512 : Shape := ⟨3, ![1, 4096, 512]⟩
abbrev S1x4096x64 : Shape := ⟨3, ![1, 4096, 64]⟩
abbrev S4096x512 : Shape := ⟨2, ![4096, 512]⟩
abbrev S4096x64 : Shape := ⟨2, ![4096, 64]⟩
abbrev S16384x64 : Shape := ⟨2, ![16384, 64]⟩
abbrev S256x8x8x64 : Shape := ⟨4, ![256, 8, 8, 64]⟩
abbrev S256x10x10x64 : Shape := ⟨4, ![256, 10, 10, 64]⟩
abbrev S256x4x4x64 : Shape := ⟨4, ![256, 4, 4, 64]⟩
abbrev S256x4x4x1x64 : Shape := ⟨5, ![256, 4, 4, 1, 64]⟩
abbrev S256x4x4x16x64 : Shape := ⟨5, ![256, 4, 4, 16, 64]⟩
abbrev S4096x1024 : Shape := ⟨2, ![4096, 1024]⟩
abbrev S4x4x64x64 : Shape := ⟨4, ![4, 4, 64, 64]⟩
abbrev S1x4096x1024 : Shape := ⟨3, ![1, 4096, 1024]⟩
abbrev S1x1024x64 : Shape := ⟨3, ![1, 1024, 64]⟩
abbrev S256x1024 : Shape := ⟨2, ![256, 1024]⟩
abbrev S4x4x64x128 : Shape := ⟨4, ![4, 4, 64, 128]⟩
abbrev S1024x128 : Shape := ⟨2, ![1024, 128]⟩
abbrev S1x256x1024 : Shape := ⟨3, ![1, 256, 1024]⟩
abbrev S1x1024x128 : Shape := ⟨3, ![1, 1024, 128]⟩
abbrev S1x128 : Shape := ⟨2, ![1, 128]⟩
abbrev S1x1x128 : Shape := ⟨3, ![1, 1, 128]⟩
abbrev S1x256x128 : Shape := ⟨3, ![1, 256, 128]⟩
abbrev S256x128 : Shape := ⟨2, ![256, 128]⟩
abbrev S64x128 : Shape := ⟨2, ![64, 128]⟩
abbrev S128x64 : Shape := ⟨2, ![128, 64]⟩
abbrev S256x64 : Shape := ⟨2, ![256, 64]⟩
abbrev S1024x256 : Shape := ⟨2, ![1024, 256]⟩
abbrev S64x256 : Shape := ⟨2, ![64, 256]⟩
abbrev S1x8x8x256 : Shape := ⟨4, ![1, 8, 8, 256]⟩
abbrev S64x64 : Shape := ⟨2, ![64, 64]⟩
abbrev S64x8x8x1 : Shape := ⟨4, ![64, 8, 8, 1]⟩
abbrev S64x8x8x256 : Shape := ⟨4, ![64, 8, 8, 256]⟩
abbrev S64x8x4x256 : Shape := ⟨4, ![64, 8, 4, 256]⟩
abbrev S64x8x2x256 : Shape := ⟨4, ![64, 8, 2, 256]⟩
abbrev S64x8x1x256 : Shape := ⟨4, ![64, 8, 1, 256]⟩
abbrev S64x1x1x256 : Shape := ⟨4, ![64, 1, 1, 256]⟩
abbrev S64x1x8x256 : Shape := ⟨4, ![64, 1, 8, 256]⟩
abbrev S64x8x256 : Shape := ⟨3, ![64, 8, 256]⟩
abbrev S64x4x256 : Shape := ⟨3, ![64, 4, 256]⟩
abbrev S64x2x256 : Shape := ⟨3, ![64, 2, 256]⟩
abbrev S64x1x256 : Shape := ⟨3, ![64, 1, 256]⟩
abbrev S1024 : Shape := ⟨1, ![1024]⟩
abbrev S1024x1 : Shape := ⟨2, ![1024, 1]⟩
abbrev S256 : Shape := ⟨1, ![256]⟩
abbrev S256x1 : Shape := ⟨2, ![256, 1]⟩
abbrev S1x256x64 : Shape := ⟨3, ![1, 256, 64]⟩
abbrev S1x64x128 : Shape := ⟨3, ![1, 64, 128]⟩
abbrev S128x1024 : Shape := ⟨2, ![128, 1024]⟩
abbrev S64x16 : Shape := ⟨2, ![64, 16]⟩
abbrev S1x128x1024 : Shape := ⟨3, ![1, 128, 1024]⟩
abbrev S1x1024 : Shape := ⟨2, ![1, 1024]⟩
abbrev S1x1x1024 : Shape := ⟨3, ![1, 1, 1024]⟩
abbrev S256x64x4x4 : Shape := ⟨4, ![256, 64, 4, 4]⟩
abbrev S4x1 : Shape := ⟨2, ![4, 1]⟩
abbrev S64x4x4x64 : Shape := ⟨4, ![64, 4, 4, 64]⟩
abbrev S64x1024 : Shape := ⟨2, ![64, 1024]⟩
abbrev S1x64x1024 : Shape := ⟨3, ![1, 64, 1024]⟩
abbrev S256x4x4x4x4x64 : Shape := ⟨6, ![256, 4, 4, 4, 4, 64]⟩
abbrev S256x4x4x1x1x64 : Shape := ⟨6, ![256, 4, 4, 1, 1, 64]⟩
abbrev S256x6x6x64 : Shape := ⟨4, ![256, 6, 6, 64]⟩
abbrev S1x1x1x64 : Shape := ⟨4, ![1, 1, 1, 64]⟩
abbrev S1x256x4x4x64 : Shape := ⟨5, ![1, 256, 4, 4, 64]⟩
abbrev S4x256x4x4x64 : Shape := ⟨5, ![4, 256, 4, 4, 64]⟩
abbrev S4x4096x64 : Shape := ⟨3, ![4, 4096, 64]⟩
abbrev S2x2x256x4x4x64 : Shape := ⟨6, ![2, 2, 256, 4, 4, 64]⟩
abbrev S256x64x4x2x4x2 : Shape := ⟨6, ![256, 64, 4, 2, 4, 2]⟩
abbrev S256x64x8x8 : Shape := ⟨4, ![256, 64, 8, 8]⟩
abbrev S64x4x4x32 : Shape := ⟨4, ![64, 4, 4, 32]⟩
abbrev S64x512 : Shape := ⟨2, ![64, 512]⟩
abbrev S512 : Shape := ⟨1, ![512]⟩
abbrev S1x64x512 : Shape := ⟨3, ![1, 64, 512]⟩
abbrev S1x512 : Shape := ⟨2, ![1, 512]⟩
abbrev S1x1x512 : Shape := ⟨3, ![1, 1, 512]⟩
abbrev S256x8x8x4x4x32 : Shape := ⟨6, ![256, 8, 8, 4, 4, 32]⟩
abbrev S256x8x8x1x1x32 : Shape := ⟨6, ![256, 8, 8, 1, 1, 32]⟩
abbrev S256x10x10x32 : Shape := ⟨4, ![256, 10, 10, 32]⟩
abbrev S1x1x1x32 : Shape := ⟨4, ![1, 1, 1, 32]⟩
abbrev S1x256x8x8x32 : Shape := ⟨5, ![1, 256, 8, 8, 32]⟩
abbrev S4x256x8x8x32 : Shape := ⟨5, ![4, 256, 8, 8, 32]⟩
abbrev S4x16384x32 : Shape := ⟨3, ![4, 16384, 32]⟩
abbrev S2x2x256x8x8x32 : Shape := ⟨6, ![2, 2, 256, 8, 8, 32]⟩
abbrev S256x32x8x2x8x2 : Shape := ⟨6, ![256, 32, 8, 2, 8, 2]⟩
abbrev S256x32x16x16 : Shape := ⟨4, ![256, 32, 16, 16]⟩
abbrev S32x4x4x32 : Shape := ⟨4, ![32, 4, 4, 32]⟩
abbrev S32x512 : Shape := ⟨2, ![32, 512]⟩
abbrev S1x32x512 : Shape := ⟨3, ![1, 32, 512]⟩
abbrev S256x16x16x4x4x32 : Shape := ⟨6, ![256, 16, 16, 4, 4, 32]⟩
abbrev S256x16x16x1x1x32 : Shape := ⟨6, ![256, 16, 16, 1, 1, 32]⟩
abbrev S1x256x16x16x32 : Shape := ⟨5, ![1, 256, 16, 16, 32]⟩
abbrev S4x256x16x16x32 : Shape := ⟨5, ![4, 256, 16, 16, 32]⟩
abbrev S4x65536x32 : Shape := ⟨3, ![4, 65536, 32]⟩
abbrev S2x2x256x16x16x32 : Shape := ⟨6, ![2, 2, 256, 16, 16, 32]⟩
abbrev S256x32x16x2x16x2 : Shape := ⟨6, ![256, 32, 16, 2, 16, 2]⟩
abbrev S32x4x4x3 : Shape := ⟨4, ![32, 4, 4, 3]⟩
abbrev S32x48 : Shape := ⟨2, ![32, 48]⟩
abbrev S48 : Shape := ⟨1, ![48]⟩
abbrev S1x32x48 : Shape := ⟨3, ![1, 32, 48]⟩
abbrev S1x48 : Shape := ⟨2, ![1, 48]⟩
abbrev S1x1x48 : Shape := ⟨3, ![1, 1, 48]⟩
abbrev S256x32x32x4x4x3 : Shape := ⟨6, ![256, 32, 32, 4, 4, 3]⟩
abbrev S256x32x32x1x1x3 : Shape := ⟨6, ![256, 32, 32, 1, 1, 3]⟩
abbrev S256x34x34x3 : Shape := ⟨4, ![256, 34, 34, 3]⟩
abbrev S1x1x1x3 : Shape := ⟨4, ![1, 1, 1, 3]⟩
abbrev S1x256x32x32x3 : Shape := ⟨5, ![1, 256, 32, 32, 3]⟩
abbrev S4x256x32x32x3 : Shape := ⟨5, ![4, 256, 32, 32, 3]⟩
abbrev S4x262144x3 : Shape := ⟨3, ![4, 262144, 3]⟩
abbrev S2x2x256x32x32x3 : Shape := ⟨6, ![2, 2, 256, 32, 32, 3]⟩
abbrev S256x3x32x2x32x2 : Shape := ⟨6, ![256, 3, 32, 2, 32, 2]⟩

abbrev nBuf : Space → Nat
  | .hbm => 945
  | .vmem => 66
  | .smem => 0
  | _ => 0

abbrev hbmTy0_0 (i : Nat) : BufTy := match i % 128 with
  | 0 => ⟨S256x3x64x64, .f32⟩
  | 1 => ⟨S32x3x4x4, .f32⟩
  | 2 => ⟨S32, .f32⟩
  | 3 => ⟨S32x32x4x4, .f32⟩
  | 4 => ⟨S32, .f32⟩
  | 5 => ⟨S64x32x4x4, .f32⟩
  | 6 => ⟨S64, .f32⟩
  | 7 => ⟨S64x64x4x4, .f32⟩
  | 8 => ⟨S64, .f32⟩
  | 9 => ⟨S128x64x4x4, .f32⟩
  | 10 => ⟨S128, .f32⟩
  | 11 => ⟨S64x128x1x1, .f32⟩
  | 12 => ⟨S64, .f32⟩
  | 13 => ⟨S1024x64, .f32⟩
  | 14 => ⟨S128x64x1x1, .f32⟩
  | 15 => ⟨S128, .f32⟩
  | 16 => ⟨S128x64x4x4, .f32⟩
  | 17 => ⟨S64, .f32⟩
  | 18 => ⟨S64x64x4x4, .f32⟩
  | 19 => ⟨S64, .f32⟩
  | 20 => ⟨S64x32x4x4, .f32⟩
  | 21 => ⟨S32, .f32⟩
  | 22 => ⟨S32x32x4x4, .f32⟩
  | 23 => ⟨S32, .f32⟩
  | 24 => ⟨S32x3x4x4, .f32⟩
  | 25 => ⟨S3, .f32⟩
  | 26 => ⟨S4, .i32⟩
  | 27 => ⟨S4, .i32⟩
  | 28 => ⟨S4, .i32⟩
  | 29 => ⟨S4, .i32⟩
  | 30 => ⟨S4, .i32⟩
  | 31 => ⟨S4, .i32⟩
  | 32 => ⟨S4, .i32⟩
  | 33 => ⟨S4, .i32⟩
  | 34 => ⟨S256x3x64x64, .bf16⟩
  | 35 => ⟨S256x64x64x3, .bf16⟩
  | 36 => ⟨S_, .i32⟩
  | 37 => ⟨S_, .bf16⟩
  | 38 => ⟨S256x66x66x3, .bf16⟩
  | 39 => ⟨S256x32x32x3, .bf16⟩
  | 40 => ⟨S256x32x32x3, .bf16⟩
  | 41 => ⟨S256x32x32x3, .bf16⟩
  | 42 => ⟨S256x32x32x3, .bf16⟩
  | 43 => ⟨S256x32x32x3, .bf16⟩
  | 44 => ⟨S256x32x32x3, .bf16⟩
  | 45 => ⟨S256x32x32x3, .bf16⟩
  | 46 => ⟨S256x32x32x3, .bf16⟩
  | 47 => ⟨S256x32x32x3, .bf16⟩
  | 48 => ⟨S256x32x32x3, .bf16⟩
  | 49 => ⟨S256x32x32x3, .bf16⟩
  | 50 => ⟨S256x32x32x3, .bf16⟩
  | 51 => ⟨S256x32x32x3, .bf16⟩
  | 52 => ⟨S256x32x32x3, .bf16⟩
  | 53 => ⟨S256x32x32x3, .bf16⟩
  | 54 => ⟨S256x32x32x3, .bf16⟩
  | 55 => ⟨S256x32x32x1x3, .bf16⟩
  | 56 => ⟨S256x32x32x1x3, .bf16⟩
  | 57 => ⟨S256x32x32x1x3, .bf16⟩
  | 58 => ⟨S256x32x32x1x3, .bf16⟩
  | 59 => ⟨S256x32x32x1x3, .bf16⟩
  | 60 => ⟨S256x32x32x1x3, .bf16⟩
  | 61 => ⟨S256x32x32x1x3, .bf16⟩
  | 62 => ⟨S256x32x32x1x3, .bf16⟩
  | 63 => ⟨S256x32x32x1x3, .bf16⟩
  | 64 => ⟨S256x32x32x1x3, .bf16⟩
  | 65 => ⟨S256x32x32x1x3, .bf16⟩
  | 66 => ⟨S256x32x32x1x3, .bf16⟩
  | 67 => ⟨S256x32x32x1x3, .bf16⟩
  | 68 => ⟨S256x32x32x1x3, .bf16⟩
  | 69 => ⟨S256x32x32x1x3, .bf16⟩
  | 70 => ⟨S256x32x32x1x3, .bf16⟩
  | 71 => ⟨S256x32x32x16x3, .bf16⟩
  | 72 => ⟨S262144x48, .bf16⟩
  | 73 => ⟨S32x3x4x4, .bf16⟩
  | 74 => ⟨S4x4x3x32, .bf16⟩
  | 75 => ⟨S48x32, .bf16⟩
  | 76 => ⟨S1x262144x48, .bf16⟩
  | 77 => ⟨S1x48x32, .bf16⟩
  | 78 => ⟨S1x32, .f32⟩
  | 79 => ⟨S1x1x32, .f32⟩
  | 80 => ⟨S1x262144x32, .bf16⟩
  | 81 => ⟨S262144x32, .bf16⟩
  | 82 => ⟨S256x32x32x32, .bf16⟩
  | 83 => ⟨S_, .i32⟩
  | 84 => ⟨S_, .bf16⟩
  | 85 => ⟨S256x34x34x32, .bf16⟩
  | 86 => ⟨S256x16x16x32, .bf16⟩
  | 87 => ⟨S256x16x16x32, .bf16⟩
  | 88 => ⟨S256x16x16x32, .bf16⟩
  | 89 => ⟨S256x16x16x32, .bf16⟩
  | 90 => ⟨S256x16x16x32, .bf16⟩
  | 91 => ⟨S256x16x16x32, .bf16⟩
  | 92 => ⟨S256x16x16x32, .bf16⟩
  | 93 => ⟨S256x16x16x32, .bf16⟩
  | 94 => ⟨S256x16x16x32, .bf16⟩
  | 95 => ⟨S256x16x16x32, .bf16⟩
  | 96 => ⟨S256x16x16x32, .bf16⟩
  | 97 => ⟨S256x16x16x32, .bf16⟩
  | 98 => ⟨S256x16x16x32, .bf16⟩
  | 99 => ⟨S256x16x16x32, .bf16⟩
  | 100 => ⟨S256x16x16x32, .bf16⟩
  | 101 => ⟨S256x16x16x32, .bf16⟩
  | 102 => ⟨S256x16x16x1x32, .bf16⟩
  | 103 => ⟨S256x16x16x1x32, .bf16⟩
  | 104 => ⟨S256x16x16x1x32, .bf16⟩
  | 105 => ⟨S256x16x16x1x32, .bf16⟩
  | 106 => ⟨S256x16x16x1x32, .bf16⟩
  | 107 => ⟨S256x16x16x1x32, .bf16⟩
  | 108 => ⟨S256x16x16x1x32, .bf16⟩
  | 109 => ⟨S256x16x16x1x32, .bf16⟩
  | 110 => ⟨S256x16x16x1x32, .bf16⟩
  | 111 => ⟨S256x16x16x1x32, .bf16⟩
  | 112 => ⟨S256x16x16x1x32, .bf16⟩
  | 113 => ⟨S256x16x16x1x32, .bf16⟩
  | 114 => ⟨S256x16x16x1x32, .bf16⟩
  | 115 => ⟨S256x16x16x1x32, .bf16⟩
  | 116 => ⟨S256x16x16x1x32, .bf16⟩
  | 117 => ⟨S256x16x16x1x32, .bf16⟩
  | 118 => ⟨S256x16x16x16x32, .bf16⟩
  | 119 => ⟨S65536x512, .bf16⟩
  | 120 => ⟨S32x32x4x4, .bf16⟩
  | 121 => ⟨S4x4x32x32, .bf16⟩
  | 122 => ⟨S512x32, .bf16⟩
  | 123 => ⟨S1x65536x512, .bf16⟩
  | 124 => ⟨S1x512x32, .bf16⟩
  | 125 => ⟨S1x32, .f32⟩
  | 126 => ⟨S1x1x32, .f32⟩
  | 127 => ⟨S1x65536x32, .bf16⟩
  | _ => ⟨S256x3x64x64, .f32⟩

abbrev hbmTy0_1 (i : Nat) : BufTy := match i % 128 with
  | 0 => ⟨S65536x32, .bf16⟩
  | 1 => ⟨S256x16x16x32, .bf16⟩
  | 2 => ⟨S_, .i32⟩
  | 3 => ⟨S_, .bf16⟩
  | 4 => ⟨S256x18x18x32, .bf16⟩
  | 5 => ⟨S256x8x8x32, .bf16⟩
  | 6 => ⟨S256x8x8x32, .bf16⟩
  | 7 => ⟨S256x8x8x32, .bf16⟩
  | 8 => ⟨S256x8x8x32, .bf16⟩
  | 9 => ⟨S256x8x8x32, .bf16⟩
  | 10 => ⟨S256x8x8x32, .bf16⟩
  | 11 => ⟨S256x8x8x32, .bf16⟩
  | 12 => ⟨S256x8x8x32, .bf16⟩
  | 13 => ⟨S256x8x8x32, .bf16⟩
  | 14 => ⟨S256x8x8x32, .bf16⟩
  | 15 => ⟨S256x8x8x32, .bf16⟩
  | 16 => ⟨S256x8x8x32, .bf16⟩
  | 17 => ⟨S256x8x8x32, .bf16⟩
  | 18 => ⟨S256x8x8x32, .bf16⟩
  | 19 => ⟨S256x8x8x32, .bf16⟩
  | 20 => ⟨S256x8x8x32, .bf16⟩
  | 21 => ⟨S256x8x8x1x32, .bf16⟩
  | 22 => ⟨S256x8x8x1x32, .bf16⟩
  | 23 => ⟨S256x8x8x1x32, .bf16⟩
  | 24 => ⟨S256x8x8x1x32, .bf16⟩
  | 25 => ⟨S256x8x8x1x32, .bf16⟩
  | 26 => ⟨S256x8x8x1x32, .bf16⟩
  | 27 => ⟨S256x8x8x1x32, .bf16⟩
  | 28 => ⟨S256x8x8x1x32, .bf16⟩
  | 29 => ⟨S256x8x8x1x32, .bf16⟩
  | 30 => ⟨S256x8x8x1x32, .bf16⟩
  | 31 => ⟨S256x8x8x1x32, .bf16⟩
  | 32 => ⟨S256x8x8x1x32, .bf16⟩
  | 33 => ⟨S256x8x8x1x32, .bf16⟩
  | 34 => ⟨S256x8x8x1x32, .bf16⟩
  | 35 => ⟨S256x8x8x1x32, .bf16⟩
  | 36 => ⟨S256x8x8x1x32, .bf16⟩
  | 37 => ⟨S256x8x8x16x32, .bf16⟩
  | 38 => ⟨S16384x512, .bf16⟩
  | 39 => ⟨S64x32x4x4, .bf16⟩
  | 40 => ⟨S4x4x32x64, .bf16⟩
  | 41 => ⟨S512x64, .bf16⟩
  | 42 => ⟨S1x16384x512, .bf16⟩
  | 43 => ⟨S1x512x64, .bf16⟩
  | 44 => ⟨S1x64, .f32⟩
  | 45 => ⟨S1x1x64, .f32⟩
  | 46 => ⟨S1x16384x64, .bf16⟩
  | 47 => ⟨S16384x64, .bf16⟩
  | 48 => ⟨S256x8x8x64, .bf16⟩
  | 49 => ⟨S_, .i32⟩
  | 50 => ⟨S_, .bf16⟩
  | 51 => ⟨S256x10x10x64, .bf16⟩
  | 52 => ⟨S256x4x4x64, .bf16⟩
  | 53 => ⟨S256x4x4x64, .bf16⟩
  | 54 => ⟨S256x4x4x64, .bf16⟩
  | 55 => ⟨S256x4x4x64, .bf16⟩
  | 56 => ⟨S256x4x4x64, .bf16⟩
  | 57 => ⟨S256x4x4x64, .bf16⟩
  | 58 => ⟨S256x4x4x64, .bf16⟩
  | 59 => ⟨S256x4x4x64, .bf16⟩
  | 60 => ⟨S256x4x4x64, .bf16⟩
  | 61 => ⟨S256x4x4x64, .bf16⟩
  | 62 => ⟨S256x4x4x64, .bf16⟩
  | 63 => ⟨S256x4x4x64, .bf16⟩
  | 64 => ⟨S256x4x4x64, .bf16⟩
  | 65 => ⟨S256x4x4x64, .bf16⟩
  | 66 => ⟨S256x4x4x64, .bf16⟩
  | 67 => ⟨S256x4x4x64, .bf16⟩
  | 68 => ⟨S256x4x4x1x64, .bf16⟩
  | 69 => ⟨S256x4x4x1x64, .bf16⟩
  | 70 => ⟨S256x4x4x1x64, .bf16⟩
  | 71 => ⟨S256x4x4x1x64, .bf16⟩
  | 72 => ⟨S256x4x4x1x64, .bf16⟩
  | 73 => ⟨S256x4x4x1x64, .bf16⟩
  | 74 => ⟨S256x4x4x1x64, .bf16⟩
  | 75 => ⟨S256x4x4x1x64, .bf16⟩
  | 76 => ⟨S256x4x4x1x64, .bf16⟩
  | 77 => ⟨S256x4x4x1x64, .bf16⟩
  | 78 => ⟨S256x4x4x1x64, .bf16⟩
  | 79 => ⟨S256x4x4x1x64, .bf16⟩
  | 80 => ⟨S256x4x4x1x64, .bf16⟩
  | 81 => ⟨S256x4x4x1x64, .bf16⟩
  | 82 => ⟨S256x4x4x1x64, .bf16⟩
  | 83 => ⟨S256x4x4x1x64, .bf16⟩
  | 84 => ⟨S256x4x4x16x64, .bf16⟩
  | 85 => ⟨S4096x1024, .bf16⟩
  | 86 => ⟨S64x64x4x4, .bf16⟩
  | 87 => ⟨S4x4x64x64, .bf16⟩
  | 88 => ⟨S1024x64, .bf16⟩
  | 89 => ⟨S1x4096x1024, .bf16⟩
  | 90 => ⟨S1x1024x64, .bf16⟩
  | 91 => ⟨S1x64, .f32⟩
  | 92 => ⟨S1x1x64, .f32⟩
  | 93 => ⟨S1x4096x64, .bf16⟩
  | 94 => ⟨S4096x64, .bf16⟩
  | 95 => ⟨S256x4x4x64, .bf16⟩
  | 96 => ⟨S256x1024, .bf16⟩
  | 97 => ⟨S128x64x4x4, .bf16⟩
  | 98 => ⟨S4x4x64x128, .bf16⟩
  | 99 => ⟨S1024x128, .bf16⟩
  | 100 => ⟨S1x256x1024, .bf16⟩
  | 101 => ⟨S1x1024x128, .bf16⟩
  | 102 => ⟨S1x128, .f32⟩
  | 103 => ⟨S1x1x128, .f32⟩
  | 104 => ⟨S1x256x128, .bf16⟩
  | 105 => ⟨S256x128, .bf16⟩
  | 106 => ⟨S64x128, .f32⟩
  | 107 => ⟨S128x64, .f32⟩
  | 108 => ⟨S256x64, .f32⟩
  | 109 => ⟨S256x64, .f32⟩
  | 110 => ⟨S1024x64, .f32⟩
  | 111 => ⟨S256x64, .bf16⟩
  | 112 => ⟨S128x64x1x1, .bf16⟩
  | 113 => ⟨S128x64, .bf16⟩
  | 114 => ⟨S64x128, .bf16⟩
  | 115 => ⟨S1x256x64, .bf16⟩
  | 116 => ⟨S1x64x128, .bf16⟩
  | 117 => ⟨S1x128, .f32⟩
  | 118 => ⟨S1x1x128, .f32⟩
  | 119 => ⟨S1x256x128, .bf16⟩
  | 120 => ⟨S256x128, .bf16⟩
  | 121 => ⟨S128x64x4x4, .bf16⟩
  | 122 => ⟨S128x1024, .bf16⟩
  | 123 => ⟨S64x16, .f32⟩
  | 124 => ⟨S1024, .f32⟩
  | 125 => ⟨S1x256x128, .bf16⟩
  | 126 => ⟨S1x128x1024, .bf16⟩
  | 127 => ⟨S1x1024, .f32⟩
  | _ => ⟨S256x3x64x64, .f32⟩

abbrev hbmTy0_2 (i : Nat) : BufTy := match i % 128 with
  | 0 => ⟨S1x1x1024, .f32⟩
  | 1 => ⟨S1x256x1024, .bf16⟩
  | 2 => ⟨S256x1024, .bf16⟩
  | 3 => ⟨S256x64x4x4, .bf16⟩
  | 4 => ⟨S256x4x4x64, .bf16⟩
  | 5 => ⟨S64x64x4x4, .bf16⟩
  | 6 => ⟨S_, .i32⟩
  | 7 => ⟨S4, .i32⟩
  | 8 => ⟨S4, .i1⟩
  | 9 => ⟨S_, .i32⟩
  | 10 => ⟨S4, .i32⟩
  | 11 => ⟨S4, .i32⟩
  | 12 => ⟨S4, .i32⟩
  | 13 => ⟨S4x1, .i32⟩
  | 14 => ⟨S64x64x4x4, .bf16⟩
  | 15 => ⟨S_, .i32⟩
  | 16 => ⟨S4, .i32⟩
  | 17 => ⟨S4, .i1⟩
  | 18 => ⟨S_, .i32⟩
  | 19 => ⟨S4, .i32⟩
  | 20 => ⟨S4, .i32⟩
  | 21 => ⟨S4, .i32⟩
  | 22 => ⟨S4x1, .i32⟩
  | 23 => ⟨S64x64x4x4, .bf16⟩
  | 24 => ⟨S64x4x4x64, .bf16⟩
  | 25 => ⟨S64x1024, .bf16⟩
  | 26 => ⟨S4096x64, .bf16⟩
  | 27 => ⟨S_, .f32⟩
  | 28 => ⟨S1024, .f32⟩
  | 29 => ⟨S1x4096x64, .bf16⟩
  | 30 => ⟨S1x64x1024, .bf16⟩
  | 31 => ⟨S1x1024, .f32⟩
  | 32 => ⟨S1x1x1024, .f32⟩
  | 33 => ⟨S1x4096x1024, .f32⟩
  | 34 => ⟨S4096x1024, .f32⟩
  | 35 => ⟨S256x4x4x4x4x64, .f32⟩
  | 36 => ⟨S256x4x4x1x1x64, .f32⟩
  | 37 => ⟨S256x4x4x64, .f32⟩
  | 38 => ⟨S_, .i32⟩
  | 39 => ⟨S_, .f32⟩
  | 40 => ⟨S256x6x6x64, .f32⟩
  | 41 => ⟨S256x4x4x64, .f32⟩
  | 42 => ⟨S256x4x4x1x1x64, .f32⟩
  | 43 => ⟨S256x4x4x64, .f32⟩
  | 44 => ⟨S_, .i32⟩
  | 45 => ⟨S_, .f32⟩
  | 46 => ⟨S256x6x6x64, .f32⟩
  | 47 => ⟨S256x4x4x64, .f32⟩
  | 48 => ⟨S256x4x4x64, .f32⟩
  | 49 => ⟨S256x4x4x1x1x64, .f32⟩
  | 50 => ⟨S256x4x4x64, .f32⟩
  | 51 => ⟨S_, .i32⟩
  | 52 => ⟨S_, .f32⟩
  | 53 => ⟨S256x6x6x64, .f32⟩
  | 54 => ⟨S256x4x4x64, .f32⟩
  | 55 => ⟨S256x4x4x64, .f32⟩
  | 56 => ⟨S256x4x4x1x1x64, .f32⟩
  | 57 => ⟨S256x4x4x64, .f32⟩
  | 58 => ⟨S_, .i32⟩
  | 59 => ⟨S_, .f32⟩
  | 60 => ⟨S256x6x6x64, .f32⟩
  | 61 => ⟨S256x4x4x64, .f32⟩
  | 62 => ⟨S256x4x4x64, .f32⟩
  | 63 => ⟨S1x1x1x64, .f32⟩
  | 64 => ⟨S256x4x4x64, .f32⟩
  | 65 => ⟨S256x4x4x64, .f32⟩
  | 66 => ⟨S_, .f32⟩
  | 67 => ⟨S256x4x4x64, .f32⟩
  | 68 => ⟨S256x4x4x64, .f32⟩
  | 69 => ⟨S256x4x4x1x1x64, .f32⟩
  | 70 => ⟨S256x4x4x64, .f32⟩
  | 71 => ⟨S_, .i32⟩
  | 72 => ⟨S_, .f32⟩
  | 73 => ⟨S256x6x6x64, .f32⟩
  | 74 => ⟨S256x4x4x64, .f32⟩
  | 75 => ⟨S256x4x4x1x1x64, .f32⟩
  | 76 => ⟨S256x4x4x64, .f32⟩
  | 77 => ⟨S_, .i32⟩
  | 78 => ⟨S_, .f32⟩
  | 79 => ⟨S256x6x6x64, .f32⟩
  | 80 => ⟨S256x4x4x64, .f32⟩
  | 81 => ⟨S256x4x4x64, .f32⟩
  | 82 => ⟨S256x4x4x1x1x64, .f32⟩
  | 83 => ⟨S256x4x4x64, .f32⟩
  | 84 => ⟨S_, .i32⟩
  | 85 => ⟨S_, .f32⟩
  | 86 => ⟨S256x6x6x64, .f32⟩
  | 87 => ⟨S256x4x4x64, .f32⟩
  | 88 => ⟨S256x4x4x64, .f32⟩
  | 89 => ⟨S256x4x4x1x1x64, .f32⟩
  | 90 => ⟨S256x4x4x64, .f32⟩
  | 91 => ⟨S_, .i32⟩
  | 92 => ⟨S_, .f32⟩
  | 93 => ⟨S256x6x6x64, .f32⟩
  | 94 => ⟨S256x4x4x64, .f32⟩
  | 95 => ⟨S256x4x4x64, .f32⟩
  | 96 => ⟨S1x1x1x64, .f32⟩
  | 97 => ⟨S256x4x4x64, .f32⟩
  | 98 => ⟨S256x4x4x64, .f32⟩
  | 99 => ⟨S_, .f32⟩
  | 100 => ⟨S256x4x4x64, .f32⟩
  | 101 => ⟨S256x4x4x64, .f32⟩
  | 102 => ⟨S256x4x4x1x1x64, .f32⟩
  | 103 => ⟨S256x4x4x64, .f32⟩
  | 104 => ⟨S_, .i32⟩
  | 105 => ⟨S_, .f32⟩
  | 106 => ⟨S256x6x6x64, .f32⟩
  | 107 => ⟨S256x4x4x64, .f32⟩
  | 108 => ⟨S256x4x4x1x1x64, .f32⟩
  | 109 => ⟨S256x4x4x64, .f32⟩
  | 110 => ⟨S_, .i32⟩
  | 111 => ⟨S_, .f32⟩
  | 112 => ⟨S256x6x6x64, .f32⟩
  | 113 => ⟨S256x4x4x64, .f32⟩
  | 114 => ⟨S256x4x4x64, .f32⟩
  | 115 => ⟨S256x4x4x1x1x64, .f32⟩
  | 116 => ⟨S256x4x4x64, .f32⟩
  | 117 => ⟨S_, .i32⟩
  | 118 => ⟨S_, .f32⟩
  | 119 => ⟨S256x6x6x64, .f32⟩
  | 120 => ⟨S256x4x4x64, .f32⟩
  | 121 => ⟨S256x4x4x64, .f32⟩
  | 122 => ⟨S256x4x4x1x1x64, .f32⟩
  | 123 => ⟨S256x4x4x64, .f32⟩
  | 124 => ⟨S_, .i32⟩
  | 125 => ⟨S_, .f32⟩
  | 126 => ⟨S256x6x6x64, .f32⟩
  | 127 => ⟨S256x4x4x64, .f32⟩
  | _ => ⟨S256x3x64x64, .f32⟩

abbrev hbmTy0_3 (i : Nat) : BufTy := match i % 128 with
  | 0 => ⟨S256x4x4x64, .f32⟩
  | 1 => ⟨S1x1x1x64, .f32⟩
  | 2 => ⟨S256x4x4x64, .f32⟩
  | 3 => ⟨S256x4x4x64, .f32⟩
  | 4 => ⟨S_, .f32⟩
  | 5 => ⟨S256x4x4x64, .f32⟩
  | 6 => ⟨S256x4x4x64, .f32⟩
  | 7 => ⟨S256x4x4x1x1x64, .f32⟩
  | 8 => ⟨S256x4x4x64, .f32⟩
  | 9 => ⟨S_, .i32⟩
  | 10 => ⟨S_, .f32⟩
  | 11 => ⟨S256x6x6x64, .f32⟩
  | 12 => ⟨S256x4x4x64, .f32⟩
  | 13 => ⟨S256x4x4x1x1x64, .f32⟩
  | 14 => ⟨S256x4x4x64, .f32⟩
  | 15 => ⟨S_, .i32⟩
  | 16 => ⟨S_, .f32⟩
  | 17 => ⟨S256x6x6x64, .f32⟩
  | 18 => ⟨S256x4x4x64, .f32⟩
  | 19 => ⟨S256x4x4x64, .f32⟩
  | 20 => ⟨S256x4x4x1x1x64, .f32⟩
  | 21 => ⟨S256x4x4x64, .f32⟩
  | 22 => ⟨S_, .i32⟩
  | 23 => ⟨S_, .f32⟩
  | 24 => ⟨S256x6x6x64, .f32⟩
  | 25 => ⟨S256x4x4x64, .f32⟩
  | 26 => ⟨S256x4x4x64, .f32⟩
  | 27 => ⟨S256x4x4x1x1x64, .f32⟩
  | 28 => ⟨S256x4x4x64, .f32⟩
  | 29 => ⟨S_, .i32⟩
  | 30 => ⟨S_, .f32⟩
  | 31 => ⟨S256x6x6x64, .f32⟩
  | 32 => ⟨S256x4x4x64, .f32⟩
  | 33 => ⟨S256x4x4x64, .f32⟩
  | 34 => ⟨S1x1x1x64, .f32⟩
  | 35 => ⟨S256x4x4x64, .f32⟩
  | 36 => ⟨S256x4x4x64, .f32⟩
  | 37 => ⟨S_, .f32⟩
  | 38 => ⟨S256x4x4x64, .f32⟩
  | 39 => ⟨S256x4x4x64, .f32⟩
  | 40 => ⟨S1x256x4x4x64, .f32⟩
  | 41 => ⟨S1x256x4x4x64, .f32⟩
  | 42 => ⟨S1x256x4x4x64, .f32⟩
  | 43 => ⟨S1x256x4x4x64, .f32⟩
  | 44 => ⟨S4x256x4x4x64, .f32⟩
  | 45 => ⟨S4x4096x64, .f32⟩
  | 46 => ⟨S2x2x256x4x4x64, .f32⟩
  | 47 => ⟨S256x64x4x2x4x2, .f32⟩
  | 48 => ⟨S256x64x8x8, .f32⟩
  | 49 => ⟨S256x8x8x64, .f32⟩
  | 50 => ⟨S256x8x8x64, .bf16⟩
  | 51 => ⟨S64x32x4x4, .bf16⟩
  | 52 => ⟨S_, .i32⟩
  | 53 => ⟨S4, .i32⟩
  | 54 => ⟨S4, .i1⟩
  | 55 => ⟨S_, .i32⟩
  | 56 => ⟨S4, .i32⟩
  | 57 => ⟨S4, .i32⟩
  | 58 => ⟨S4, .i32⟩
  | 59 => ⟨S4x1, .i32⟩
  | 60 => ⟨S64x32x4x4, .bf16⟩
  | 61 => ⟨S_, .i32⟩
  | 62 => ⟨S4, .i32⟩
  | 63 => ⟨S4, .i1⟩
  | 64 => ⟨S_, .i32⟩
  | 65 => ⟨S4, .i32⟩
  | 66 => ⟨S4, .i32⟩
  | 67 => ⟨S4, .i32⟩
  | 68 => ⟨S4x1, .i32⟩
  | 69 => ⟨S64x32x4x4, .bf16⟩
  | 70 => ⟨S64x4x4x32, .bf16⟩
  | 71 => ⟨S64x512, .bf16⟩
  | 72 => ⟨S16384x64, .bf16⟩
  | 73 => ⟨S_, .f32⟩
  | 74 => ⟨S512, .f32⟩
  | 75 => ⟨S1x16384x64, .bf16⟩
  | 76 => ⟨S1x64x512, .bf16⟩
  | 77 => ⟨S1x512, .f32⟩
  | 78 => ⟨S1x1x512, .f32⟩
  | 79 => ⟨S1x16384x512, .f32⟩
  | 80 => ⟨S16384x512, .f32⟩
  | 81 => ⟨S256x8x8x4x4x32, .f32⟩
  | 82 => ⟨S256x8x8x1x1x32, .f32⟩
  | 83 => ⟨S256x8x8x32, .f32⟩
  | 84 => ⟨S_, .i32⟩
  | 85 => ⟨S_, .f32⟩
  | 86 => ⟨S256x10x10x32, .f32⟩
  | 87 => ⟨S256x8x8x32, .f32⟩
  | 88 => ⟨S256x8x8x1x1x32, .f32⟩
  | 89 => ⟨S256x8x8x32, .f32⟩
  | 90 => ⟨S_, .i32⟩
  | 91 => ⟨S_, .f32⟩
  | 92 => ⟨S256x10x10x32, .f32⟩
  | 93 => ⟨S256x8x8x32, .f32⟩
  | 94 => ⟨S256x8x8x32, .f32⟩
  | 95 => ⟨S256x8x8x1x1x32, .f32⟩
  | 96 => ⟨S256x8x8x32, .f32⟩
  | 97 => ⟨S_, .i32⟩
  | 98 => ⟨S_, .f32⟩
  | 99 => ⟨S256x10x10x32, .f32⟩
  | 100 => ⟨S256x8x8x32, .f32⟩
  | 101 => ⟨S256x8x8x32, .f32⟩
  | 102 => ⟨S256x8x8x1x1x32, .f32⟩
  | 103 => ⟨S256x8x8x32, .f32⟩
  | 104 => ⟨S_, .i32⟩
  | 105 => ⟨S_, .f32⟩
  | 106 => ⟨S256x10x10x32, .f32⟩
  | 107 => ⟨S256x8x8x32, .f32⟩
  | 108 => ⟨S256x8x8x32, .f32⟩
  | 109 => ⟨S1x1x1x32, .f32⟩
  | 110 => ⟨S256x8x8x32, .f32⟩
  | 111 => ⟨S256x8x8x32, .f32⟩
  | 112 => ⟨S_, .f32⟩
  | 113 => ⟨S256x8x8x32, .f32⟩
  | 114 => ⟨S256x8x8x32, .f32⟩
  | 115 => ⟨S256x8x8x1x1x32, .f32⟩
  | 116 => ⟨S256x8x8x32, .f32⟩
  | 117 => ⟨S_, .i32⟩
  | 118 => ⟨S_, .f32⟩
  | 119 => ⟨S256x10x10x32, .f32⟩
  | 120 => ⟨S256x8x8x32, .f32⟩
  | 121 => ⟨S256x8x8x1x1x32, .f32⟩
  | 122 => ⟨S256x8x8x32, .f32⟩
  | 123 => ⟨S_, .i32⟩
  | 124 => ⟨S_, .f32⟩
  | 125 => ⟨S256x10x10x32, .f32⟩
  | 126 => ⟨S256x8x8x32, .f32⟩
  | 127 => ⟨S256x8x8x32, .f32⟩
  | _ => ⟨S256x3x64x64, .f32⟩

abbrev hbmTy0_4 (i : Nat) : BufTy := match i % 128 with
  | 0 => ⟨S256x8x8x1x1x32, .f32⟩
  | 1 => ⟨S256x8x8x32, .f32⟩
  | 2 => ⟨S_, .i32⟩
  | 3 => ⟨S_, .f32⟩
  | 4 => ⟨S256x10x10x32, .f32⟩
  | 5 => ⟨S256x8x8x32, .f32⟩
  | 6 => ⟨S256x8x8x32, .f32⟩
  | 7 => ⟨S256x8x8x1x1x32, .f32⟩
  | 8 => ⟨S256x8x8x32, .f32⟩
  | 9 => ⟨S_, .i32⟩
  | 10 => ⟨S_, .f32⟩
  | 11 => ⟨S256x10x10x32, .f32⟩
  | 12 => ⟨S256x8x8x32, .f32⟩
  | 13 => ⟨S256x8x8x32, .f32⟩
  | 14 => ⟨S1x1x1x32, .f32⟩
  | 15 => ⟨S256x8x8x32, .f32⟩
  | 16 => ⟨S256x8x8x32, .f32⟩
  | 17 => ⟨S_, .f32⟩
  | 18 => ⟨S256x8x8x32, .f32⟩
  | 19 => ⟨S256x8x8x32, .f32⟩
  | 20 => ⟨S256x8x8x1x1x32, .f32⟩
  | 21 => ⟨S256x8x8x32, .f32⟩
  | 22 => ⟨S_, .i32⟩
  | 23 => ⟨S_, .f32⟩
  | 24 => ⟨S256x10x10x32, .f32⟩
  | 25 => ⟨S256x8x8x32, .f32⟩
  | 26 => ⟨S256x8x8x1x1x32, .f32⟩
  | 27 => ⟨S256x8x8x32, .f32⟩
  | 28 => ⟨S_, .i32⟩
  | 29 => ⟨S_, .f32⟩
  | 30 => ⟨S256x10x10x32, .f32⟩
  | 31 => ⟨S256x8x8x32, .f32⟩
  | 32 => ⟨S256x8x8x32, .f32⟩
  | 33 => ⟨S256x8x8x1x1x32, .f32⟩
  | 34 => ⟨S256x8x8x32, .f32⟩
  | 35 => ⟨S_, .i32⟩
  | 36 => ⟨S_, .f32⟩
  | 37 => ⟨S256x10x10x32, .f32⟩
  | 38 => ⟨S256x8x8x32, .f32⟩
  | 39 => ⟨S256x8x8x32, .f32⟩
  | 40 => ⟨S256x8x8x1x1x32, .f32⟩
  | 41 => ⟨S256x8x8x32, .f32⟩
  | 42 => ⟨S_, .i32⟩
  | 43 => ⟨S_, .f32⟩
  | 44 => ⟨S256x10x10x32, .f32⟩
  | 45 => ⟨S256x8x8x32, .f32⟩
  | 46 => ⟨S256x8x8x32, .f32⟩
  | 47 => ⟨S1x1x1x32, .f32⟩
  | 48 => ⟨S256x8x8x32, .f32⟩
  | 49 => ⟨S256x8x8x32, .f32⟩
  | 50 => ⟨S_, .f32⟩
  | 51 => ⟨S256x8x8x32, .f32⟩
  | 52 => ⟨S256x8x8x32, .f32⟩
  | 53 => ⟨S256x8x8x1x1x32, .f32⟩
  | 54 => ⟨S256x8x8x32, .f32⟩
  | 55 => ⟨S_, .i32⟩
  | 56 => ⟨S_, .f32⟩
  | 57 => ⟨S256x10x10x32, .f32⟩
  | 58 => ⟨S256x8x8x32, .f32⟩
  | 59 => ⟨S256x8x8x1x1x32, .f32⟩
  | 60 => ⟨S256x8x8x32, .f32⟩
  | 61 => ⟨S_, .i32⟩
  | 62 => ⟨S_, .f32⟩
  | 63 => ⟨S256x10x10x32, .f32⟩
  | 64 => ⟨S256x8x8x32, .f32⟩
  | 65 => ⟨S256x8x8x32, .f32⟩
  | 66 => ⟨S256x8x8x1x1x32, .f32⟩
  | 67 => ⟨S256x8x8x32, .f32⟩
  | 68 => ⟨S_, .i32⟩
  | 69 => ⟨S_, .f32⟩
  | 70 => ⟨S256x10x10x32, .f32⟩
  | 71 => ⟨S256x8x8x32, .f32⟩
  | 72 => ⟨S256x8x8x32, .f32⟩
  | 73 => ⟨S256x8x8x1x1x32, .f32⟩
  | 74 => ⟨S256x8x8x32, .f32⟩
  | 75 => ⟨S_, .i32⟩
  | 76 => ⟨S_, .f32⟩
  | 77 => ⟨S256x10x10x32, .f32⟩
  | 78 => ⟨S256x8x8x32, .f32⟩
  | 79 => ⟨S256x8x8x32, .f32⟩
  | 80 => ⟨S1x1x1x32, .f32⟩
  | 81 => ⟨S256x8x8x32, .f32⟩
  | 82 => ⟨S256x8x8x32, .f32⟩
  | 83 => ⟨S_, .f32⟩
  | 84 => ⟨S256x8x8x32, .f32⟩
  | 85 => ⟨S256x8x8x32, .f32⟩
  | 86 => ⟨S1x256x8x8x32, .f32⟩
  | 87 => ⟨S1x256x8x8x32, .f32⟩
  | 88 => ⟨S1x256x8x8x32, .f32⟩
  | 89 => ⟨S1x256x8x8x32, .f32⟩
  | 90 => ⟨S4x256x8x8x32, .f32⟩
  | 91 => ⟨S4x16384x32, .f32⟩
  | 92 => ⟨S2x2x256x8x8x32, .f32⟩
  | 93 => ⟨S256x32x8x2x8x2, .f32⟩
  | 94 => ⟨S256x32x16x16, .f32⟩
  | 95 => ⟨S256x16x16x32, .f32⟩
  | 96 => ⟨S256x16x16x32, .bf16⟩
  | 97 => ⟨S32x32x4x4, .bf16⟩
  | 98 => ⟨S_, .i32⟩
  | 99 => ⟨S4, .i32⟩
  | 100 => ⟨S4, .i1⟩
  | 101 => ⟨S_, .i32⟩
  | 102 => ⟨S4, .i32⟩
  | 103 => ⟨S4, .i32⟩
  | 104 => ⟨S4, .i32⟩
  | 105 => ⟨S4x1, .i32⟩
  | 106 => ⟨S32x32x4x4, .bf16⟩
  | 107 => ⟨S_, .i32⟩
  | 108 => ⟨S4, .i32⟩
  | 109 => ⟨S4, .i1⟩
  | 110 => ⟨S_, .i32⟩
  | 111 => ⟨S4, .i32⟩
  | 112 => ⟨S4, .i32⟩
  | 113 => ⟨S4, .i32⟩
  | 114 => ⟨S4x1, .i32⟩
  | 115 => ⟨S32x32x4x4, .bf16⟩
  | 116 => ⟨S32x4x4x32, .bf16⟩
  | 117 => ⟨S32x512, .bf16⟩
  | 118 => ⟨S65536x32, .bf16⟩
  | 119 => ⟨S_, .f32⟩
  | 120 => ⟨S512, .f32⟩
  | 121 => ⟨S1x65536x32, .bf16⟩
  | 122 => ⟨S1x32x512, .bf16⟩
  | 123 => ⟨S1x512, .f32⟩
  | 124 => ⟨S1x1x512, .f32⟩
  | 125 => ⟨S1x65536x512, .f32⟩
  | 126 => ⟨S65536x512, .f32⟩
  | 127 => ⟨S256x16x16x4x4x32, .f32⟩
  | _ => ⟨S256x3x64x64, .f32⟩

abbrev hbmTy0_5 (i : Nat) : BufTy := match i % 128 with
  | 0 => ⟨S256x16x16x1x1x32, .f32⟩
  | 1 => ⟨S256x16x16x32, .f32⟩
  | 2 => ⟨S_, .i32⟩
  | 3 => ⟨S_, .f32⟩
  | 4 => ⟨S256x18x18x32, .f32⟩
  | 5 => ⟨S256x16x16x32, .f32⟩
  | 6 => ⟨S256x16x16x1x1x32, .f32⟩
  | 7 => ⟨S256x16x16x32, .f32⟩
  | 8 => ⟨S_, .i32⟩
  | 9 => ⟨S_, .f32⟩
  | 10 => ⟨S256x18x18x32, .f32⟩
  | 11 => ⟨S256x16x16x32, .f32⟩
  | 12 => ⟨S256x16x16x32, .f32⟩
  | 13 => ⟨S256x16x16x1x1x32, .f32⟩
  | 14 => ⟨S256x16x16x32, .f32⟩
  | 15 => ⟨S_, .i32⟩
  | 16 => ⟨S_, .f32⟩
  | 17 => ⟨S256x18x18x32, .f32⟩
  | 18 => ⟨S256x16x16x32, .f32⟩
  | 19 => ⟨S256x16x16x32, .f32⟩
  | 20 => ⟨S256x16x16x1x1x32, .f32⟩
  | 21 => ⟨S256x16x16x32, .f32⟩
  | 22 => ⟨S_, .i32⟩
  | 23 => ⟨S_, .f32⟩
  | 24 => ⟨S256x18x18x32, .f32⟩
  | 25 => ⟨S256x16x16x32, .f32⟩
  | 26 => ⟨S256x16x16x32, .f32⟩
  | 27 => ⟨S1x1x1x32, .f32⟩
  | 28 => ⟨S256x16x16x32, .f32⟩
  | 29 => ⟨S256x16x16x32, .f32⟩
  | 30 => ⟨S_, .f32⟩
  | 31 => ⟨S256x16x16x32, .f32⟩
  | 32 => ⟨S256x16x16x32, .f32⟩
  | 33 => ⟨S256x16x16x1x1x32, .f32⟩
  | 34 => ⟨S256x16x16x32, .f32⟩
  | 35 => ⟨S_, .i32⟩
  | 36 => ⟨S_, .f32⟩
  | 37 => ⟨S256x18x18x32, .f32⟩
  | 38 => ⟨S256x16x16x32, .f32⟩
  | 39 => ⟨S256x16x16x1x1x32, .f32⟩
  | 40 => ⟨S256x16x16x32, .f32⟩
  | 41 => ⟨S_, .i32⟩
  | 42 => ⟨S_, .f32⟩
  | 43 => ⟨S256x18x18x32, .f32⟩
  | 44 => ⟨S256x16x16x32, .f32⟩
  | 45 => ⟨S256x16x16x32, .f32⟩
  | 46 => ⟨S256x16x16x1x1x32, .f32⟩
  | 47 => ⟨S256x16x16x32, .f32⟩
  | 48 => ⟨S_, .i32⟩
  | 49 => ⟨S_, .f32⟩
  | 50 => ⟨S256x18x18x32, .f32⟩
  | 51 => ⟨S256x16x16x32, .f32⟩
  | 52 => ⟨S256x16x16x32, .f32⟩
  | 53 => ⟨S256x16x16x1x1x32, .f32⟩
  | 54 => ⟨S256x16x16x32, .f32⟩
  | 55 => ⟨S_, .i32⟩
  | 56 => ⟨S_, .f32⟩
  | 57 => ⟨S256x18x18x32, .f32⟩
  | 58 => ⟨S256x16x16x32, .f32⟩
  | 59 => ⟨S256x16x16x32, .f32⟩
  | 60 => ⟨S1x1x1x32, .f32⟩
  | 61 => ⟨S256x16x16x32, .f32⟩
  | 62 => ⟨S256x16x16x32, .f32⟩
  | 63 => ⟨S_, .f32⟩
  | 64 => ⟨S256x16x16x32, .f32⟩
  | 65 => ⟨S256x16x16x32, .f32⟩
  | 66 => ⟨S256x16x16x1x1x32, .f32⟩
  | 67 => ⟨S256x16x16x32, .f32⟩
  | 68 => ⟨S_, .i32⟩
  | 69 => ⟨S_, .f32⟩
  | 70 => ⟨S256x18x18x32, .f32⟩
  | 71 => ⟨S256x16x16x32, .f32⟩
  | 72 => ⟨S256x16x16x1x1x32, .f32⟩
  | 73 => ⟨S256x16x16x32, .f32⟩
  | 74 => ⟨S_, .i32⟩
  | 75 => ⟨S_, .f32⟩
  | 76 => ⟨S256x18x18x32, .f32⟩
  | 77 => ⟨S256x16x16x32, .f32⟩
  | 78 => ⟨S256x16x16x32, .f32⟩
  | 79 => ⟨S256x16x16x1x1x32, .f32⟩
  | 80 => ⟨S256x16x16x32, .f32⟩
  | 81 => ⟨S_, .i32⟩
  | 82 => ⟨S_, .f32⟩
  | 83 => ⟨S256x18x18x32, .f32⟩
  | 84 => ⟨S256x16x16x32, .f32⟩
  | 85 => ⟨S256x16x16x32, .f32⟩
  | 86 => ⟨S256x16x16x1x1x32, .f32⟩
  | 87 => ⟨S256x16x16x32, .f32⟩
  | 88 => ⟨S_, .i32⟩
  | 89 => ⟨S_, .f32⟩
  | 90 => ⟨S256x18x18x32, .f32⟩
  | 91 => ⟨S256x16x16x32, .f32⟩
  | 92 => ⟨S256x16x16x32, .f32⟩
  | 93 => ⟨S1x1x1x32, .f32⟩
  | 94 => ⟨S256x16x16x32, .f32⟩
  | 95 => ⟨S256x16x16x32, .f32⟩
  | 96 => ⟨S_, .f32⟩
  | 97 => ⟨S256x16x16x32, .f32⟩
  | 98 => ⟨S256x16x16x32, .f32⟩
  | 99 => ⟨S256x16x16x1x1x32, .f32⟩
  | 100 => ⟨S256x16x16x32, .f32⟩
  | 101 => ⟨S_, .i32⟩
  | 102 => ⟨S_, .f32⟩
  | 103 => ⟨S256x18x18x32, .f32⟩
  | 104 => ⟨S256x16x16x32, .f32⟩
  | 105 => ⟨S256x16x16x1x1x32, .f32⟩
  | 106 => ⟨S256x16x16x32, .f32⟩
  | 107 => ⟨S_, .i32⟩
  | 108 => ⟨S_, .f32⟩
  | 109 => ⟨S256x18x18x32, .f32⟩
  | 110 => ⟨S256x16x16x32, .f32⟩
  | 111 => ⟨S256x16x16x32, .f32⟩
  | 112 => ⟨S256x16x16x1x1x32, .f32⟩
  | 113 => ⟨S256x16x16x32, .f32⟩
  | 114 => ⟨S_, .i32⟩
  | 115 => ⟨S_, .f32⟩
  | 116 => ⟨S256x18x18x32, .f32⟩
  | 117 => ⟨S256x16x16x32, .f32⟩
  | 118 => ⟨S256x16x16x32, .f32⟩
  | 119 => ⟨S256x16x16x1x1x32, .f32⟩
  | 120 => ⟨S256x16x16x32, .f32⟩
  | 121 => ⟨S_, .i32⟩
  | 122 => ⟨S_, .f32⟩
  | 123 => ⟨S256x18x18x32, .f32⟩
  | 124 => ⟨S256x16x16x32, .f32⟩
  | 125 => ⟨S256x16x16x32, .f32⟩
  | 126 => ⟨S1x1x1x32, .f32⟩
  | 127 => ⟨S256x16x16x32, .f32⟩
  | _ => ⟨S256x3x64x64, .f32⟩

abbrev hbmTy0_6 (i : Nat) : BufTy := match i % 128 with
  | 0 => ⟨S256x16x16x32, .f32⟩
  | 1 => ⟨S_, .f32⟩
  | 2 => ⟨S256x16x16x32, .f32⟩
  | 3 => ⟨S256x16x16x32, .f32⟩
  | 4 => ⟨S1x256x16x16x32, .f32⟩
  | 5 => ⟨S1x256x16x16x32, .f32⟩
  | 6 => ⟨S1x256x16x16x32, .f32⟩
  | 7 => ⟨S1x256x16x16x32, .f32⟩
  | 8 => ⟨S4x256x16x16x32, .f32⟩
  | 9 => ⟨S4x65536x32, .f32⟩
  | 10 => ⟨S2x2x256x16x16x32, .f32⟩
  | 11 => ⟨S256x32x16x2x16x2, .f32⟩
  | 12 => ⟨S256x32x32x32, .f32⟩
  | 13 => ⟨S256x32x32x32, .f32⟩
  | 14 => ⟨S256x32x32x32, .bf16⟩
  | 15 => ⟨S32x3x4x4, .bf16⟩
  | 16 => ⟨S_, .i32⟩
  | 17 => ⟨S4, .i32⟩
  | 18 => ⟨S4, .i1⟩
  | 19 => ⟨S_, .i32⟩
  | 20 => ⟨S4, .i32⟩
  | 21 => ⟨S4, .i32⟩
  | 22 => ⟨S4, .i32⟩
  | 23 => ⟨S4x1, .i32⟩
  | 24 => ⟨S32x3x4x4, .bf16⟩
  | 25 => ⟨S_, .i32⟩
  | 26 => ⟨S4, .i32⟩
  | 27 => ⟨S4, .i1⟩
  | 28 => ⟨S_, .i32⟩
  | 29 => ⟨S4, .i32⟩
  | 30 => ⟨S4, .i32⟩
  | 31 => ⟨S4, .i32⟩
  | 32 => ⟨S4x1, .i32⟩
  | 33 => ⟨S32x3x4x4, .bf16⟩
  | 34 => ⟨S32x4x4x3, .bf16⟩
  | 35 => ⟨S32x48, .bf16⟩
  | 36 => ⟨S262144x32, .bf16⟩
  | 37 => ⟨S_, .f32⟩
  | 38 => ⟨S48, .f32⟩
  | 39 => ⟨S1x262144x32, .bf16⟩
  | 40 => ⟨S1x32x48, .bf16⟩
  | 41 => ⟨S1x48, .f32⟩
  | 42 => ⟨S1x1x48, .f32⟩
  | 43 => ⟨S1x262144x48, .f32⟩
  | 44 => ⟨S262144x48, .f32⟩
  | 45 => ⟨S256x32x32x4x4x3, .f32⟩
  | 46 => ⟨S256x32x32x1x1x3, .f32⟩
  | 47 => ⟨S256x32x32x3, .f32⟩
  | 48 => ⟨S_, .i32⟩
  | 49 => ⟨S_, .f32⟩
  | 50 => ⟨S256x34x34x3, .f32⟩
  | 51 => ⟨S256x32x32x3, .f32⟩
  | 52 => ⟨S256x32x32x1x1x3, .f32⟩
  | 53 => ⟨S256x32x32x3, .f32⟩
  | 54 => ⟨S_, .i32⟩
  | 55 => ⟨S_, .f32⟩
  | 56 => ⟨S256x34x34x3, .f32⟩
  | 57 => ⟨S256x32x32x3, .f32⟩
  | 58 => ⟨S256x32x32x3, .f32⟩
  | 59 => ⟨S256x32x32x1x1x3, .f32⟩
  | 60 => ⟨S256x32x32x3, .f32⟩
  | 61 => ⟨S_, .i32⟩
  | 62 => ⟨S_, .f32⟩
  | 63 => ⟨S256x34x34x3, .f32⟩
  | 64 => ⟨S256x32x32x3, .f32⟩
  | 65 => ⟨S256x32x32x3, .f32⟩
  | 66 => ⟨S256x32x32x1x1x3, .f32⟩
  | 67 => ⟨S256x32x32x3, .f32⟩
  | 68 => ⟨S_, .i32⟩
  | 69 => ⟨S_, .f32⟩
  | 70 => ⟨S256x34x34x3, .f32⟩
  | 71 => ⟨S256x32x32x3, .f32⟩
  | 72 => ⟨S256x32x32x3, .f32⟩
  | 73 => ⟨S1x1x1x3, .f32⟩
  | 74 => ⟨S256x32x32x3, .f32⟩
  | 75 => ⟨S256x32x32x3, .f32⟩
  | 76 => ⟨S256x32x32x1x1x3, .f32⟩
  | 77 => ⟨S256x32x32x3, .f32⟩
  | 78 => ⟨S_, .i32⟩
  | 79 => ⟨S_, .f32⟩
  | 80 => ⟨S256x34x34x3, .f32⟩
  | 81 => ⟨S256x32x32x3, .f32⟩
  | 82 => ⟨S256x32x32x1x1x3, .f32⟩
  | 83 => ⟨S256x32x32x3, .f32⟩
  | 84 => ⟨S_, .i32⟩
  | 85 => ⟨S_, .f32⟩
  | 86 => ⟨S256x34x34x3, .f32⟩
  | 87 => ⟨S256x32x32x3, .f32⟩
  | 88 => ⟨S256x32x32x3, .f32⟩
  | 89 => ⟨S256x32x32x1x1x3, .f32⟩
  | 90 => ⟨S256x32x32x3, .f32⟩
  | 91 => ⟨S_, .i32⟩
  | 92 => ⟨S_, .f32⟩
  | 93 => ⟨S256x34x34x3, .f32⟩
  | 94 => ⟨S256x32x32x3, .f32⟩
  | 95 => ⟨S256x32x32x3, .f32⟩
  | 96 => ⟨S256x32x32x1x1x3, .f32⟩
  | 97 => ⟨S256x32x32x3, .f32⟩
  | 98 => ⟨S_, .i32⟩
  | 99 => ⟨S_, .f32⟩
  | 100 => ⟨S256x34x34x3, .f32⟩
  | 101 => ⟨S256x32x32x3, .f32⟩
  | 102 => ⟨S256x32x32x3, .f32⟩
  | 103 => ⟨S1x1x1x3, .f32⟩
  | 104 => ⟨S256x32x32x3, .f32⟩
  | 105 => ⟨S256x32x32x3, .f32⟩
  | 106 => ⟨S256x32x32x1x1x3, .f32⟩
  | 107 => ⟨S256x32x32x3, .f32⟩
  | 108 => ⟨S_, .i32⟩
  | 109 => ⟨S_, .f32⟩
  | 110 => ⟨S256x34x34x3, .f32⟩
  | 111 => ⟨S256x32x32x3, .f32⟩
  | 112 => ⟨S256x32x32x1x1x3, .f32⟩
  | 113 => ⟨S256x32x32x3, .f32⟩
  | 114 => ⟨S_, .i32⟩
  | 115 => ⟨S_, .f32⟩
  | 116 => ⟨S256x34x34x3, .f32⟩
  | 117 => ⟨S256x32x32x3, .f32⟩
  | 118 => ⟨S256x32x32x3, .f32⟩
  | 119 => ⟨S256x32x32x1x1x3, .f32⟩
  | 120 => ⟨S256x32x32x3, .f32⟩
  | 121 => ⟨S_, .i32⟩
  | 122 => ⟨S_, .f32⟩
  | 123 => ⟨S256x34x34x3, .f32⟩
  | 124 => ⟨S256x32x32x3, .f32⟩
  | 125 => ⟨S256x32x32x3, .f32⟩
  | 126 => ⟨S256x32x32x1x1x3, .f32⟩
  | 127 => ⟨S256x32x32x3, .f32⟩
  | _ => ⟨S256x3x64x64, .f32⟩

abbrev hbmTy0_7 (i : Nat) : BufTy := match i % 128 with
  | 0 => ⟨S_, .i32⟩
  | 1 => ⟨S_, .f32⟩
  | 2 => ⟨S256x34x34x3, .f32⟩
  | 3 => ⟨S256x32x32x3, .f32⟩
  | 4 => ⟨S256x32x32x3, .f32⟩
  | 5 => ⟨S1x1x1x3, .f32⟩
  | 6 => ⟨S256x32x32x3, .f32⟩
  | 7 => ⟨S256x32x32x3, .f32⟩
  | 8 => ⟨S256x32x32x1x1x3, .f32⟩
  | 9 => ⟨S256x32x32x3, .f32⟩
  | 10 => ⟨S_, .i32⟩
  | 11 => ⟨S_, .f32⟩
  | 12 => ⟨S256x34x34x3, .f32⟩
  | 13 => ⟨S256x32x32x3, .f32⟩
  | 14 => ⟨S256x32x32x1x1x3, .f32⟩
  | 15 => ⟨S256x32x32x3, .f32⟩
  | 16 => ⟨S_, .i32⟩
  | 17 => ⟨S_, .f32⟩
  | 18 => ⟨S256x34x34x3, .f32⟩
  | 19 => ⟨S256x32x32x3, .f32⟩
  | 20 => ⟨S256x32x32x3, .f32⟩
  | 21 => ⟨S256x32x32x1x1x3, .f32⟩
  | 22 => ⟨S256x32x32x3, .f32⟩
  | 23 => ⟨S_, .i32⟩
  | 24 => ⟨S_, .f32⟩
  | 25 => ⟨S256x34x34x3, .f32⟩
  | 26 => ⟨S256x32x32x3, .f32⟩
  | 27 => ⟨S256x32x32x3, .f32⟩
  | 28 => ⟨S256x32x32x1x1x3, .f32⟩
  | 29 => ⟨S256x32x32x3, .f32⟩
  | 30 => ⟨S_, .i32⟩
  | 31 => ⟨S_, .f32⟩
  | 32 => ⟨S256x34x34x3, .f32⟩
  | 33 => ⟨S256x32x32x3, .f32⟩
  | 34 => ⟨S256x32x32x3, .f32⟩
  | 35 => ⟨S1x1x1x3, .f32⟩
  | 36 => ⟨S256x32x32x3, .f32⟩
  | 37 => ⟨S256x32x32x3, .f32⟩
  | 38 => ⟨S1x256x32x32x3, .f32⟩
  | 39 => ⟨S1x256x32x32x3, .f32⟩
  | 40 => ⟨S1x256x32x32x3, .f32⟩
  | 41 => ⟨S1x256x32x32x3, .f32⟩
  | 42 => ⟨S4x256x32x32x3, .f32⟩
  | 43 => ⟨S4x262144x3, .f32⟩
  | 44 => ⟨S2x2x256x32x32x3, .f32⟩
  | 45 => ⟨S256x3x32x2x32x2, .f32⟩
  | 46 => ⟨S256x3x64x64, .f32⟩
  | 47 => ⟨S256x64x64x3, .f32⟩
  | 48 => ⟨S256x64x64x3, .bf16⟩
  | _ => ⟨S256x3x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S256x3x64x64, .f32⟩

abbrev bufTy : (tb : Table) → Fin (tcTables nBuf tb) → BufTy
  | .hbm, ⟨i, _⟩ => hbmTy i
  | .local _ .vmem, ⟨0, _⟩ => ⟨S1x4096x48, .bf16⟩
  | .local _ .vmem, ⟨1, _⟩ => ⟨S1x4096x48, .bf16⟩
  | .local _ .vmem, ⟨2, _⟩ => ⟨S1x48x32, .bf16⟩
  | .local _ .vmem, ⟨3, _⟩ => ⟨S1x1x32, .f32⟩
  | .local _ .vmem, ⟨4, _⟩ => ⟨S1x4096x32, .bf16⟩
  | .local _ .vmem, ⟨5, _⟩ => ⟨S1x4096x32, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x32, .bf16⟩
  | .local _ .vmem, ⟨9, _⟩ => ⟨S1x1x32, .f32⟩
  | .local _ .vmem, ⟨10, _⟩ => ⟨S1x2048x32, .bf16⟩
  | .local _ .vmem, ⟨11, _⟩ => ⟨S1x2048x32, .bf16⟩
  | .local _ .vmem, ⟨12, _⟩ => ⟨S1x4096x512, .bf16⟩
  | .local _ .vmem, ⟨13, _⟩ => ⟨S1x4096x512, .bf16⟩
  | .local _ .vmem, ⟨14, _⟩ => ⟨S1x512x64, .bf16⟩
  | .local _ .vmem, ⟨15, _⟩ => ⟨S1x1x64, .f32⟩
  | .local _ .vmem, ⟨16, _⟩ => ⟨S1x4096x64, .bf16⟩
  | .local _ .vmem, ⟨17, _⟩ => ⟨S1x4096x64, .bf16⟩
  | .local _ .vmem, ⟨18, _⟩ => ⟨S1x4096x1024, .bf16⟩
  | .local _ .vmem, ⟨19, _⟩ => ⟨S1x1024x64, .bf16⟩
  | .local _ .vmem, ⟨20, _⟩ => ⟨S1x1x64, .f32⟩
  | .local _ .vmem, ⟨21, _⟩ => ⟨S1x4096x64, .bf16⟩
  | .local _ .vmem, ⟨22, _⟩ => ⟨S1x256x1024, .bf16⟩
  | .local _ .vmem, ⟨23, _⟩ => ⟨S1x1024x128, .bf16⟩
  | .local _ .vmem, ⟨24, _⟩ => ⟨S1x1x128, .f32⟩
  | .local _ .vmem, ⟨25, _⟩ => ⟨S1x256x128, .bf16⟩
  | .local _ .vmem, ⟨26, _⟩ => ⟨S256x128, .bf16⟩
  | .local _ .vmem, ⟨27, _⟩ => ⟨S128x64, .f32⟩
  | .local _ .vmem, ⟨28, _⟩ => ⟨S64, .f32⟩
  | .local _ .vmem, ⟨29, _⟩ => ⟨S256x64, .f32⟩
  | .local _ .vmem, ⟨30, _⟩ => ⟨S256x64, .f32⟩
  | .local _ .vmem, ⟨31, _⟩ => ⟨S1024x64, .f32⟩
  | .local _ .vmem, ⟨32, _⟩ => ⟨S256x64, .f32⟩
  | .local _ .vmem, ⟨33, _⟩ => ⟨S1024x64, .f32⟩
  | .local _ .vmem, ⟨34, _⟩ => ⟨S1024x256, .f32⟩
  | .local _ .vmem, ⟨35, _⟩ => ⟨S1024x256, .f32⟩
  | .local _ .vmem, ⟨36, _⟩ => ⟨S1x256x64, .bf16⟩
  | .local _ .vmem, ⟨37, _⟩ => ⟨S1x64x128, .bf16⟩
  | .local _ .vmem, ⟨38, _⟩ => ⟨S1x1x128, .f32⟩
  | .local _ .vmem, ⟨39, _⟩ => ⟨S1x256x128, .bf16⟩
  | .local _ .vmem, ⟨40, _⟩ => ⟨S1x256x128, .bf16⟩
  | .local _ .vmem, ⟨41, _⟩ => ⟨S1x128x1024, .bf16⟩
  | .local _ .vmem, ⟨42, _⟩ => ⟨S1x1x1024, .f32⟩
  | .local _ .vmem, ⟨43, _⟩ => ⟨S1x256x1024, .bf16⟩
  | .local _ .vmem, ⟨44, _⟩ => ⟨S1x4096x64, .bf16⟩
  | .local _ .vmem, ⟨45, _⟩ => ⟨S1x64x1024, .bf16⟩
  | .local _ .vmem, ⟨46, _⟩ => ⟨S1x1x1024, .f32⟩
  | .local _ .vmem, ⟨47, _⟩ => ⟨S1x4096x1024, .f32⟩
  | .local _ .vmem, ⟨48, _⟩ => ⟨S1x4096x64, .bf16⟩
  | .local _ .vmem, ⟨49, _⟩ => ⟨S1x4096x64, .bf16⟩
  | .local _ .vmem, ⟨50, _⟩ => ⟨S1x64x512, .bf16⟩
  | .local _ .vmem, ⟨51, _⟩ => ⟨S1x1x512, .f32⟩
  | .local _ .vmem, ⟨52, _⟩ => ⟨S1x4096x512, .f32⟩
  | .local _ .vmem, ⟨53, _⟩ => ⟨S1x4096x512, .f32⟩
  | .local _ .vmem, ⟨54, _⟩ => ⟨S1x4096x32, .bf16⟩
  | .local _ .vmem, ⟨55, _⟩ => ⟨S1x4096x32, .bf16⟩
  | .local _ .vmem, ⟨56, _⟩ => ⟨S1x32x512, .bf16⟩
  | .local _ .vmem, ⟨57, _⟩ => ⟨S1x1x512, .f32⟩
  | .local _ .vmem, ⟨58, _⟩ => ⟨S1x4096x512, .f32⟩
  | .local _ .vmem, ⟨59, _⟩ => ⟨S1x4096x512, .f32⟩
  | .local _ .vmem, ⟨60, _⟩ => ⟨S1x4096x32, .bf16⟩
  | .local _ .vmem, ⟨61, _⟩ => ⟨S1x4096x32, .bf16⟩
  | .local _ .vmem, ⟨62, _⟩ => ⟨S1x32x48, .bf16⟩
  | .local _ .vmem, ⟨63, _⟩ => ⟨S1x1x48, .f32⟩
  | .local _ .vmem, ⟨64, _⟩ => ⟨S1x4096x48, .f32⟩
  | .local _ .vmem, ⟨65, _⟩ => ⟨S1x4096x48, .f32⟩
  | _, _ => ⟨S256x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_c_0 : Ref sig .tc := ⟨.hbm, 27, rfl⟩
abbrev main_c_1 : Ref sig .tc := ⟨.hbm, 28, rfl⟩
abbrev main_c_2 : Ref sig .tc := ⟨.hbm, 29, rfl⟩
abbrev main_c_3 : Ref sig .tc := ⟨.hbm, 30, rfl⟩
abbrev main_c_4 : Ref sig .tc := ⟨.hbm, 31, rfl⟩
abbrev main_c_5 : Ref sig .tc := ⟨.hbm, 32, rfl⟩
abbrev main_c_6 : Ref sig .tc := ⟨.hbm, 33, rfl⟩
abbrev main_v0 : Ref sig .tc := ⟨.hbm, 34, rfl⟩
abbrev main_v1 : Ref sig .tc := ⟨.hbm, 35, rfl⟩
abbrev main_c_7 : Ref sig .tc := ⟨.hbm, 36, rfl⟩
abbrev main_call0_v0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_8 : Ref sig .tc := ⟨.hbm, 83, rfl⟩
abbrev main_call1_v0 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_9 : Ref sig .tc := ⟨.hbm, 130, rfl⟩
abbrev main_call2_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_c_10 : Ref sig .tc := ⟨.hbm, 177, rfl⟩
abbrev main_call3_v0 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195_0 : Ref sig .tc := ⟨.hbm, 237, rfl⟩
abbrev main_v195_1 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_c_11 : Ref sig .tc := ⟨.hbm, 262, rfl⟩
abbrev main_v219 : Ref sig .tc := ⟨.hbm, 263, rfl⟩
abbrev main_v220 : Ref sig .tc := ⟨.hbm, 264, rfl⟩
abbrev main_c_12 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_c_13 : Ref sig .tc := ⟨.hbm, 271, rfl⟩
abbrev main_v226 : Ref sig .tc := ⟨.hbm, 272, rfl⟩
abbrev main_v227 : Ref sig .tc := ⟨.hbm, 273, rfl⟩
abbrev main_c_14 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_cst : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_v244 : Ref sig .tc := ⟨.hbm, 292, rfl⟩
abbrev main_v245 : Ref sig .tc := ⟨.hbm, 293, rfl⟩
abbrev main_c_15 : Ref sig .tc := ⟨.hbm, 294, rfl⟩
abbrev main_call4_v0 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_c_16 : Ref sig .tc := ⟨.hbm, 300, rfl⟩
abbrev main_call5_v0 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_c_17 : Ref sig .tc := ⟨.hbm, 307, rfl⟩
abbrev main_call6_v0 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_c_18 : Ref sig .tc := ⟨.hbm, 314, rfl⟩
abbrev main_call7_v0 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_cst_19 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_c_20 : Ref sig .tc := ⟨.hbm, 327, rfl⟩
abbrev main_call8_v0 : Ref sig .tc := ⟨.hbm, 328, rfl⟩
abbrev main_v270 : Ref sig .tc := ⟨.hbm, 329, rfl⟩
abbrev main_v271 : Ref sig .tc := ⟨.hbm, 330, rfl⟩
abbrev main_v272 : Ref sig .tc := ⟨.hbm, 331, rfl⟩
abbrev main_v273 : Ref sig .tc := ⟨.hbm, 332, rfl⟩
abbrev main_c_21 : Ref sig .tc := ⟨.hbm, 333, rfl⟩
abbrev main_call9_v0 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_c_22 : Ref sig .tc := ⟨.hbm, 340, rfl⟩
abbrev main_call10_v0 : Ref sig .tc := ⟨.hbm, 341, rfl⟩
abbrev main_v279 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_c_23 : Ref sig .tc := ⟨.hbm, 347, rfl⟩
abbrev main_call11_v0 : Ref sig .tc := ⟨.hbm, 348, rfl⟩
abbrev main_v284 : Ref sig .tc := ⟨.hbm, 349, rfl⟩
abbrev main_v285 : Ref sig .tc := ⟨.hbm, 350, rfl⟩
abbrev main_v286 : Ref sig .tc := ⟨.hbm, 351, rfl⟩
abbrev main_v287 : Ref sig .tc := ⟨.hbm, 352, rfl⟩
abbrev main_v288 : Ref sig .tc := ⟨.hbm, 353, rfl⟩
abbrev main_v289 : Ref sig .tc := ⟨.hbm, 354, rfl⟩
abbrev main_cst_24 : Ref sig .tc := ⟨.hbm, 355, rfl⟩
abbrev main_v290 : Ref sig .tc := ⟨.hbm, 356, rfl⟩
abbrev main_v291 : Ref sig .tc := ⟨.hbm, 357, rfl⟩
abbrev main_v292 : Ref sig .tc := ⟨.hbm, 358, rfl⟩
abbrev main_v293 : Ref sig .tc := ⟨.hbm, 359, rfl⟩
abbrev main_c_25 : Ref sig .tc := ⟨.hbm, 360, rfl⟩
abbrev main_call12_v0 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_c_26 : Ref sig .tc := ⟨.hbm, 366, rfl⟩
abbrev main_call13_v0 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_c_27 : Ref sig .tc := ⟨.hbm, 373, rfl⟩
abbrev main_call14_v0 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_c_28 : Ref sig .tc := ⟨.hbm, 380, rfl⟩
abbrev main_call15_v0 : Ref sig .tc := ⟨.hbm, 381, rfl⟩
abbrev main_v308 : Ref sig .tc := ⟨.hbm, 382, rfl⟩
abbrev main_v309 : Ref sig .tc := ⟨.hbm, 383, rfl⟩
abbrev main_v310 : Ref sig .tc := ⟨.hbm, 384, rfl⟩
abbrev main_v311 : Ref sig .tc := ⟨.hbm, 385, rfl⟩
abbrev main_v312 : Ref sig .tc := ⟨.hbm, 386, rfl⟩
abbrev main_v313 : Ref sig .tc := ⟨.hbm, 387, rfl⟩
abbrev main_cst_29 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_c_30 : Ref sig .tc := ⟨.hbm, 393, rfl⟩
abbrev main_call16_v0 : Ref sig .tc := ⟨.hbm, 394, rfl⟩
abbrev main_v318 : Ref sig .tc := ⟨.hbm, 395, rfl⟩
abbrev main_v319 : Ref sig .tc := ⟨.hbm, 396, rfl⟩
abbrev main_v320 : Ref sig .tc := ⟨.hbm, 397, rfl⟩
abbrev main_v321 : Ref sig .tc := ⟨.hbm, 398, rfl⟩
abbrev main_c_31 : Ref sig .tc := ⟨.hbm, 399, rfl⟩
abbrev main_call17_v0 : Ref sig .tc := ⟨.hbm, 400, rfl⟩
abbrev main_v322 : Ref sig .tc := ⟨.hbm, 401, rfl⟩
abbrev main_v323 : Ref sig .tc := ⟨.hbm, 402, rfl⟩
abbrev main_v324 : Ref sig .tc := ⟨.hbm, 403, rfl⟩
abbrev main_v325 : Ref sig .tc := ⟨.hbm, 404, rfl⟩
abbrev main_v326 : Ref sig .tc := ⟨.hbm, 405, rfl⟩
abbrev main_c_32 : Ref sig .tc := ⟨.hbm, 406, rfl⟩
abbrev main_call18_v0 : Ref sig .tc := ⟨.hbm, 407, rfl⟩
abbrev main_v327 : Ref sig .tc := ⟨.hbm, 408, rfl⟩
abbrev main_v328 : Ref sig .tc := ⟨.hbm, 409, rfl⟩
abbrev main_v329 : Ref sig .tc := ⟨.hbm, 410, rfl⟩
abbrev main_v330 : Ref sig .tc := ⟨.hbm, 411, rfl⟩
abbrev main_v331 : Ref sig .tc := ⟨.hbm, 412, rfl⟩
abbrev main_c_33 : Ref sig .tc := ⟨.hbm, 413, rfl⟩
abbrev main_call19_v0 : Ref sig .tc := ⟨.hbm, 414, rfl⟩
abbrev main_v332 : Ref sig .tc := ⟨.hbm, 415, rfl⟩
abbrev main_v333 : Ref sig .tc := ⟨.hbm, 416, rfl⟩
abbrev main_v334 : Ref sig .tc := ⟨.hbm, 417, rfl⟩
abbrev main_v335 : Ref sig .tc := ⟨.hbm, 418, rfl⟩
abbrev main_v336 : Ref sig .tc := ⟨.hbm, 419, rfl⟩
abbrev main_v337 : Ref sig .tc := ⟨.hbm, 420, rfl⟩
abbrev main_cst_34 : Ref sig .tc := ⟨.hbm, 421, rfl⟩
abbrev main_v338 : Ref sig .tc := ⟨.hbm, 422, rfl⟩
abbrev main_v339 : Ref sig .tc := ⟨.hbm, 423, rfl⟩
abbrev main_v340 : Ref sig .tc := ⟨.hbm, 424, rfl⟩
abbrev main_v341 : Ref sig .tc := ⟨.hbm, 425, rfl⟩
abbrev main_v342 : Ref sig .tc := ⟨.hbm, 426, rfl⟩
abbrev main_v343 : Ref sig .tc := ⟨.hbm, 427, rfl⟩
abbrev main_v344 : Ref sig .tc := ⟨.hbm, 428, rfl⟩
abbrev main_v345 : Ref sig .tc := ⟨.hbm, 429, rfl⟩
abbrev main_v346 : Ref sig .tc := ⟨.hbm, 430, rfl⟩
abbrev main_v347 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_c_35 : Ref sig .tc := ⟨.hbm, 436, rfl⟩
abbrev main_v352 : Ref sig .tc := ⟨.hbm, 437, rfl⟩
abbrev main_v353 : Ref sig .tc := ⟨.hbm, 438, rfl⟩
abbrev main_c_36 : Ref sig .tc := ⟨.hbm, 439, rfl⟩
abbrev main_v354 : Ref sig .tc := ⟨.hbm, 440, rfl⟩
abbrev main_v355 : Ref sig .tc := ⟨.hbm, 441, rfl⟩
abbrev main_v356 : Ref sig .tc := ⟨.hbm, 442, rfl⟩
abbrev main_v357 : Ref sig .tc := ⟨.hbm, 443, rfl⟩
abbrev main_v358 : Ref sig .tc := ⟨.hbm, 444, rfl⟩
abbrev main_c_37 : Ref sig .tc := ⟨.hbm, 445, rfl⟩
abbrev main_v359 : Ref sig .tc := ⟨.hbm, 446, rfl⟩
abbrev main_v360 : Ref sig .tc := ⟨.hbm, 447, rfl⟩
abbrev main_c_38 : Ref sig .tc := ⟨.hbm, 448, rfl⟩
abbrev main_v361 : Ref sig .tc := ⟨.hbm, 449, rfl⟩
abbrev main_v362 : Ref sig .tc := ⟨.hbm, 450, rfl⟩
abbrev main_v363 : Ref sig .tc := ⟨.hbm, 451, rfl⟩
abbrev main_v364 : Ref sig .tc := ⟨.hbm, 452, rfl⟩
abbrev main_v365 : Ref sig .tc := ⟨.hbm, 453, rfl⟩
abbrev main_v366 : Ref sig .tc := ⟨.hbm, 454, rfl⟩
abbrev main_v367 : Ref sig .tc := ⟨.hbm, 455, rfl⟩
abbrev main_v368 : Ref sig .tc := ⟨.hbm, 456, rfl⟩
abbrev main_cst_39 : Ref sig .tc := ⟨.hbm, 457, rfl⟩
abbrev main_v369 : Ref sig .tc := ⟨.hbm, 458, rfl⟩
abbrev main_v370 : Ref sig .tc := ⟨.hbm, 459, rfl⟩
abbrev main_v371 : Ref sig .tc := ⟨.hbm, 460, rfl⟩
abbrev main_v372 : Ref sig .tc := ⟨.hbm, 461, rfl⟩
abbrev main_v373 : Ref sig .tc := ⟨.hbm, 462, rfl⟩
abbrev main_v374 : Ref sig .tc := ⟨.hbm, 463, rfl⟩
abbrev main_v375 : Ref sig .tc := ⟨.hbm, 464, rfl⟩
abbrev main_v376 : Ref sig .tc := ⟨.hbm, 465, rfl⟩
abbrev main_v377 : Ref sig .tc := ⟨.hbm, 466, rfl⟩
abbrev main_v378 : Ref sig .tc := ⟨.hbm, 467, rfl⟩
abbrev main_c_40 : Ref sig .tc := ⟨.hbm, 468, rfl⟩
abbrev main_call20_v0 : Ref sig .tc := ⟨.hbm, 469, rfl⟩
abbrev main_v379 : Ref sig .tc := ⟨.hbm, 470, rfl⟩
abbrev main_v380 : Ref sig .tc := ⟨.hbm, 471, rfl⟩
abbrev main_v381 : Ref sig .tc := ⟨.hbm, 472, rfl⟩
abbrev main_v382 : Ref sig .tc := ⟨.hbm, 473, rfl⟩
abbrev main_c_41 : Ref sig .tc := ⟨.hbm, 474, rfl⟩
abbrev main_call21_v0 : Ref sig .tc := ⟨.hbm, 475, rfl⟩
abbrev main_v383 : Ref sig .tc := ⟨.hbm, 476, rfl⟩
abbrev main_v384 : Ref sig .tc := ⟨.hbm, 477, rfl⟩
abbrev main_v385 : Ref sig .tc := ⟨.hbm, 478, rfl⟩
abbrev main_v386 : Ref sig .tc := ⟨.hbm, 479, rfl⟩
abbrev main_v387 : Ref sig .tc := ⟨.hbm, 480, rfl⟩
abbrev main_c_42 : Ref sig .tc := ⟨.hbm, 481, rfl⟩
abbrev main_call22_v0 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_c_43 : Ref sig .tc := ⟨.hbm, 488, rfl⟩
abbrev main_call23_v0 : Ref sig .tc := ⟨.hbm, 489, rfl⟩
abbrev main_v393 : Ref sig .tc := ⟨.hbm, 490, rfl⟩
abbrev main_v394 : Ref sig .tc := ⟨.hbm, 491, rfl⟩
abbrev main_v395 : Ref sig .tc := ⟨.hbm, 492, rfl⟩
abbrev main_v396 : Ref sig .tc := ⟨.hbm, 493, rfl⟩
abbrev main_v397 : Ref sig .tc := ⟨.hbm, 494, rfl⟩
abbrev main_v398 : Ref sig .tc := ⟨.hbm, 495, rfl⟩
abbrev main_cst_44 : Ref sig .tc := ⟨.hbm, 496, rfl⟩
abbrev main_v399 : Ref sig .tc := ⟨.hbm, 497, rfl⟩
abbrev main_v400 : Ref sig .tc := ⟨.hbm, 498, rfl⟩
abbrev main_v401 : Ref sig .tc := ⟨.hbm, 499, rfl⟩
abbrev main_v402 : Ref sig .tc := ⟨.hbm, 500, rfl⟩
abbrev main_c_45 : Ref sig .tc := ⟨.hbm, 501, rfl⟩
abbrev main_call24_v0 : Ref sig .tc := ⟨.hbm, 502, rfl⟩
abbrev main_v403 : Ref sig .tc := ⟨.hbm, 503, rfl⟩
abbrev main_v404 : Ref sig .tc := ⟨.hbm, 504, rfl⟩
abbrev main_v405 : Ref sig .tc := ⟨.hbm, 505, rfl⟩
abbrev main_v406 : Ref sig .tc := ⟨.hbm, 506, rfl⟩
abbrev main_c_46 : Ref sig .tc := ⟨.hbm, 507, rfl⟩
abbrev main_call25_v0 : Ref sig .tc := ⟨.hbm, 508, rfl⟩
abbrev main_v407 : Ref sig .tc := ⟨.hbm, 509, rfl⟩
abbrev main_v408 : Ref sig .tc := ⟨.hbm, 510, rfl⟩
abbrev main_v409 : Ref sig .tc := ⟨.hbm, 511, rfl⟩
abbrev main_v410 : Ref sig .tc := ⟨.hbm, 512, rfl⟩
abbrev main_v411 : Ref sig .tc := ⟨.hbm, 513, rfl⟩
abbrev main_c_47 : Ref sig .tc := ⟨.hbm, 514, rfl⟩
abbrev main_call26_v0 : Ref sig .tc := ⟨.hbm, 515, rfl⟩
abbrev main_v412 : Ref sig .tc := ⟨.hbm, 516, rfl⟩
abbrev main_v413 : Ref sig .tc := ⟨.hbm, 517, rfl⟩
abbrev main_v414 : Ref sig .tc := ⟨.hbm, 518, rfl⟩
abbrev main_v415 : Ref sig .tc := ⟨.hbm, 519, rfl⟩
abbrev main_v416 : Ref sig .tc := ⟨.hbm, 520, rfl⟩
abbrev main_c_48 : Ref sig .tc := ⟨.hbm, 521, rfl⟩
abbrev main_call27_v0 : Ref sig .tc := ⟨.hbm, 522, rfl⟩
abbrev main_v417 : Ref sig .tc := ⟨.hbm, 523, rfl⟩
abbrev main_v418 : Ref sig .tc := ⟨.hbm, 524, rfl⟩
abbrev main_v419 : Ref sig .tc := ⟨.hbm, 525, rfl⟩
abbrev main_v420 : Ref sig .tc := ⟨.hbm, 526, rfl⟩
abbrev main_v421 : Ref sig .tc := ⟨.hbm, 527, rfl⟩
abbrev main_v422 : Ref sig .tc := ⟨.hbm, 528, rfl⟩
abbrev main_cst_49 : Ref sig .tc := ⟨.hbm, 529, rfl⟩
abbrev main_v423 : Ref sig .tc := ⟨.hbm, 530, rfl⟩
abbrev main_v424 : Ref sig .tc := ⟨.hbm, 531, rfl⟩
abbrev main_v425 : Ref sig .tc := ⟨.hbm, 532, rfl⟩
abbrev main_v426 : Ref sig .tc := ⟨.hbm, 533, rfl⟩
abbrev main_c_50 : Ref sig .tc := ⟨.hbm, 534, rfl⟩
abbrev main_call28_v0 : Ref sig .tc := ⟨.hbm, 535, rfl⟩
abbrev main_v427 : Ref sig .tc := ⟨.hbm, 536, rfl⟩
abbrev main_v428 : Ref sig .tc := ⟨.hbm, 537, rfl⟩
abbrev main_v429 : Ref sig .tc := ⟨.hbm, 538, rfl⟩
abbrev main_v430 : Ref sig .tc := ⟨.hbm, 539, rfl⟩
abbrev main_c_51 : Ref sig .tc := ⟨.hbm, 540, rfl⟩
abbrev main_call29_v0 : Ref sig .tc := ⟨.hbm, 541, rfl⟩
abbrev main_v431 : Ref sig .tc := ⟨.hbm, 542, rfl⟩
abbrev main_v432 : Ref sig .tc := ⟨.hbm, 543, rfl⟩
abbrev main_v433 : Ref sig .tc := ⟨.hbm, 544, rfl⟩
abbrev main_v434 : Ref sig .tc := ⟨.hbm, 545, rfl⟩
abbrev main_v435 : Ref sig .tc := ⟨.hbm, 546, rfl⟩
abbrev main_c_52 : Ref sig .tc := ⟨.hbm, 547, rfl⟩
abbrev main_call30_v0 : Ref sig .tc := ⟨.hbm, 548, rfl⟩
abbrev main_v436 : Ref sig .tc := ⟨.hbm, 549, rfl⟩
abbrev main_v437 : Ref sig .tc := ⟨.hbm, 550, rfl⟩
abbrev main_v438 : Ref sig .tc := ⟨.hbm, 551, rfl⟩
abbrev main_v439 : Ref sig .tc := ⟨.hbm, 552, rfl⟩
abbrev main_v440 : Ref sig .tc := ⟨.hbm, 553, rfl⟩
abbrev main_c_53 : Ref sig .tc := ⟨.hbm, 554, rfl⟩
abbrev main_call31_v0 : Ref sig .tc := ⟨.hbm, 555, rfl⟩
abbrev main_v441 : Ref sig .tc := ⟨.hbm, 556, rfl⟩
abbrev main_v442 : Ref sig .tc := ⟨.hbm, 557, rfl⟩
abbrev main_v443 : Ref sig .tc := ⟨.hbm, 558, rfl⟩
abbrev main_v444 : Ref sig .tc := ⟨.hbm, 559, rfl⟩
abbrev main_v445 : Ref sig .tc := ⟨.hbm, 560, rfl⟩
abbrev main_v446 : Ref sig .tc := ⟨.hbm, 561, rfl⟩
abbrev main_cst_54 : Ref sig .tc := ⟨.hbm, 562, rfl⟩
abbrev main_v447 : Ref sig .tc := ⟨.hbm, 563, rfl⟩
abbrev main_v448 : Ref sig .tc := ⟨.hbm, 564, rfl⟩
abbrev main_v449 : Ref sig .tc := ⟨.hbm, 565, rfl⟩
abbrev main_v450 : Ref sig .tc := ⟨.hbm, 566, rfl⟩
abbrev main_c_55 : Ref sig .tc := ⟨.hbm, 567, rfl⟩
abbrev main_call32_v0 : Ref sig .tc := ⟨.hbm, 568, rfl⟩
abbrev main_v451 : Ref sig .tc := ⟨.hbm, 569, rfl⟩
abbrev main_v452 : Ref sig .tc := ⟨.hbm, 570, rfl⟩
abbrev main_v453 : Ref sig .tc := ⟨.hbm, 571, rfl⟩
abbrev main_v454 : Ref sig .tc := ⟨.hbm, 572, rfl⟩
abbrev main_c_56 : Ref sig .tc := ⟨.hbm, 573, rfl⟩
abbrev main_call33_v0 : Ref sig .tc := ⟨.hbm, 574, rfl⟩
abbrev main_v455 : Ref sig .tc := ⟨.hbm, 575, rfl⟩
abbrev main_v456 : Ref sig .tc := ⟨.hbm, 576, rfl⟩
abbrev main_v457 : Ref sig .tc := ⟨.hbm, 577, rfl⟩
abbrev main_v458 : Ref sig .tc := ⟨.hbm, 578, rfl⟩
abbrev main_v459 : Ref sig .tc := ⟨.hbm, 579, rfl⟩
abbrev main_c_57 : Ref sig .tc := ⟨.hbm, 580, rfl⟩
abbrev main_call34_v0 : Ref sig .tc := ⟨.hbm, 581, rfl⟩
abbrev main_v460 : Ref sig .tc := ⟨.hbm, 582, rfl⟩
abbrev main_v461 : Ref sig .tc := ⟨.hbm, 583, rfl⟩
abbrev main_v462 : Ref sig .tc := ⟨.hbm, 584, rfl⟩
abbrev main_v463 : Ref sig .tc := ⟨.hbm, 585, rfl⟩
abbrev main_v464 : Ref sig .tc := ⟨.hbm, 586, rfl⟩
abbrev main_c_58 : Ref sig .tc := ⟨.hbm, 587, rfl⟩
abbrev main_call35_v0 : Ref sig .tc := ⟨.hbm, 588, rfl⟩
abbrev main_v465 : Ref sig .tc := ⟨.hbm, 589, rfl⟩
abbrev main_v466 : Ref sig .tc := ⟨.hbm, 590, rfl⟩
abbrev main_v467 : Ref sig .tc := ⟨.hbm, 591, rfl⟩
abbrev main_v468 : Ref sig .tc := ⟨.hbm, 592, rfl⟩
abbrev main_v469 : Ref sig .tc := ⟨.hbm, 593, rfl⟩
abbrev main_v470 : Ref sig .tc := ⟨.hbm, 594, rfl⟩
abbrev main_cst_59 : Ref sig .tc := ⟨.hbm, 595, rfl⟩
abbrev main_v471 : Ref sig .tc := ⟨.hbm, 596, rfl⟩
abbrev main_v472 : Ref sig .tc := ⟨.hbm, 597, rfl⟩
abbrev main_v473 : Ref sig .tc := ⟨.hbm, 598, rfl⟩
abbrev main_v474 : Ref sig .tc := ⟨.hbm, 599, rfl⟩
abbrev main_v475 : Ref sig .tc := ⟨.hbm, 600, rfl⟩
abbrev main_v476 : Ref sig .tc := ⟨.hbm, 601, rfl⟩
abbrev main_v477 : Ref sig .tc := ⟨.hbm, 602, rfl⟩
abbrev main_v478 : Ref sig .tc := ⟨.hbm, 603, rfl⟩
abbrev main_v479 : Ref sig .tc := ⟨.hbm, 604, rfl⟩
abbrev main_v480 : Ref sig .tc := ⟨.hbm, 605, rfl⟩
abbrev main_v481 : Ref sig .tc := ⟨.hbm, 606, rfl⟩
abbrev main_v482 : Ref sig .tc := ⟨.hbm, 607, rfl⟩
abbrev main_v483 : Ref sig .tc := ⟨.hbm, 608, rfl⟩
abbrev main_v484 : Ref sig .tc := ⟨.hbm, 609, rfl⟩
abbrev main_c_60 : Ref sig .tc := ⟨.hbm, 610, rfl⟩
abbrev main_v485 : Ref sig .tc := ⟨.hbm, 611, rfl⟩
abbrev main_v486 : Ref sig .tc := ⟨.hbm, 612, rfl⟩
abbrev main_c_61 : Ref sig .tc := ⟨.hbm, 613, rfl⟩
abbrev main_v487 : Ref sig .tc := ⟨.hbm, 614, rfl⟩
abbrev main_v488 : Ref sig .tc := ⟨.hbm, 615, rfl⟩
abbrev main_v489 : Ref sig .tc := ⟨.hbm, 616, rfl⟩
abbrev main_v490 : Ref sig .tc := ⟨.hbm, 617, rfl⟩
abbrev main_v491 : Ref sig .tc := ⟨.hbm, 618, rfl⟩
abbrev main_c_62 : Ref sig .tc := ⟨.hbm, 619, rfl⟩
abbrev main_v492 : Ref sig .tc := ⟨.hbm, 620, rfl⟩
abbrev main_v493 : Ref sig .tc := ⟨.hbm, 621, rfl⟩
abbrev main_c_63 : Ref sig .tc := ⟨.hbm, 622, rfl⟩
abbrev main_v494 : Ref sig .tc := ⟨.hbm, 623, rfl⟩
abbrev main_v495 : Ref sig .tc := ⟨.hbm, 624, rfl⟩
abbrev main_v496 : Ref sig .tc := ⟨.hbm, 625, rfl⟩
abbrev main_v497 : Ref sig .tc := ⟨.hbm, 626, rfl⟩
abbrev main_v498 : Ref sig .tc := ⟨.hbm, 627, rfl⟩
abbrev main_v499 : Ref sig .tc := ⟨.hbm, 628, rfl⟩
abbrev main_v500 : Ref sig .tc := ⟨.hbm, 629, rfl⟩
abbrev main_v501 : Ref sig .tc := ⟨.hbm, 630, rfl⟩
abbrev main_cst_64 : Ref sig .tc := ⟨.hbm, 631, rfl⟩
abbrev main_v502 : Ref sig .tc := ⟨.hbm, 632, rfl⟩
abbrev main_v503 : Ref sig .tc := ⟨.hbm, 633, rfl⟩
abbrev main_v504 : Ref sig .tc := ⟨.hbm, 634, rfl⟩
abbrev main_v505 : Ref sig .tc := ⟨.hbm, 635, rfl⟩
abbrev main_v506 : Ref sig .tc := ⟨.hbm, 636, rfl⟩
abbrev main_v507 : Ref sig .tc := ⟨.hbm, 637, rfl⟩
abbrev main_v508 : Ref sig .tc := ⟨.hbm, 638, rfl⟩
abbrev main_v509 : Ref sig .tc := ⟨.hbm, 639, rfl⟩
abbrev main_v510 : Ref sig .tc := ⟨.hbm, 640, rfl⟩
abbrev main_v511 : Ref sig .tc := ⟨.hbm, 641, rfl⟩
abbrev main_c_65 : Ref sig .tc := ⟨.hbm, 642, rfl⟩
abbrev main_call36_v0 : Ref sig .tc := ⟨.hbm, 643, rfl⟩
abbrev main_v512 : Ref sig .tc := ⟨.hbm, 644, rfl⟩
abbrev main_v513 : Ref sig .tc := ⟨.hbm, 645, rfl⟩
abbrev main_v514 : Ref sig .tc := ⟨.hbm, 646, rfl⟩
abbrev main_v515 : Ref sig .tc := ⟨.hbm, 647, rfl⟩
abbrev main_c_66 : Ref sig .tc := ⟨.hbm, 648, rfl⟩
abbrev main_call37_v0 : Ref sig .tc := ⟨.hbm, 649, rfl⟩
abbrev main_v516 : Ref sig .tc := ⟨.hbm, 650, rfl⟩
abbrev main_v517 : Ref sig .tc := ⟨.hbm, 651, rfl⟩
abbrev main_v518 : Ref sig .tc := ⟨.hbm, 652, rfl⟩
abbrev main_v519 : Ref sig .tc := ⟨.hbm, 653, rfl⟩
abbrev main_v520 : Ref sig .tc := ⟨.hbm, 654, rfl⟩
abbrev main_c_67 : Ref sig .tc := ⟨.hbm, 655, rfl⟩
abbrev main_call38_v0 : Ref sig .tc := ⟨.hbm, 656, rfl⟩
abbrev main_v521 : Ref sig .tc := ⟨.hbm, 657, rfl⟩
abbrev main_v522 : Ref sig .tc := ⟨.hbm, 658, rfl⟩
abbrev main_v523 : Ref sig .tc := ⟨.hbm, 659, rfl⟩
abbrev main_v524 : Ref sig .tc := ⟨.hbm, 660, rfl⟩
abbrev main_v525 : Ref sig .tc := ⟨.hbm, 661, rfl⟩
abbrev main_c_68 : Ref sig .tc := ⟨.hbm, 662, rfl⟩
abbrev main_call39_v0 : Ref sig .tc := ⟨.hbm, 663, rfl⟩
abbrev main_v526 : Ref sig .tc := ⟨.hbm, 664, rfl⟩
abbrev main_v527 : Ref sig .tc := ⟨.hbm, 665, rfl⟩
abbrev main_v528 : Ref sig .tc := ⟨.hbm, 666, rfl⟩
abbrev main_v529 : Ref sig .tc := ⟨.hbm, 667, rfl⟩
abbrev main_v530 : Ref sig .tc := ⟨.hbm, 668, rfl⟩
abbrev main_v531 : Ref sig .tc := ⟨.hbm, 669, rfl⟩
abbrev main_cst_69 : Ref sig .tc := ⟨.hbm, 670, rfl⟩
abbrev main_v532 : Ref sig .tc := ⟨.hbm, 671, rfl⟩
abbrev main_v533 : Ref sig .tc := ⟨.hbm, 672, rfl⟩
abbrev main_v534 : Ref sig .tc := ⟨.hbm, 673, rfl⟩
abbrev main_v535 : Ref sig .tc := ⟨.hbm, 674, rfl⟩
abbrev main_c_70 : Ref sig .tc := ⟨.hbm, 675, rfl⟩
abbrev main_call40_v0 : Ref sig .tc := ⟨.hbm, 676, rfl⟩
abbrev main_v536 : Ref sig .tc := ⟨.hbm, 677, rfl⟩
abbrev main_v537 : Ref sig .tc := ⟨.hbm, 678, rfl⟩
abbrev main_v538 : Ref sig .tc := ⟨.hbm, 679, rfl⟩
abbrev main_v539 : Ref sig .tc := ⟨.hbm, 680, rfl⟩
abbrev main_c_71 : Ref sig .tc := ⟨.hbm, 681, rfl⟩
abbrev main_call41_v0 : Ref sig .tc := ⟨.hbm, 682, rfl⟩
abbrev main_v540 : Ref sig .tc := ⟨.hbm, 683, rfl⟩
abbrev main_v541 : Ref sig .tc := ⟨.hbm, 684, rfl⟩
abbrev main_v542 : Ref sig .tc := ⟨.hbm, 685, rfl⟩
abbrev main_v543 : Ref sig .tc := ⟨.hbm, 686, rfl⟩
abbrev main_v544 : Ref sig .tc := ⟨.hbm, 687, rfl⟩
abbrev main_c_72 : Ref sig .tc := ⟨.hbm, 688, rfl⟩
abbrev main_call42_v0 : Ref sig .tc := ⟨.hbm, 689, rfl⟩
abbrev main_v545 : Ref sig .tc := ⟨.hbm, 690, rfl⟩
abbrev main_v546 : Ref sig .tc := ⟨.hbm, 691, rfl⟩
abbrev main_v547 : Ref sig .tc := ⟨.hbm, 692, rfl⟩
abbrev main_v548 : Ref sig .tc := ⟨.hbm, 693, rfl⟩
abbrev main_v549 : Ref sig .tc := ⟨.hbm, 694, rfl⟩
abbrev main_c_73 : Ref sig .tc := ⟨.hbm, 695, rfl⟩
abbrev main_call43_v0 : Ref sig .tc := ⟨.hbm, 696, rfl⟩
abbrev main_v550 : Ref sig .tc := ⟨.hbm, 697, rfl⟩
abbrev main_v551 : Ref sig .tc := ⟨.hbm, 698, rfl⟩
abbrev main_v552 : Ref sig .tc := ⟨.hbm, 699, rfl⟩
abbrev main_v553 : Ref sig .tc := ⟨.hbm, 700, rfl⟩
abbrev main_v554 : Ref sig .tc := ⟨.hbm, 701, rfl⟩
abbrev main_v555 : Ref sig .tc := ⟨.hbm, 702, rfl⟩
abbrev main_cst_74 : Ref sig .tc := ⟨.hbm, 703, rfl⟩
abbrev main_v556 : Ref sig .tc := ⟨.hbm, 704, rfl⟩
abbrev main_v557 : Ref sig .tc := ⟨.hbm, 705, rfl⟩
abbrev main_v558 : Ref sig .tc := ⟨.hbm, 706, rfl⟩
abbrev main_v559 : Ref sig .tc := ⟨.hbm, 707, rfl⟩
abbrev main_c_75 : Ref sig .tc := ⟨.hbm, 708, rfl⟩
abbrev main_call44_v0 : Ref sig .tc := ⟨.hbm, 709, rfl⟩
abbrev main_v560 : Ref sig .tc := ⟨.hbm, 710, rfl⟩
abbrev main_v561 : Ref sig .tc := ⟨.hbm, 711, rfl⟩
abbrev main_v562 : Ref sig .tc := ⟨.hbm, 712, rfl⟩
abbrev main_v563 : Ref sig .tc := ⟨.hbm, 713, rfl⟩
abbrev main_c_76 : Ref sig .tc := ⟨.hbm, 714, rfl⟩
abbrev main_call45_v0 : Ref sig .tc := ⟨.hbm, 715, rfl⟩
abbrev main_v564 : Ref sig .tc := ⟨.hbm, 716, rfl⟩
abbrev main_v565 : Ref sig .tc := ⟨.hbm, 717, rfl⟩
abbrev main_v566 : Ref sig .tc := ⟨.hbm, 718, rfl⟩
abbrev main_v567 : Ref sig .tc := ⟨.hbm, 719, rfl⟩
abbrev main_v568 : Ref sig .tc := ⟨.hbm, 720, rfl⟩
abbrev main_c_77 : Ref sig .tc := ⟨.hbm, 721, rfl⟩
abbrev main_call46_v0 : Ref sig .tc := ⟨.hbm, 722, rfl⟩
abbrev main_v569 : Ref sig .tc := ⟨.hbm, 723, rfl⟩
abbrev main_v570 : Ref sig .tc := ⟨.hbm, 724, rfl⟩
abbrev main_v571 : Ref sig .tc := ⟨.hbm, 725, rfl⟩
abbrev main_v572 : Ref sig .tc := ⟨.hbm, 726, rfl⟩
abbrev main_v573 : Ref sig .tc := ⟨.hbm, 727, rfl⟩
abbrev main_c_78 : Ref sig .tc := ⟨.hbm, 728, rfl⟩
abbrev main_call47_v0 : Ref sig .tc := ⟨.hbm, 729, rfl⟩
abbrev main_v574 : Ref sig .tc := ⟨.hbm, 730, rfl⟩
abbrev main_v575 : Ref sig .tc := ⟨.hbm, 731, rfl⟩
abbrev main_v576 : Ref sig .tc := ⟨.hbm, 732, rfl⟩
abbrev main_v577 : Ref sig .tc := ⟨.hbm, 733, rfl⟩
abbrev main_v578 : Ref sig .tc := ⟨.hbm, 734, rfl⟩
abbrev main_v579 : Ref sig .tc := ⟨.hbm, 735, rfl⟩
abbrev main_cst_79 : Ref sig .tc := ⟨.hbm, 736, rfl⟩
abbrev main_v580 : Ref sig .tc := ⟨.hbm, 737, rfl⟩
abbrev main_v581 : Ref sig .tc := ⟨.hbm, 738, rfl⟩
abbrev main_v582 : Ref sig .tc := ⟨.hbm, 739, rfl⟩
abbrev main_v583 : Ref sig .tc := ⟨.hbm, 740, rfl⟩
abbrev main_c_80 : Ref sig .tc := ⟨.hbm, 741, rfl⟩
abbrev main_call48_v0 : Ref sig .tc := ⟨.hbm, 742, rfl⟩
abbrev main_v584 : Ref sig .tc := ⟨.hbm, 743, rfl⟩
abbrev main_v585 : Ref sig .tc := ⟨.hbm, 744, rfl⟩
abbrev main_v586 : Ref sig .tc := ⟨.hbm, 745, rfl⟩
abbrev main_v587 : Ref sig .tc := ⟨.hbm, 746, rfl⟩
abbrev main_c_81 : Ref sig .tc := ⟨.hbm, 747, rfl⟩
abbrev main_call49_v0 : Ref sig .tc := ⟨.hbm, 748, rfl⟩
abbrev main_v588 : Ref sig .tc := ⟨.hbm, 749, rfl⟩
abbrev main_v589 : Ref sig .tc := ⟨.hbm, 750, rfl⟩
abbrev main_v590 : Ref sig .tc := ⟨.hbm, 751, rfl⟩
abbrev main_v591 : Ref sig .tc := ⟨.hbm, 752, rfl⟩
abbrev main_v592 : Ref sig .tc := ⟨.hbm, 753, rfl⟩
abbrev main_c_82 : Ref sig .tc := ⟨.hbm, 754, rfl⟩
abbrev main_call50_v0 : Ref sig .tc := ⟨.hbm, 755, rfl⟩
abbrev main_v593 : Ref sig .tc := ⟨.hbm, 756, rfl⟩
abbrev main_v594 : Ref sig .tc := ⟨.hbm, 757, rfl⟩
abbrev main_v595 : Ref sig .tc := ⟨.hbm, 758, rfl⟩
abbrev main_v596 : Ref sig .tc := ⟨.hbm, 759, rfl⟩
abbrev main_v597 : Ref sig .tc := ⟨.hbm, 760, rfl⟩
abbrev main_c_83 : Ref sig .tc := ⟨.hbm, 761, rfl⟩
abbrev main_call51_v0 : Ref sig .tc := ⟨.hbm, 762, rfl⟩
abbrev main_v598 : Ref sig .tc := ⟨.hbm, 763, rfl⟩
abbrev main_v599 : Ref sig .tc := ⟨.hbm, 764, rfl⟩
abbrev main_v600 : Ref sig .tc := ⟨.hbm, 765, rfl⟩
abbrev main_v601 : Ref sig .tc := ⟨.hbm, 766, rfl⟩
abbrev main_v602 : Ref sig .tc := ⟨.hbm, 767, rfl⟩
abbrev main_v603 : Ref sig .tc := ⟨.hbm, 768, rfl⟩
abbrev main_cst_84 : Ref sig .tc := ⟨.hbm, 769, rfl⟩
abbrev main_v604 : Ref sig .tc := ⟨.hbm, 770, rfl⟩
abbrev main_v605 : Ref sig .tc := ⟨.hbm, 771, rfl⟩
abbrev main_v606 : Ref sig .tc := ⟨.hbm, 772, rfl⟩
abbrev main_v607 : Ref sig .tc := ⟨.hbm, 773, rfl⟩
abbrev main_v608 : Ref sig .tc := ⟨.hbm, 774, rfl⟩
abbrev main_v609 : Ref sig .tc := ⟨.hbm, 775, rfl⟩
abbrev main_v610 : Ref sig .tc := ⟨.hbm, 776, rfl⟩
abbrev main_v611 : Ref sig .tc := ⟨.hbm, 777, rfl⟩
abbrev main_v612 : Ref sig .tc := ⟨.hbm, 778, rfl⟩
abbrev main_v613 : Ref sig .tc := ⟨.hbm, 779, rfl⟩
abbrev main_v614 : Ref sig .tc := ⟨.hbm, 780, rfl⟩
abbrev main_v615 : Ref sig .tc := ⟨.hbm, 781, rfl⟩
abbrev main_v616 : Ref sig .tc := ⟨.hbm, 782, rfl⟩
abbrev main_v617 : Ref sig .tc := ⟨.hbm, 783, rfl⟩
abbrev main_c_85 : Ref sig .tc := ⟨.hbm, 784, rfl⟩
abbrev main_v618 : Ref sig .tc := ⟨.hbm, 785, rfl⟩
abbrev main_v619 : Ref sig .tc := ⟨.hbm, 786, rfl⟩
abbrev main_c_86 : Ref sig .tc := ⟨.hbm, 787, rfl⟩
abbrev main_v620 : Ref sig .tc := ⟨.hbm, 788, rfl⟩
abbrev main_v621 : Ref sig .tc := ⟨.hbm, 789, rfl⟩
abbrev main_v622 : Ref sig .tc := ⟨.hbm, 790, rfl⟩
abbrev main_v623 : Ref sig .tc := ⟨.hbm, 791, rfl⟩
abbrev main_v624 : Ref sig .tc := ⟨.hbm, 792, rfl⟩
abbrev main_c_87 : Ref sig .tc := ⟨.hbm, 793, rfl⟩
abbrev main_v625 : Ref sig .tc := ⟨.hbm, 794, rfl⟩
abbrev main_v626 : Ref sig .tc := ⟨.hbm, 795, rfl⟩
abbrev main_c_88 : Ref sig .tc := ⟨.hbm, 796, rfl⟩
abbrev main_v627 : Ref sig .tc := ⟨.hbm, 797, rfl⟩
abbrev main_v628 : Ref sig .tc := ⟨.hbm, 798, rfl⟩
abbrev main_v629 : Ref sig .tc := ⟨.hbm, 799, rfl⟩
abbrev main_v630 : Ref sig .tc := ⟨.hbm, 800, rfl⟩
abbrev main_v631 : Ref sig .tc := ⟨.hbm, 801, rfl⟩
abbrev main_v632 : Ref sig .tc := ⟨.hbm, 802, rfl⟩
abbrev main_v633 : Ref sig .tc := ⟨.hbm, 803, rfl⟩
abbrev main_v634 : Ref sig .tc := ⟨.hbm, 804, rfl⟩
abbrev main_cst_89 : Ref sig .tc := ⟨.hbm, 805, rfl⟩
abbrev main_v635 : Ref sig .tc := ⟨.hbm, 806, rfl⟩
abbrev main_v636 : Ref sig .tc := ⟨.hbm, 807, rfl⟩
abbrev main_v637 : Ref sig .tc := ⟨.hbm, 808, rfl⟩
abbrev main_v638 : Ref sig .tc := ⟨.hbm, 809, rfl⟩
abbrev main_v639 : Ref sig .tc := ⟨.hbm, 810, rfl⟩
abbrev main_v640 : Ref sig .tc := ⟨.hbm, 811, rfl⟩
abbrev main_v641 : Ref sig .tc := ⟨.hbm, 812, rfl⟩
abbrev main_v642 : Ref sig .tc := ⟨.hbm, 813, rfl⟩
abbrev main_v643 : Ref sig .tc := ⟨.hbm, 814, rfl⟩
abbrev main_v644 : Ref sig .tc := ⟨.hbm, 815, rfl⟩
abbrev main_c_90 : Ref sig .tc := ⟨.hbm, 816, rfl⟩
abbrev main_call52_v0 : Ref sig .tc := ⟨.hbm, 817, rfl⟩
abbrev main_v645 : Ref sig .tc := ⟨.hbm, 818, rfl⟩
abbrev main_v646 : Ref sig .tc := ⟨.hbm, 819, rfl⟩
abbrev main_v647 : Ref sig .tc := ⟨.hbm, 820, rfl⟩
abbrev main_v648 : Ref sig .tc := ⟨.hbm, 821, rfl⟩
abbrev main_c_91 : Ref sig .tc := ⟨.hbm, 822, rfl⟩
abbrev main_call53_v0 : Ref sig .tc := ⟨.hbm, 823, rfl⟩
abbrev main_v649 : Ref sig .tc := ⟨.hbm, 824, rfl⟩
abbrev main_v650 : Ref sig .tc := ⟨.hbm, 825, rfl⟩
abbrev main_v651 : Ref sig .tc := ⟨.hbm, 826, rfl⟩
abbrev main_v652 : Ref sig .tc := ⟨.hbm, 827, rfl⟩
abbrev main_v653 : Ref sig .tc := ⟨.hbm, 828, rfl⟩
abbrev main_c_92 : Ref sig .tc := ⟨.hbm, 829, rfl⟩
abbrev main_call54_v0 : Ref sig .tc := ⟨.hbm, 830, rfl⟩
abbrev main_v654 : Ref sig .tc := ⟨.hbm, 831, rfl⟩
abbrev main_v655 : Ref sig .tc := ⟨.hbm, 832, rfl⟩
abbrev main_v656 : Ref sig .tc := ⟨.hbm, 833, rfl⟩
abbrev main_v657 : Ref sig .tc := ⟨.hbm, 834, rfl⟩
abbrev main_v658 : Ref sig .tc := ⟨.hbm, 835, rfl⟩
abbrev main_c_93 : Ref sig .tc := ⟨.hbm, 836, rfl⟩
abbrev main_call55_v0 : Ref sig .tc := ⟨.hbm, 837, rfl⟩
abbrev main_v659 : Ref sig .tc := ⟨.hbm, 838, rfl⟩
abbrev main_v660 : Ref sig .tc := ⟨.hbm, 839, rfl⟩
abbrev main_v661 : Ref sig .tc := ⟨.hbm, 840, rfl⟩
abbrev main_v662 : Ref sig .tc := ⟨.hbm, 841, rfl⟩
abbrev main_v663 : Ref sig .tc := ⟨.hbm, 842, rfl⟩
abbrev main_v664 : Ref sig .tc := ⟨.hbm, 843, rfl⟩
abbrev main_v665 : Ref sig .tc := ⟨.hbm, 844, rfl⟩
abbrev main_v666 : Ref sig .tc := ⟨.hbm, 845, rfl⟩
abbrev main_c_94 : Ref sig .tc := ⟨.hbm, 846, rfl⟩
abbrev main_call56_v0 : Ref sig .tc := ⟨.hbm, 847, rfl⟩
abbrev main_v667 : Ref sig .tc := ⟨.hbm, 848, rfl⟩
abbrev main_v668 : Ref sig .tc := ⟨.hbm, 849, rfl⟩
abbrev main_v669 : Ref sig .tc := ⟨.hbm, 850, rfl⟩
abbrev main_v670 : Ref sig .tc := ⟨.hbm, 851, rfl⟩
abbrev main_c_95 : Ref sig .tc := ⟨.hbm, 852, rfl⟩
abbrev main_call57_v0 : Ref sig .tc := ⟨.hbm, 853, rfl⟩
abbrev main_v671 : Ref sig .tc := ⟨.hbm, 854, rfl⟩
abbrev main_v672 : Ref sig .tc := ⟨.hbm, 855, rfl⟩
abbrev main_v673 : Ref sig .tc := ⟨.hbm, 856, rfl⟩
abbrev main_v674 : Ref sig .tc := ⟨.hbm, 857, rfl⟩
abbrev main_v675 : Ref sig .tc := ⟨.hbm, 858, rfl⟩
abbrev main_c_96 : Ref sig .tc := ⟨.hbm, 859, rfl⟩
abbrev main_call58_v0 : Ref sig .tc := ⟨.hbm, 860, rfl⟩
abbrev main_v676 : Ref sig .tc := ⟨.hbm, 861, rfl⟩
abbrev main_v677 : Ref sig .tc := ⟨.hbm, 862, rfl⟩
abbrev main_v678 : Ref sig .tc := ⟨.hbm, 863, rfl⟩
abbrev main_v679 : Ref sig .tc := ⟨.hbm, 864, rfl⟩
abbrev main_v680 : Ref sig .tc := ⟨.hbm, 865, rfl⟩
abbrev main_c_97 : Ref sig .tc := ⟨.hbm, 866, rfl⟩
abbrev main_call59_v0 : Ref sig .tc := ⟨.hbm, 867, rfl⟩
abbrev main_v681 : Ref sig .tc := ⟨.hbm, 868, rfl⟩
abbrev main_v682 : Ref sig .tc := ⟨.hbm, 869, rfl⟩
abbrev main_v683 : Ref sig .tc := ⟨.hbm, 870, rfl⟩
abbrev main_v684 : Ref sig .tc := ⟨.hbm, 871, rfl⟩
abbrev main_v685 : Ref sig .tc := ⟨.hbm, 872, rfl⟩
abbrev main_v686 : Ref sig .tc := ⟨.hbm, 873, rfl⟩
abbrev main_v687 : Ref sig .tc := ⟨.hbm, 874, rfl⟩
abbrev main_v688 : Ref sig .tc := ⟨.hbm, 875, rfl⟩
abbrev main_c_98 : Ref sig .tc := ⟨.hbm, 876, rfl⟩
abbrev main_call60_v0 : Ref sig .tc := ⟨.hbm, 877, rfl⟩
abbrev main_v689 : Ref sig .tc := ⟨.hbm, 878, rfl⟩
abbrev main_v690 : Ref sig .tc := ⟨.hbm, 879, rfl⟩
abbrev main_v691 : Ref sig .tc := ⟨.hbm, 880, rfl⟩
abbrev main_v692 : Ref sig .tc := ⟨.hbm, 881, rfl⟩
abbrev main_c_99 : Ref sig .tc := ⟨.hbm, 882, rfl⟩
abbrev main_call61_v0 : Ref sig .tc := ⟨.hbm, 883, rfl⟩
abbrev main_v693 : Ref sig .tc := ⟨.hbm, 884, rfl⟩
abbrev main_v694 : Ref sig .tc := ⟨.hbm, 885, rfl⟩
abbrev main_v695 : Ref sig .tc := ⟨.hbm, 886, rfl⟩
abbrev main_v696 : Ref sig .tc := ⟨.hbm, 887, rfl⟩
abbrev main_v697 : Ref sig .tc := ⟨.hbm, 888, rfl⟩
abbrev main_c_100 : Ref sig .tc := ⟨.hbm, 889, rfl⟩
abbrev main_call62_v0 : Ref sig .tc := ⟨.hbm, 890, rfl⟩
abbrev main_v698 : Ref sig .tc := ⟨.hbm, 891, rfl⟩
abbrev main_v699 : Ref sig .tc := ⟨.hbm, 892, rfl⟩
abbrev main_v700 : Ref sig .tc := ⟨.hbm, 893, rfl⟩
abbrev main_v701 : Ref sig .tc := ⟨.hbm, 894, rfl⟩
abbrev main_v702 : Ref sig .tc := ⟨.hbm, 895, rfl⟩
abbrev main_c_101 : Ref sig .tc := ⟨.hbm, 896, rfl⟩
abbrev main_call63_v0 : Ref sig .tc := ⟨.hbm, 897, rfl⟩
abbrev main_v703 : Ref sig .tc := ⟨.hbm, 898, rfl⟩
abbrev main_v704 : Ref sig .tc := ⟨.hbm, 899, rfl⟩
abbrev main_v705 : Ref sig .tc := ⟨.hbm, 900, rfl⟩
abbrev main_v706 : Ref sig .tc := ⟨.hbm, 901, rfl⟩
abbrev main_v707 : Ref sig .tc := ⟨.hbm, 902, rfl⟩
abbrev main_v708 : Ref sig .tc := ⟨.hbm, 903, rfl⟩
abbrev main_v709 : Ref sig .tc := ⟨.hbm, 904, rfl⟩
abbrev main_v710 : Ref sig .tc := ⟨.hbm, 905, rfl⟩
abbrev main_c_102 : Ref sig .tc := ⟨.hbm, 906, rfl⟩
abbrev main_call64_v0 : Ref sig .tc := ⟨.hbm, 907, rfl⟩
abbrev main_v711 : Ref sig .tc := ⟨.hbm, 908, rfl⟩
abbrev main_v712 : Ref sig .tc := ⟨.hbm, 909, rfl⟩
abbrev main_v713 : Ref sig .tc := ⟨.hbm, 910, rfl⟩
abbrev main_v714 : Ref sig .tc := ⟨.hbm, 911, rfl⟩
abbrev main_c_103 : Ref sig .tc := ⟨.hbm, 912, rfl⟩
abbrev main_call65_v0 : Ref sig .tc := ⟨.hbm, 913, rfl⟩
abbrev main_v715 : Ref sig .tc := ⟨.hbm, 914, rfl⟩
abbrev main_v716 : Ref sig .tc := ⟨.hbm, 915, rfl⟩
abbrev main_v717 : Ref sig .tc := ⟨.hbm, 916, rfl⟩
abbrev main_v718 : Ref sig .tc := ⟨.hbm, 917, rfl⟩
abbrev main_v719 : Ref sig .tc := ⟨.hbm, 918, rfl⟩
abbrev main_c_104 : Ref sig .tc := ⟨.hbm, 919, rfl⟩
abbrev main_call66_v0 : Ref sig .tc := ⟨.hbm, 920, rfl⟩
abbrev main_v720 : Ref sig .tc := ⟨.hbm, 921, rfl⟩
abbrev main_v721 : Ref sig .tc := ⟨.hbm, 922, rfl⟩
abbrev main_v722 : Ref sig .tc := ⟨.hbm, 923, rfl⟩
abbrev main_v723 : Ref sig .tc := ⟨.hbm, 924, rfl⟩
abbrev main_v724 : Ref sig .tc := ⟨.hbm, 925, rfl⟩
abbrev main_c_105 : Ref sig .tc := ⟨.hbm, 926, rfl⟩
abbrev main_call67_v0 : Ref sig .tc := ⟨.hbm, 927, rfl⟩
abbrev main_v725 : Ref sig .tc := ⟨.hbm, 928, rfl⟩
abbrev main_v726 : Ref sig .tc := ⟨.hbm, 929, rfl⟩
abbrev main_v727 : Ref sig .tc := ⟨.hbm, 930, rfl⟩
abbrev main_v728 : Ref sig .tc := ⟨.hbm, 931, rfl⟩
abbrev main_v729 : Ref sig .tc := ⟨.hbm, 932, rfl⟩
abbrev main_v730 : Ref sig .tc := ⟨.hbm, 933, rfl⟩
abbrev main_v731 : Ref sig .tc := ⟨.hbm, 934, rfl⟩
abbrev main_v732 : Ref sig .tc := ⟨.hbm, 935, rfl⟩
abbrev main_v733 : Ref sig .tc := ⟨.hbm, 936, rfl⟩
abbrev main_v734 : Ref sig .tc := ⟨.hbm, 937, rfl⟩
abbrev main_v735 : Ref sig .tc := ⟨.hbm, 938, rfl⟩
abbrev main_v736 : Ref sig .tc := ⟨.hbm, 939, rfl⟩
abbrev main_v737 : Ref sig .tc := ⟨.hbm, 940, rfl⟩
abbrev main_v738 : Ref sig .tc := ⟨.hbm, 941, rfl⟩
abbrev main_v739 : Ref sig .tc := ⟨.hbm, 942, rfl⟩
abbrev main_v740 : Ref sig .tc := ⟨.hbm, 943, rfl⟩
abbrev main_v741 : Ref sig .tc := ⟨.hbm, 944, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_scratch0 : Ref sig .tc := ⟨.vmem, 34, rfl⟩
abbrev cc6_scratch1 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg3_0 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg3_0 : Ref sig .tc := ⟨.vmem, 43, rfl⟩
abbrev cc9_stg0_0 : Ref sig .tc := ⟨.vmem, 44, rfl⟩
abbrev cc9_stg1_0 : Ref sig .tc := ⟨.vmem, 45, rfl⟩
abbrev cc9_stg2_0 : Ref sig .tc := ⟨.vmem, 46, rfl⟩
abbrev cc9_stg3_0 : Ref sig .tc := ⟨.vmem, 47, rfl⟩
abbrev cc10_stg0_0 : Ref sig .tc := ⟨.vmem, 48, rfl⟩
abbrev cc10_stg0_1 : Ref sig .tc := ⟨.vmem, 49, rfl⟩
abbrev cc10_stg1_0 : Ref sig .tc := ⟨.vmem, 50, rfl⟩
abbrev cc10_stg2_0 : Ref sig .tc := ⟨.vmem, 51, rfl⟩
abbrev cc10_stg3_0 : Ref sig .tc := ⟨.vmem, 52, rfl⟩
abbrev cc10_stg3_1 : Ref sig .tc := ⟨.vmem, 53, rfl⟩
abbrev cc11_stg0_0 : Ref sig .tc := ⟨.vmem, 54, rfl⟩
abbrev cc11_stg0_1 : Ref sig .tc := ⟨.vmem, 55, rfl⟩
abbrev cc11_stg1_0 : Ref sig .tc := ⟨.vmem, 56, rfl⟩
abbrev cc11_stg2_0 : Ref sig .tc := ⟨.vmem, 57, rfl⟩
abbrev cc11_stg3_0 : Ref sig .tc := ⟨.vmem, 58, rfl⟩
abbrev cc11_stg3_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg2_0 : Ref sig .tc := ⟨.vmem, 63, rfl⟩
abbrev cc12_stg3_0 : Ref sig .tc := ⟨.vmem, 64, rfl⟩
abbrev cc12_stg3_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc4_sem0_0 : DmaSem sig := 22
abbrev cc4_sem1_0 : DmaSem sig := 23
abbrev cc4_sem2_0 : DmaSem sig := 24
abbrev cc4_sem3_0 : DmaSem sig := 25
abbrev cc5_sem0_0 : DmaSem sig := 26
abbrev cc5_sem1_0 : DmaSem sig := 27
abbrev cc5_sem2_0 : DmaSem sig := 28
abbrev cc5_sem3_0 : DmaSem sig := 29
abbrev cc6_sem0_0 : DmaSem sig := 30
abbrev cc6_sem1_0 : DmaSem sig := 31
abbrev cc6_sem2_0 : DmaSem sig := 32
abbrev cc6_sem3_0 : DmaSem sig := 33
abbrev cc7_sem0_0 : DmaSem sig := 34
abbrev cc7_sem1_0 : DmaSem sig := 35
abbrev cc7_sem2_0 : DmaSem sig := 36
abbrev cc7_sem3_0 : DmaSem sig := 37
abbrev cc8_sem0_0 : DmaSem sig := 38
abbrev cc8_sem1_0 : DmaSem sig := 39
abbrev cc8_sem2_0 : DmaSem sig := 40
abbrev cc8_sem3_0 : DmaSem sig := 41
abbrev cc9_sem0_0 : DmaSem sig := 42
abbrev cc9_sem1_0 : DmaSem sig := 43
abbrev cc9_sem2_0 : DmaSem sig := 44
abbrev cc9_sem3_0 : DmaSem sig := 45
abbrev cc10_sem0_0 : DmaSem sig := 46
abbrev cc10_sem0_1 : DmaSem sig := 47
abbrev cc10_sem1_0 : DmaSem sig := 48
abbrev cc10_sem2_0 : DmaSem sig := 49
abbrev cc10_sem3_0 : DmaSem sig := 50
abbrev cc10_sem3_1 : DmaSem sig := 51
abbrev cc11_sem0_0 : DmaSem sig := 52
abbrev cc11_sem0_1 : DmaSem sig := 53
abbrev cc11_sem1_0 : DmaSem sig := 54
abbrev cc11_sem2_0 : DmaSem sig := 55
abbrev cc11_sem3_0 : DmaSem sig := 56
abbrev cc11_sem3_1 : DmaSem sig := 57
abbrev cc12_sem0_0 : DmaSem sig := 58
abbrev cc12_sem0_1 : DmaSem sig := 59
abbrev cc12_sem1_0 : DmaSem sig := 60
abbrev cc12_sem2_0 : DmaSem sig := 61
abbrev cc12_sem3_0 : DmaSem sig := 62
abbrev cc12_sem3_1 : DmaSem sig := 63

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x48x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x4096x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![1, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x512x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x2048x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x512x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S1x4096x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .vmem S1x4096x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x1024x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 1 → Memref sig .tc .vmem S1x4096x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev grid4 : Pipeline.Grid := ⟨2, ![1, 1], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 1 → Memref sig .tc .vmem S1x256x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, true]

abbrev stage4_1 : Fin 1 → Memref sig .tc .vmem S1x1024x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 1 → Memref sig .tc .vmem S1x1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev stage4_3 : Fin 1 → Memref sig .tc .vmem S1x256x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, true]

abbrev grid5 : Pipeline.Grid := .none

abbrev stage5_0 : Fin 1 → Memref sig .tc .vmem S256x128 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S256x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev grid6 : Pipeline.Grid := .none

@[reducible] def k6_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k6_off1 (k6_t1 : Fin k6_t1_loop.trips) : Fin 2 → Nat :=
  let c0_i32 : BitVec 32 := 0#32
  let c1_i32 : BitVec 32 := 1#32
  let arg6 : BitVec 32 := Scf.iv c0_i32 c1_i32 k6_t1
  let c64_i32 : BitVec 32 := 64#32
  let v41 : BitVec 32 := Scalar.muli arg6 c64_i32
  let v42 : Index := Scalar.indexCast v41
  let c0_18 : Index := 0#32
  ![v42.toNat, 0]
def k6_off2 (k6_t1 : Fin k6_t1_loop.trips) : Fin 2 → Nat :=
  let c0_i32 : BitVec 32 := 0#32
  let c1_i32 : BitVec 32 := 1#32
  let arg6 : BitVec 32 := Scf.iv c0_i32 c1_i32 k6_t1
  let c64_i32_19 : BitVec 32 := 64#32
  let v81 : BitVec 32 := Scalar.muli arg6 c64_i32_19
  let v82 : Index := Scalar.indexCast v81
  let c0_20 : Index := 0#32
  ![v82.toNat, 0]
abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1024x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S256x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1024x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev grid7 : Pipeline.Grid := ⟨2, ![1, 1], ![false, false]⟩

def cc7_transform_0 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc7_transform_1 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage7_0 : Fin 1 → Memref sig .tc .vmem S1x256x64 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, true]

abbrev stage7_1 : Fin 1 → Memref sig .tc .vmem S1x64x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false]

abbrev stage7_2 : Fin 1 → Memref sig .tc .vmem S1x1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![true, false]

abbrev stage7_3 : Fin 1 → Memref sig .tc .vmem S1x256x128 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true, true]

abbrev grid8 : Pipeline.Grid := ⟨2, ![1, 1], ![false, false]⟩

def cc8_transform_0 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc8_transform_1 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_2 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc8_transform_3 (i : grid8.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage8_0 : Fin 1 → Memref sig .tc .vmem S1x256x128 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, true]

abbrev stage8_1 : Fin 1 → Memref sig .tc .vmem S1x128x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true, false]

abbrev stage8_2 : Fin 1 → Memref sig .tc .vmem S1x1x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, false]

abbrev stage8_3 : Fin 1 → Memref sig .tc .vmem S1x256x1024 .bf16 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true, true]

abbrev grid9 : Pipeline.Grid := ⟨2, ![1, 1], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_1 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_2 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_3 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage9_0 : Fin 1 → Memref sig .tc .vmem S1x4096x64 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, true]

abbrev stage9_1 : Fin 1 → Memref sig .tc .vmem S1x64x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true, false]

abbrev stage9_2 : Fin 1 → Memref sig .tc .vmem S1x1x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, false]

abbrev stage9_3 : Fin 1 → Memref sig .tc .vmem S1x4096x1024 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true, true]

abbrev grid10 : Pipeline.Grid := ⟨2, ![1, 4], ![false, false]⟩

def cc10_transform_0 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc10_transform_1 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_2 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc10_transform_3 (i : grid10.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage10_0 : Fin 2 → Memref sig .tc .vmem S1x4096x64 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, true]

abbrev stage10_1 : Fin 1 → Memref sig .tc .vmem S1x64x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![true, false]

abbrev stage10_2 : Fin 1 → Memref sig .tc .vmem S1x1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true, false]

abbrev stage10_3 : Fin 2 → Memref sig .tc .vmem S1x4096x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true, true]

abbrev grid11 : Pipeline.Grid := ⟨2, ![1, 16], ![false, false]⟩

def cc11_transform_0 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc11_transform_1 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_2 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc11_transform_3 (i : grid11.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage11_0 : Fin 2 → Memref sig .tc .vmem S1x4096x32 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, true]

abbrev stage11_1 : Fin 1 → Memref sig .tc .vmem S1x32x512 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 1 → Memref sig .tc .vmem S1x1x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true, false]

abbrev stage11_3 : Fin 2 → Memref sig .tc .vmem S1x4096x512 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev grid12 : Pipeline.Grid := ⟨2, ![1, 64], ![false, false]⟩

def cc12_transform_0 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc12_transform_1 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_2 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc12_transform_3 (i : grid12.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage12_0 : Fin 2 → Memref sig .tc .vmem S1x4096x32 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, true]

abbrev stage12_1 : Fin 1 → Memref sig .tc .vmem S1x32x48 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true, false]

abbrev stage12_2 : Fin 1 → Memref sig .tc .vmem S1x1x48 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![true, false]

abbrev stage12_3 : Fin 2 → Memref sig .tc .vmem S1x4096x48 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true]
-- ==== ReferenceIdeal.lean ====
abbrev S256x3x64x64 : Shape := ⟨4, ![256, 3, 64, 64]⟩
abbrev S32x3x4x4 : Shape := ⟨4, ![32, 3, 4, 4]⟩
abbrev S32 : Shape := ⟨1, ![32]⟩
abbrev S32x32x4x4 : Shape := ⟨4, ![32, 32, 4, 4]⟩
abbrev S64x32x4x4 : Shape := ⟨4, ![64, 32, 4, 4]⟩
abbrev S64 : Shape := ⟨1, ![64]⟩
abbrev S64x64x4x4 : Shape := ⟨4, ![64, 64, 4, 4]⟩
abbrev S128x64x4x4 : Shape := ⟨4, ![128, 64, 4, 4]⟩
abbrev S128 : Shape := ⟨1, ![128]⟩
abbrev S64x128x1x1 : Shape := ⟨4, ![64, 128, 1, 1]⟩
abbrev S1024x64 : Shape := ⟨2, ![1024, 64]⟩
abbrev S128x64x1x1 : Shape := ⟨4, ![128, 64, 1, 1]⟩
abbrev S3 : Shape := ⟨1, ![3]⟩
abbrev S32x1 : Shape := ⟨2, ![32, 1]⟩
abbrev S_ : Shape := ⟨0, ![]⟩
abbrev S4 : Shape := ⟨1, ![4]⟩
abbrev S1x4 : Shape := ⟨2, ![1, 4]⟩
abbrev S32x4 : Shape := ⟨2, ![32, 4]⟩
abbrev S256x3x66x66 : Shape := ⟨4, ![256, 3, 66, 66]⟩
abbrev S32x4x1 : Shape := ⟨3, ![32, 4, 1]⟩
abbrev S256x3x32x4x66 : Shape := ⟨5, ![256, 3, 32, 4, 66]⟩
abbrev S256x3x32x4x32x4 : Shape := ⟨6, ![256, 3, 32, 4, 32, 4]⟩
abbrev S32x256x32x32 : Shape := ⟨4, ![32, 256, 32, 32]⟩
abbrev S32x256x1024 : Shape := ⟨3, ![32, 256, 1024]⟩
abbrev S256x32x1024 : Shape := ⟨3, ![256, 32, 1024]⟩
abbrev S1x32x1 : Shape := ⟨3, ![1, 32, 1]⟩
abbrev S256x32x32x32 : Shape := ⟨4, ![256, 32, 32, 32]⟩
abbrev S16 : Shape := ⟨1, ![16]⟩
abbrev S16x1 : Shape := ⟨2, ![16, 1]⟩
abbrev S16x4 : Shape := ⟨2, ![16, 4]⟩
abbrev S256x32x34x34 : Shape := ⟨4, ![256, 32, 34, 34]⟩
abbrev S16x4x1 : Shape := ⟨3, ![16, 4, 1]⟩
abbrev S256x32x16x4x34 : Shape := ⟨5, ![256, 32, 16, 4, 34]⟩
abbrev S256x32x16x4x16x4 : Shape := ⟨6, ![256, 32, 16, 4, 16, 4]⟩
abbrev S32x256x16x16 : Shape := ⟨4, ![32, 256, 16, 16]⟩
abbrev S32x256x256 : Shape := ⟨3, ![32, 256, 256]⟩
abbrev S256x32x256 : Shape := ⟨3, ![256, 32, 256]⟩
abbrev S256x32x16x16 : Shape := ⟨4, ![256, 32, 16, 16]⟩
abbrev S8 : Shape := ⟨1, ![8]⟩
abbrev S8x1 : Shape := ⟨2, ![8, 1]⟩
abbrev S8x4 : Shape := ⟨2, ![8, 4]⟩
abbrev S256x32x18x18 : Shape := ⟨4, ![256, 32, 18, 18]⟩
abbrev S8x4x1 : Shape := ⟨3, ![8, 4, 1]⟩
abbrev S256x32x8x4x18 : Shape := ⟨5, ![256, 32, 8, 4, 18]⟩
abbrev S256x32x8x4x8x4 : Shape := ⟨6, ![256, 32, 8, 4, 8, 4]⟩
abbrev S64x256x8x8 : Shape := ⟨4, ![64, 256, 8, 8]⟩
abbrev S64x256x64 : Shape := ⟨3, ![64, 256, 64]⟩
abbrev S256x64x64 : Shape := ⟨3, ![256, 64, 64]⟩
abbrev S1x64x1 : Shape := ⟨3, ![1, 64, 1]⟩
abbrev S256x64x8x8 : Shape := ⟨4, ![256, 64, 8, 8]⟩
abbrev S4x1 : Shape := ⟨2, ![4, 1]⟩
abbrev S4x4 : Shape := ⟨2, ![4, 4]⟩
abbrev S256x64x10x10 : Shape := ⟨4, ![256, 64, 10, 10]⟩
abbrev S4x4x1 : Shape := ⟨3, ![4, 4, 1]⟩
abbrev S256x64x4x4x10 : Shape := ⟨5, ![256, 64, 4, 4, 10]⟩
abbrev S256x64x4x4x4x4 : Shape := ⟨6, ![256, 64, 4, 4, 4, 4]⟩
abbrev S64x256x4x4 : Shape := ⟨4, ![64, 256, 4, 4]⟩
abbrev S64x256x16 : Shape := ⟨3, ![64, 256, 16]⟩
abbrev S256x64x16 : Shape := ⟨3, ![256, 64, 16]⟩
abbrev S256x64x4x4 : Shape := ⟨4, ![256, 64, 4, 4]⟩
abbrev S256x128 : Shape := ⟨2, ![256, 128]⟩
abbrev S1x128 : Shape := ⟨2, ![1, 128]⟩
abbrev S64x128 : Shape := ⟨2, ![64, 128]⟩
abbrev S256x64 : Shape := ⟨2, ![256, 64]⟩
abbrev S1x64 : Shape := ⟨2, ![1, 64]⟩
abbrev S256x1x64 : Shape := ⟨3, ![256, 1, 64]⟩
abbrev S1x1024x64 : Shape := ⟨3, ![1, 1024, 64]⟩
abbrev S256x1024x64 : Shape := ⟨3, ![256, 1024, 64]⟩
abbrev S256x1024 : Shape := ⟨2, ![256, 1024]⟩
abbrev S256 : Shape := ⟨1, ![256]⟩
abbrev S256x1 : Shape := ⟨2, ![256, 1]⟩
abbrev S128x64 : Shape := ⟨2, ![128, 64]⟩
abbrev S1x64x1x1 : Shape := ⟨4, ![1, 64, 1, 1]⟩
abbrev S256x64x11x11 : Shape := ⟨4, ![256, 64, 11, 11]⟩
abbrev S256x64x8x4x11 : Shape := ⟨5, ![256, 64, 8, 4, 11]⟩
abbrev S256x64x8x4x8x4 : Shape := ⟨6, ![256, 64, 8, 4, 8, 4]⟩
abbrev S256x64x19x19 : Shape := ⟨4, ![256, 64, 19, 19]⟩
abbrev S32x64x4x4 : Shape := ⟨4, ![32, 64, 4, 4]⟩
abbrev S256x64x16x4x19 : Shape := ⟨5, ![256, 64, 16, 4, 19]⟩
abbrev S256x64x16x4x16x4 : Shape := ⟨6, ![256, 64, 16, 4, 16, 4]⟩
abbrev S256x32x35x35 : Shape := ⟨4, ![256, 32, 35, 35]⟩
abbrev S256x32x32x4x35 : Shape := ⟨5, ![256, 32, 32, 4, 35]⟩
abbrev S256x32x32x4x32x4 : Shape := ⟨6, ![256, 32, 32, 4, 32, 4]⟩
abbrev S64x1 : Shape := ⟨2, ![64, 1]⟩
abbrev S64x4 : Shape := ⟨2, ![64, 4]⟩
abbrev S256x32x67x67 : Shape := ⟨4, ![256, 32, 67, 67]⟩
abbrev S3x32x4x4 : Shape := ⟨4, ![3, 32, 4, 4]⟩
abbrev S64x4x1 : Shape := ⟨3, ![64, 4, 1]⟩
abbrev S256x32x64x4x67 : Shape := ⟨5, ![256, 32, 64, 4, 67]⟩
abbrev S256x32x64x4x64x4 : Shape := ⟨6, ![256, 32, 64, 4, 64, 4]⟩
abbrev S3x256x64x64 : Shape := ⟨4, ![3, 256, 64, 64]⟩
abbrev S3x256x4096 : Shape := ⟨3, ![3, 256, 4096]⟩
abbrev S256x3x4096 : Shape := ⟨3, ![256, 3, 4096]⟩
abbrev S1x3x1 : Shape := ⟨3, ![1, 3, 1]⟩
abbrev S1024x1x64 : Shape := ⟨3, ![1024, 1, 64]⟩
abbrev S1x256x64 : Shape := ⟨3, ![1, 256, 64]⟩
abbrev S1024x256x64 : Shape := ⟨3, ![1024, 256, 64]⟩
abbrev S1024x256 : Shape := ⟨2, ![1024, 256]⟩
abbrev S1024 : Shape := ⟨1, ![1024]⟩
abbrev S1024x1 : Shape := ⟨2, ![1024, 1]⟩

abbrev nBuf : Space → Nat
  | .hbm => 424
  | .vmem => 0
  | .smem => 0
  | _ => 0

abbrev hbmTy0_0 (i : Nat) : BufTy := match i % 128 with
  | 0 => ⟨S256x3x64x64, .f32⟩
  | 1 => ⟨S32x3x4x4, .f32⟩
  | 2 => ⟨S32, .f32⟩
  | 3 => ⟨S32x32x4x4, .f32⟩
  | 4 => ⟨S32, .f32⟩
  | 5 => ⟨S64x32x4x4, .f32⟩
  | 6 => ⟨S64, .f32⟩
  | 7 => ⟨S64x64x4x4, .f32⟩
  | 8 => ⟨S64, .f32⟩
  | 9 => ⟨S128x64x4x4, .f32⟩
  | 10 => ⟨S128, .f32⟩
  | 11 => ⟨S64x128x1x1, .f32⟩
  | 12 => ⟨S64, .f32⟩
  | 13 => ⟨S1024x64, .f32⟩
  | 14 => ⟨S128x64x1x1, .f32⟩
  | 15 => ⟨S128, .f32⟩
  | 16 => ⟨S128x64x4x4, .f32⟩
  | 17 => ⟨S64, .f32⟩
  | 18 => ⟨S64x64x4x4, .f32⟩
  | 19 => ⟨S64, .f32⟩
  | 20 => ⟨S64x32x4x4, .f32⟩
  | 21 => ⟨S32, .f32⟩
  | 22 => ⟨S32x32x4x4, .f32⟩
  | 23 => ⟨S32, .f32⟩
  | 24 => ⟨S32x3x4x4, .f32⟩
  | 25 => ⟨S3, .f32⟩
  | 26 => ⟨S32, .i32⟩
  | 27 => ⟨S32x1, .i32⟩
  | 28 => ⟨S_, .i32⟩
  | 29 => ⟨S32x1, .i32⟩
  | 30 => ⟨S32x1, .i32⟩
  | 31 => ⟨S4, .i32⟩
  | 32 => ⟨S1x4, .i32⟩
  | 33 => ⟨S32x4, .i32⟩
  | 34 => ⟨S32x4, .i32⟩
  | 35 => ⟨S32x4, .i32⟩
  | 36 => ⟨S_, .f32⟩
  | 37 => ⟨S256x3x66x66, .f32⟩
  | 38 => ⟨S_, .i32⟩
  | 39 => ⟨S32x4, .i32⟩
  | 40 => ⟨S32x4, .i1⟩
  | 41 => ⟨S_, .i32⟩
  | 42 => ⟨S32x4, .i32⟩
  | 43 => ⟨S32x4, .i32⟩
  | 44 => ⟨S32x4, .i32⟩
  | 45 => ⟨S32x4x1, .i32⟩
  | 46 => ⟨S256x3x32x4x66, .f32⟩
  | 47 => ⟨S_, .i32⟩
  | 48 => ⟨S32x4, .i32⟩
  | 49 => ⟨S32x4, .i1⟩
  | 50 => ⟨S_, .i32⟩
  | 51 => ⟨S32x4, .i32⟩
  | 52 => ⟨S32x4, .i32⟩
  | 53 => ⟨S32x4, .i32⟩
  | 54 => ⟨S32x4x1, .i32⟩
  | 55 => ⟨S256x3x32x4x32x4, .f32⟩
  | 56 => ⟨S32x256x32x32, .f32⟩
  | 57 => ⟨S32x256x1024, .f32⟩
  | 58 => ⟨S256x32x1024, .f32⟩
  | 59 => ⟨S1x32x1, .f32⟩
  | 60 => ⟨S256x32x1024, .f32⟩
  | 61 => ⟨S256x32x1024, .f32⟩
  | 62 => ⟨S_, .f32⟩
  | 63 => ⟨S256x32x1024, .f32⟩
  | 64 => ⟨S256x32x1024, .f32⟩
  | 65 => ⟨S256x32x32x32, .f32⟩
  | 66 => ⟨S16, .i32⟩
  | 67 => ⟨S16x1, .i32⟩
  | 68 => ⟨S_, .i32⟩
  | 69 => ⟨S16x1, .i32⟩
  | 70 => ⟨S16x1, .i32⟩
  | 71 => ⟨S4, .i32⟩
  | 72 => ⟨S1x4, .i32⟩
  | 73 => ⟨S16x4, .i32⟩
  | 74 => ⟨S16x4, .i32⟩
  | 75 => ⟨S16x4, .i32⟩
  | 76 => ⟨S_, .f32⟩
  | 77 => ⟨S256x32x34x34, .f32⟩
  | 78 => ⟨S_, .i32⟩
  | 79 => ⟨S16x4, .i32⟩
  | 80 => ⟨S16x4, .i1⟩
  | 81 => ⟨S_, .i32⟩
  | 82 => ⟨S16x4, .i32⟩
  | 83 => ⟨S16x4, .i32⟩
  | 84 => ⟨S16x4, .i32⟩
  | 85 => ⟨S16x4x1, .i32⟩
  | 86 => ⟨S256x32x16x4x34, .f32⟩
  | 87 => ⟨S_, .i32⟩
  | 88 => ⟨S16x4, .i32⟩
  | 89 => ⟨S16x4, .i1⟩
  | 90 => ⟨S_, .i32⟩
  | 91 => ⟨S16x4, .i32⟩
  | 92 => ⟨S16x4, .i32⟩
  | 93 => ⟨S16x4, .i32⟩
  | 94 => ⟨S16x4x1, .i32⟩
  | 95 => ⟨S256x32x16x4x16x4, .f32⟩
  | 96 => ⟨S32x256x16x16, .f32⟩
  | 97 => ⟨S32x256x256, .f32⟩
  | 98 => ⟨S256x32x256, .f32⟩
  | 99 => ⟨S1x32x1, .f32⟩
  | 100 => ⟨S256x32x256, .f32⟩
  | 101 => ⟨S256x32x256, .f32⟩
  | 102 => ⟨S_, .f32⟩
  | 103 => ⟨S256x32x256, .f32⟩
  | 104 => ⟨S256x32x256, .f32⟩
  | 105 => ⟨S256x32x16x16, .f32⟩
  | 106 => ⟨S8, .i32⟩
  | 107 => ⟨S8x1, .i32⟩
  | 108 => ⟨S_, .i32⟩
  | 109 => ⟨S8x1, .i32⟩
  | 110 => ⟨S8x1, .i32⟩
  | 111 => ⟨S4, .i32⟩
  | 112 => ⟨S1x4, .i32⟩
  | 113 => ⟨S8x4, .i32⟩
  | 114 => ⟨S8x4, .i32⟩
  | 115 => ⟨S8x4, .i32⟩
  | 116 => ⟨S_, .f32⟩
  | 117 => ⟨S256x32x18x18, .f32⟩
  | 118 => ⟨S_, .i32⟩
  | 119 => ⟨S8x4, .i32⟩
  | 120 => ⟨S8x4, .i1⟩
  | 121 => ⟨S_, .i32⟩
  | 122 => ⟨S8x4, .i32⟩
  | 123 => ⟨S8x4, .i32⟩
  | 124 => ⟨S8x4, .i32⟩
  | 125 => ⟨S8x4x1, .i32⟩
  | 126 => ⟨S256x32x8x4x18, .f32⟩
  | 127 => ⟨S_, .i32⟩
  | _ => ⟨S256x3x64x64, .f32⟩

abbrev hbmTy0_1 (i : Nat) : BufTy := match i % 128 with
  | 0 => ⟨S8x4, .i32⟩
  | 1 => ⟨S8x4, .i1⟩
  | 2 => ⟨S_, .i32⟩
  | 3 => ⟨S8x4, .i32⟩
  | 4 => ⟨S8x4, .i32⟩
  | 5 => ⟨S8x4, .i32⟩
  | 6 => ⟨S8x4x1, .i32⟩
  | 7 => ⟨S256x32x8x4x8x4, .f32⟩
  | 8 => ⟨S64x256x8x8, .f32⟩
  | 9 => ⟨S64x256x64, .f32⟩
  | 10 => ⟨S256x64x64, .f32⟩
  | 11 => ⟨S1x64x1, .f32⟩
  | 12 => ⟨S256x64x64, .f32⟩
  | 13 => ⟨S256x64x64, .f32⟩
  | 14 => ⟨S_, .f32⟩
  | 15 => ⟨S256x64x64, .f32⟩
  | 16 => ⟨S256x64x64, .f32⟩
  | 17 => ⟨S256x64x8x8, .f32⟩
  | 18 => ⟨S4, .i32⟩
  | 19 => ⟨S4x1, .i32⟩
  | 20 => ⟨S_, .i32⟩
  | 21 => ⟨S4x1, .i32⟩
  | 22 => ⟨S4x1, .i32⟩
  | 23 => ⟨S4, .i32⟩
  | 24 => ⟨S1x4, .i32⟩
  | 25 => ⟨S4x4, .i32⟩
  | 26 => ⟨S4x4, .i32⟩
  | 27 => ⟨S4x4, .i32⟩
  | 28 => ⟨S_, .f32⟩
  | 29 => ⟨S256x64x10x10, .f32⟩
  | 30 => ⟨S_, .i32⟩
  | 31 => ⟨S4x4, .i32⟩
  | 32 => ⟨S4x4, .i1⟩
  | 33 => ⟨S_, .i32⟩
  | 34 => ⟨S4x4, .i32⟩
  | 35 => ⟨S4x4, .i32⟩
  | 36 => ⟨S4x4, .i32⟩
  | 37 => ⟨S4x4x1, .i32⟩
  | 38 => ⟨S256x64x4x4x10, .f32⟩
  | 39 => ⟨S_, .i32⟩
  | 40 => ⟨S4x4, .i32⟩
  | 41 => ⟨S4x4, .i1⟩
  | 42 => ⟨S_, .i32⟩
  | 43 => ⟨S4x4, .i32⟩
  | 44 => ⟨S4x4, .i32⟩
  | 45 => ⟨S4x4, .i32⟩
  | 46 => ⟨S4x4x1, .i32⟩
  | 47 => ⟨S256x64x4x4x4x4, .f32⟩
  | 48 => ⟨S64x256x4x4, .f32⟩
  | 49 => ⟨S64x256x16, .f32⟩
  | 50 => ⟨S256x64x16, .f32⟩
  | 51 => ⟨S1x64x1, .f32⟩
  | 52 => ⟨S256x64x16, .f32⟩
  | 53 => ⟨S256x64x16, .f32⟩
  | 54 => ⟨S_, .f32⟩
  | 55 => ⟨S256x64x16, .f32⟩
  | 56 => ⟨S256x64x16, .f32⟩
  | 57 => ⟨S256x64x4x4, .f32⟩
  | 58 => ⟨S256x128, .f32⟩
  | 59 => ⟨S1x128, .f32⟩
  | 60 => ⟨S256x128, .f32⟩
  | 61 => ⟨S256x128, .f32⟩
  | 62 => ⟨S_, .f32⟩
  | 63 => ⟨S256x128, .f32⟩
  | 64 => ⟨S256x128, .f32⟩
  | 65 => ⟨S64x128, .f32⟩
  | 66 => ⟨S256x64, .f32⟩
  | 67 => ⟨S1x64, .f32⟩
  | 68 => ⟨S256x64, .f32⟩
  | 69 => ⟨S256x64, .f32⟩
  | 70 => ⟨S256x1x64, .f32⟩
  | 71 => ⟨S1x1024x64, .f32⟩
  | 72 => ⟨S256x1024x64, .f32⟩
  | 73 => ⟨S256x1024x64, .f32⟩
  | 74 => ⟨S256x1024x64, .f32⟩
  | 75 => ⟨S256x1024x64, .f32⟩
  | 76 => ⟨S_, .f32⟩
  | 77 => ⟨S256x1024, .f32⟩
  | 78 => ⟨S256x1024, .f32⟩
  | 79 => ⟨S256x1024, .i32⟩
  | 80 => ⟨S_, .f32⟩
  | 81 => ⟨S_, .i32⟩
  | 82 => ⟨S256, .f32⟩
  | 83 => ⟨S256, .i32⟩
  | 84 => ⟨S_, .i32⟩
  | 85 => ⟨S256, .i32⟩
  | 86 => ⟨S256, .i1⟩
  | 87 => ⟨S_, .i32⟩
  | 88 => ⟨S256, .i32⟩
  | 89 => ⟨S256, .i32⟩
  | 90 => ⟨S256, .i32⟩
  | 91 => ⟨S256x1, .i32⟩
  | 92 => ⟨S256x64, .f32⟩
  | 93 => ⟨S128x64, .f32⟩
  | 94 => ⟨S256x128, .f32⟩
  | 95 => ⟨S1x128, .f32⟩
  | 96 => ⟨S256x128, .f32⟩
  | 97 => ⟨S256x128, .f32⟩
  | 98 => ⟨S_, .f32⟩
  | 99 => ⟨S256x128, .f32⟩
  | 100 => ⟨S256x128, .f32⟩
  | 101 => ⟨S256x64x4x4, .f32⟩
  | 102 => ⟨S1x64x1x1, .f32⟩
  | 103 => ⟨S256x64x4x4, .f32⟩
  | 104 => ⟨S256x64x4x4, .f32⟩
  | 105 => ⟨S_, .f32⟩
  | 106 => ⟨S256x64x4x4, .f32⟩
  | 107 => ⟨S256x64x4x4, .f32⟩
  | 108 => ⟨S8, .i32⟩
  | 109 => ⟨S8x1, .i32⟩
  | 110 => ⟨S_, .i32⟩
  | 111 => ⟨S8x1, .i32⟩
  | 112 => ⟨S8x1, .i32⟩
  | 113 => ⟨S4, .i32⟩
  | 114 => ⟨S1x4, .i32⟩
  | 115 => ⟨S8x4, .i32⟩
  | 116 => ⟨S8x4, .i32⟩
  | 117 => ⟨S8x4, .i32⟩
  | 118 => ⟨S_, .f32⟩
  | 119 => ⟨S256x64x11x11, .f32⟩
  | 120 => ⟨S64x64x4x4, .f32⟩
  | 121 => ⟨S64x64x4x4, .f32⟩
  | 122 => ⟨S_, .i32⟩
  | 123 => ⟨S8x4, .i32⟩
  | 124 => ⟨S8x4, .i1⟩
  | 125 => ⟨S_, .i32⟩
  | 126 => ⟨S8x4, .i32⟩
  | 127 => ⟨S8x4, .i32⟩
  | _ => ⟨S256x3x64x64, .f32⟩

abbrev hbmTy0_2 (i : Nat) : BufTy := match i % 128 with
  | 0 => ⟨S8x4, .i32⟩
  | 1 => ⟨S8x4x1, .i32⟩
  | 2 => ⟨S256x64x8x4x11, .f32⟩
  | 3 => ⟨S_, .i32⟩
  | 4 => ⟨S8x4, .i32⟩
  | 5 => ⟨S8x4, .i1⟩
  | 6 => ⟨S_, .i32⟩
  | 7 => ⟨S8x4, .i32⟩
  | 8 => ⟨S8x4, .i32⟩
  | 9 => ⟨S8x4, .i32⟩
  | 10 => ⟨S8x4x1, .i32⟩
  | 11 => ⟨S256x64x8x4x8x4, .f32⟩
  | 12 => ⟨S64x256x8x8, .f32⟩
  | 13 => ⟨S64x256x64, .f32⟩
  | 14 => ⟨S256x64x64, .f32⟩
  | 15 => ⟨S1x64x1, .f32⟩
  | 16 => ⟨S256x64x64, .f32⟩
  | 17 => ⟨S256x64x64, .f32⟩
  | 18 => ⟨S_, .f32⟩
  | 19 => ⟨S256x64x64, .f32⟩
  | 20 => ⟨S256x64x64, .f32⟩
  | 21 => ⟨S256x64x8x8, .f32⟩
  | 22 => ⟨S16, .i32⟩
  | 23 => ⟨S16x1, .i32⟩
  | 24 => ⟨S_, .i32⟩
  | 25 => ⟨S16x1, .i32⟩
  | 26 => ⟨S16x1, .i32⟩
  | 27 => ⟨S4, .i32⟩
  | 28 => ⟨S1x4, .i32⟩
  | 29 => ⟨S16x4, .i32⟩
  | 30 => ⟨S16x4, .i32⟩
  | 31 => ⟨S16x4, .i32⟩
  | 32 => ⟨S_, .f32⟩
  | 33 => ⟨S256x64x19x19, .f32⟩
  | 34 => ⟨S64x32x4x4, .f32⟩
  | 35 => ⟨S32x64x4x4, .f32⟩
  | 36 => ⟨S_, .i32⟩
  | 37 => ⟨S16x4, .i32⟩
  | 38 => ⟨S16x4, .i1⟩
  | 39 => ⟨S_, .i32⟩
  | 40 => ⟨S16x4, .i32⟩
  | 41 => ⟨S16x4, .i32⟩
  | 42 => ⟨S16x4, .i32⟩
  | 43 => ⟨S16x4x1, .i32⟩
  | 44 => ⟨S256x64x16x4x19, .f32⟩
  | 45 => ⟨S_, .i32⟩
  | 46 => ⟨S16x4, .i32⟩
  | 47 => ⟨S16x4, .i1⟩
  | 48 => ⟨S_, .i32⟩
  | 49 => ⟨S16x4, .i32⟩
  | 50 => ⟨S16x4, .i32⟩
  | 51 => ⟨S16x4, .i32⟩
  | 52 => ⟨S16x4x1, .i32⟩
  | 53 => ⟨S256x64x16x4x16x4, .f32⟩
  | 54 => ⟨S32x256x16x16, .f32⟩
  | 55 => ⟨S32x256x256, .f32⟩
  | 56 => ⟨S256x32x256, .f32⟩
  | 57 => ⟨S1x32x1, .f32⟩
  | 58 => ⟨S256x32x256, .f32⟩
  | 59 => ⟨S256x32x256, .f32⟩
  | 60 => ⟨S_, .f32⟩
  | 61 => ⟨S256x32x256, .f32⟩
  | 62 => ⟨S256x32x256, .f32⟩
  | 63 => ⟨S256x32x16x16, .f32⟩
  | 64 => ⟨S32, .i32⟩
  | 65 => ⟨S32x1, .i32⟩
  | 66 => ⟨S_, .i32⟩
  | 67 => ⟨S32x1, .i32⟩
  | 68 => ⟨S32x1, .i32⟩
  | 69 => ⟨S4, .i32⟩
  | 70 => ⟨S1x4, .i32⟩
  | 71 => ⟨S32x4, .i32⟩
  | 72 => ⟨S32x4, .i32⟩
  | 73 => ⟨S32x4, .i32⟩
  | 74 => ⟨S_, .f32⟩
  | 75 => ⟨S256x32x35x35, .f32⟩
  | 76 => ⟨S32x32x4x4, .f32⟩
  | 77 => ⟨S32x32x4x4, .f32⟩
  | 78 => ⟨S_, .i32⟩
  | 79 => ⟨S32x4, .i32⟩
  | 80 => ⟨S32x4, .i1⟩
  | 81 => ⟨S_, .i32⟩
  | 82 => ⟨S32x4, .i32⟩
  | 83 => ⟨S32x4, .i32⟩
  | 84 => ⟨S32x4, .i32⟩
  | 85 => ⟨S32x4x1, .i32⟩
  | 86 => ⟨S256x32x32x4x35, .f32⟩
  | 87 => ⟨S_, .i32⟩
  | 88 => ⟨S32x4, .i32⟩
  | 89 => ⟨S32x4, .i1⟩
  | 90 => ⟨S_, .i32⟩
  | 91 => ⟨S32x4, .i32⟩
  | 92 => ⟨S32x4, .i32⟩
  | 93 => ⟨S32x4, .i32⟩
  | 94 => ⟨S32x4x1, .i32⟩
  | 95 => ⟨S256x32x32x4x32x4, .f32⟩
  | 96 => ⟨S32x256x32x32, .f32⟩
  | 97 => ⟨S32x256x1024, .f32⟩
  | 98 => ⟨S256x32x1024, .f32⟩
  | 99 => ⟨S1x32x1, .f32⟩
  | 100 => ⟨S256x32x1024, .f32⟩
  | 101 => ⟨S256x32x1024, .f32⟩
  | 102 => ⟨S_, .f32⟩
  | 103 => ⟨S256x32x1024, .f32⟩
  | 104 => ⟨S256x32x1024, .f32⟩
  | 105 => ⟨S256x32x32x32, .f32⟩
  | 106 => ⟨S64, .i32⟩
  | 107 => ⟨S64x1, .i32⟩
  | 108 => ⟨S_, .i32⟩
  | 109 => ⟨S64x1, .i32⟩
  | 110 => ⟨S64x1, .i32⟩
  | 111 => ⟨S4, .i32⟩
  | 112 => ⟨S1x4, .i32⟩
  | 113 => ⟨S64x4, .i32⟩
  | 114 => ⟨S64x4, .i32⟩
  | 115 => ⟨S64x4, .i32⟩
  | 116 => ⟨S_, .f32⟩
  | 117 => ⟨S256x32x67x67, .f32⟩
  | 118 => ⟨S32x3x4x4, .f32⟩
  | 119 => ⟨S3x32x4x4, .f32⟩
  | 120 => ⟨S_, .i32⟩
  | 121 => ⟨S64x4, .i32⟩
  | 122 => ⟨S64x4, .i1⟩
  | 123 => ⟨S_, .i32⟩
  | 124 => ⟨S64x4, .i32⟩
  | 125 => ⟨S64x4, .i32⟩
  | 126 => ⟨S64x4, .i32⟩
  | 127 => ⟨S64x4x1, .i32⟩
  | _ => ⟨S256x3x64x64, .f32⟩

abbrev hbmTy0_3 (i : Nat) : BufTy := match i % 128 with
  | 0 => ⟨S256x32x64x4x67, .f32⟩
  | 1 => ⟨S_, .i32⟩
  | 2 => ⟨S64x4, .i32⟩
  | 3 => ⟨S64x4, .i1⟩
  | 4 => ⟨S_, .i32⟩
  | 5 => ⟨S64x4, .i32⟩
  | 6 => ⟨S64x4, .i32⟩
  | 7 => ⟨S64x4, .i32⟩
  | 8 => ⟨S64x4x1, .i32⟩
  | 9 => ⟨S256x32x64x4x64x4, .f32⟩
  | 10 => ⟨S3x256x64x64, .f32⟩
  | 11 => ⟨S3x256x4096, .f32⟩
  | 12 => ⟨S256x3x4096, .f32⟩
  | 13 => ⟨S1x3x1, .f32⟩
  | 14 => ⟨S256x3x4096, .f32⟩
  | 15 => ⟨S256x3x4096, .f32⟩
  | 16 => ⟨S256x3x64x64, .f32⟩
  | 17 => ⟨S1024x1x64, .f32⟩
  | 18 => ⟨S1x256x64, .f32⟩
  | 19 => ⟨S1024x256x64, .f32⟩
  | 20 => ⟨S1024x256x64, .f32⟩
  | 21 => ⟨S1024x256x64, .f32⟩
  | 22 => ⟨S1024x256x64, .f32⟩
  | 23 => ⟨S_, .f32⟩
  | 24 => ⟨S1024x256, .f32⟩
  | 25 => ⟨S1024x256, .f32⟩
  | 26 => ⟨S1024x256, .i32⟩
  | 27 => ⟨S_, .f32⟩
  | 28 => ⟨S_, .i32⟩
  | 29 => ⟨S1024, .f32⟩
  | 30 => ⟨S1024, .i32⟩
  | 31 => ⟨S_, .i32⟩
  | 32 => ⟨S1024, .i32⟩
  | 33 => ⟨S1024, .i1⟩
  | 34 => ⟨S_, .i32⟩
  | 35 => ⟨S1024, .i32⟩
  | 36 => ⟨S1024, .i32⟩
  | 37 => ⟨S1024, .i32⟩
  | 38 => ⟨S1024x1, .i32⟩
  | 39 => ⟨S1024x64, .f32⟩
  | _ => ⟨S256x3x64x64, .f32⟩

abbrev hbmTy (i : Nat) : BufTy := match i / 128 with
  | 0 => hbmTy0_0 i
  | 1 => hbmTy0_1 i
  | 2 => hbmTy0_2 i
  | 3 => hbmTy0_3 i
  | _ => ⟨S256x3x64x64, .f32⟩

abbrev bufTy : (tb : Table) → Fin (tcTables nBuf tb) → BufTy
  | .hbm, ⟨i, _⟩ => hbmTy i
  | _, _ => ⟨S256x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_c_0 : Ref sig .tc := ⟨.hbm, 38, rfl⟩
abbrev main_v10 : Ref sig .tc := ⟨.hbm, 39, rfl⟩
abbrev main_v11 : Ref sig .tc := ⟨.hbm, 40, rfl⟩
abbrev main_c_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c_2 : Ref sig .tc := ⟨.hbm, 47, rfl⟩
abbrev main_v17 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_c_7 : Ref sig .tc := ⟨.hbm, 78, rfl⟩
abbrev main_v43 : Ref sig .tc := ⟨.hbm, 79, rfl⟩
abbrev main_v44 : Ref sig .tc := ⟨.hbm, 80, rfl⟩
abbrev main_c_8 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_9 : Ref sig .tc := ⟨.hbm, 87, rfl⟩
abbrev main_v50 : Ref sig .tc := ⟨.hbm, 88, rfl⟩
abbrev main_v51 : Ref sig .tc := ⟨.hbm, 89, rfl⟩
abbrev main_c_10 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_11 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_12 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_13 : Ref sig .tc := ⟨.hbm, 116, rfl⟩
abbrev main_v75 : Ref sig .tc := ⟨.hbm, 117, rfl⟩
abbrev main_c_14 : Ref sig .tc := ⟨.hbm, 118, rfl⟩
abbrev main_v76 : Ref sig .tc := ⟨.hbm, 119, rfl⟩
abbrev main_v77 : Ref sig .tc := ⟨.hbm, 120, rfl⟩
abbrev main_c_15 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_16 : Ref sig .tc := ⟨.hbm, 127, rfl⟩
abbrev main_v83 : Ref sig .tc := ⟨.hbm, 128, rfl⟩
abbrev main_v84 : Ref sig .tc := ⟨.hbm, 129, rfl⟩
abbrev main_c_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_18 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_c_19 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_cst_20 : Ref sig .tc := ⟨.hbm, 156, rfl⟩
abbrev main_v108 : Ref sig .tc := ⟨.hbm, 157, rfl⟩
abbrev main_c_21 : Ref sig .tc := ⟨.hbm, 158, rfl⟩
abbrev main_v109 : Ref sig .tc := ⟨.hbm, 159, rfl⟩
abbrev main_v110 : Ref sig .tc := ⟨.hbm, 160, rfl⟩
abbrev main_c_22 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_23 : Ref sig .tc := ⟨.hbm, 167, rfl⟩
abbrev main_v116 : Ref sig .tc := ⟨.hbm, 168, rfl⟩
abbrev main_v117 : Ref sig .tc := ⟨.hbm, 169, rfl⟩
abbrev main_c_24 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_25 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_26 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_cst_27 : Ref sig .tc := ⟨.hbm, 204, rfl⟩
abbrev main_v149 : Ref sig .tc := ⟨.hbm, 205, rfl⟩
abbrev main_v150 : Ref sig .tc := ⟨.hbm, 206, rfl⟩
abbrev main_call0_v0 : Ref sig .tc := ⟨.hbm, 207, rfl⟩
abbrev main_call0_cst : Ref sig .tc := ⟨.hbm, 208, rfl⟩
abbrev main_call0_c : Ref sig .tc := ⟨.hbm, 209, rfl⟩
abbrev main_call0_v1_0 : Ref sig .tc := ⟨.hbm, 210, rfl⟩
abbrev main_v151 : Ref sig .tc := ⟨.hbm, 211, rfl⟩
abbrev main_c_28 : Ref sig .tc := ⟨.hbm, 212, rfl⟩
abbrev main_v152 : Ref sig .tc := ⟨.hbm, 213, rfl⟩
abbrev main_v153 : Ref sig .tc := ⟨.hbm, 214, rfl⟩
abbrev main_c_29 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_30 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_31 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_c_32 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_cst_33 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_c_34 : Ref sig .tc := ⟨.hbm, 250, rfl⟩
abbrev main_v184 : Ref sig .tc := ⟨.hbm, 251, rfl⟩
abbrev main_v185 : Ref sig .tc := ⟨.hbm, 252, rfl⟩
abbrev main_c_35 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_c_36 : Ref sig .tc := ⟨.hbm, 259, rfl⟩
abbrev main_v191 : Ref sig .tc := ⟨.hbm, 260, rfl⟩
abbrev main_v192 : Ref sig .tc := ⟨.hbm, 261, rfl⟩
abbrev main_c_37 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_cst_38 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_c_39 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_cst_40 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_c_41 : Ref sig .tc := ⟨.hbm, 292, rfl⟩
abbrev main_v219 : Ref sig .tc := ⟨.hbm, 293, rfl⟩
abbrev main_v220 : Ref sig .tc := ⟨.hbm, 294, rfl⟩
abbrev main_c_42 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_c_43 : Ref sig .tc := ⟨.hbm, 301, rfl⟩
abbrev main_v226 : Ref sig .tc := ⟨.hbm, 302, rfl⟩
abbrev main_v227 : Ref sig .tc := ⟨.hbm, 303, rfl⟩
abbrev main_c_44 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_v237 : Ref sig .tc := ⟨.hbm, 314, rfl⟩
abbrev main_v238 : Ref sig .tc := ⟨.hbm, 315, rfl⟩
abbrev main_cst_45 : Ref sig .tc := ⟨.hbm, 316, rfl⟩
abbrev main_v239 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_c_46 : Ref sig .tc := ⟨.hbm, 322, rfl⟩
abbrev main_v244 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_cst_47 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_c_48 : Ref sig .tc := ⟨.hbm, 334, rfl⟩
abbrev main_v254 : Ref sig .tc := ⟨.hbm, 335, rfl⟩
abbrev main_v255 : Ref sig .tc := ⟨.hbm, 336, rfl⟩
abbrev main_c_49 : Ref sig .tc := ⟨.hbm, 337, rfl⟩
abbrev main_v256 : Ref sig .tc := ⟨.hbm, 338, rfl⟩
abbrev main_v257 : Ref sig .tc := ⟨.hbm, 339, rfl⟩
abbrev main_v258 : Ref sig .tc := ⟨.hbm, 340, rfl⟩
abbrev main_v259 : Ref sig .tc := ⟨.hbm, 341, rfl⟩
abbrev main_v260 : Ref sig .tc := ⟨.hbm, 342, rfl⟩
abbrev main_c_50 : Ref sig .tc := ⟨.hbm, 343, rfl⟩
abbrev main_v261 : Ref sig .tc := ⟨.hbm, 344, rfl⟩
abbrev main_v262 : Ref sig .tc := ⟨.hbm, 345, rfl⟩
abbrev main_c_51 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_cst_52 : Ref sig .tc := ⟨.hbm, 358, rfl⟩
abbrev main_v274 : Ref sig .tc := ⟨.hbm, 359, rfl⟩
abbrev main_v275 : Ref sig .tc := ⟨.hbm, 360, rfl⟩
abbrev main_v276 : Ref sig .tc := ⟨.hbm, 361, rfl⟩
abbrev main_v277 : Ref sig .tc := ⟨.hbm, 362, rfl⟩
abbrev main_v278 : Ref sig .tc := ⟨.hbm, 363, rfl⟩
abbrev main_c_53 : Ref sig .tc := ⟨.hbm, 364, rfl⟩
abbrev main_v279 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_cst_54 : Ref sig .tc := ⟨.hbm, 372, rfl⟩
abbrev main_v286 : Ref sig .tc := ⟨.hbm, 373, rfl⟩
abbrev main_v287 : Ref sig .tc := ⟨.hbm, 374, rfl⟩
abbrev main_v288 : Ref sig .tc := ⟨.hbm, 375, rfl⟩
abbrev main_c_55 : Ref sig .tc := ⟨.hbm, 376, rfl⟩
abbrev main_v289 : Ref sig .tc := ⟨.hbm, 377, rfl⟩
abbrev main_v290 : Ref sig .tc := ⟨.hbm, 378, rfl⟩
abbrev main_c_56 : Ref sig .tc := ⟨.hbm, 379, rfl⟩
abbrev main_v291 : Ref sig .tc := ⟨.hbm, 380, rfl⟩
abbrev main_v292 : Ref sig .tc := ⟨.hbm, 381, rfl⟩
abbrev main_v293 : Ref sig .tc := ⟨.hbm, 382, rfl⟩
abbrev main_v294 : Ref sig .tc := ⟨.hbm, 383, rfl⟩
abbrev main_v295 : Ref sig .tc := ⟨.hbm, 384, rfl⟩
abbrev main_c_57 : Ref sig .tc := ⟨.hbm, 385, rfl⟩
abbrev main_v296 : Ref sig .tc := ⟨.hbm, 386, rfl⟩
abbrev main_v297 : Ref sig .tc := ⟨.hbm, 387, rfl⟩
abbrev main_c_58 : Ref sig .tc := ⟨.hbm, 388, rfl⟩
abbrev main_v298 : Ref sig .tc := ⟨.hbm, 389, rfl⟩
abbrev main_v299 : Ref sig .tc := ⟨.hbm, 390, rfl⟩
abbrev main_v300 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_v306 : Ref sig .tc := ⟨.hbm, 397, rfl⟩
abbrev main_v307 : Ref sig .tc := ⟨.hbm, 398, rfl⟩
abbrev main_v308 : Ref sig .tc := ⟨.hbm, 399, rfl⟩
abbrev main_v309 : Ref sig .tc := ⟨.hbm, 400, rfl⟩
abbrev main_v310 : Ref sig .tc := ⟨.hbm, 401, rfl⟩
abbrev main_v311 : Ref sig .tc := ⟨.hbm, 402, rfl⟩
abbrev main_v312 : Ref sig .tc := ⟨.hbm, 403, rfl⟩
abbrev main_v313 : Ref sig .tc := ⟨.hbm, 404, rfl⟩
abbrev main_v314 : Ref sig .tc := ⟨.hbm, 405, rfl⟩
abbrev main_v315 : Ref sig .tc := ⟨.hbm, 406, rfl⟩
abbrev main_cst_59 : Ref sig .tc := ⟨.hbm, 407, rfl⟩
abbrev main_v316 : Ref sig .tc := ⟨.hbm, 408, rfl⟩
abbrev main_v317 : Ref sig .tc := ⟨.hbm, 409, rfl⟩
abbrev main_call1_v0 : Ref sig .tc := ⟨.hbm, 410, rfl⟩
abbrev main_call1_cst : Ref sig .tc := ⟨.hbm, 411, rfl⟩
abbrev main_call1_c : Ref sig .tc := ⟨.hbm, 412, rfl⟩
abbrev main_call1_v1_0 : Ref sig .tc := ⟨.hbm, 413, rfl⟩
abbrev main_v318 : Ref sig .tc := ⟨.hbm, 414, rfl⟩
abbrev main_c_60 : Ref sig .tc := ⟨.hbm, 415, rfl⟩
abbrev main_v319 : Ref sig .tc := ⟨.hbm, 416, rfl⟩
abbrev main_v320 : Ref sig .tc := ⟨.hbm, 417, rfl⟩
abbrev main_c_61 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩

abbrev nD : Nat := 1
abbrev τ : Topo := Topo.v7x

variable {F : FTy → Type} [FloatOps F]
-- ==== Proof.RefFacts.lean ====
module

public import proofs.«01_k».proof.ReferenceIdeal
public import Idealize.ShloMosaic.Lib.Affine
public import Idealize.ShloMosaic.Lib.Decide
public import Idealize.ShloMosaic.Lib.Exec

@[expose] public section

set_option synthInstance.maxSize 4096
set_option Elab.async false

namespace Cert.ReferenceIdeal.Gen

open Idealize.ShloMosaic Idealize.SL.Sem

/-- Every side condition of the reference's shapes holds. -/
instance facts₀ : Facts₀ := by constructor <;> decide

/-- The reference's side conditions, all together. -/
instance facts : Facts := { facts₀ with }

end Cert.ReferenceIdeal.Gen
-- ==== Proof.RefOps.lean ====
module

public import proofs.«01_k».proof.Proof.RefFacts
public import Idealize.ShloMosaic.Lib.StableHlo.Run
public import Idealize.ShloMosaic.Lib.StableHlo.RunRead
public import Idealize.ShloMosaic.Lib.Pipeline.Frame

@[expose] public section

set_option Elab.async false
set_option maxRecDepth 16384

noncomputable section

/-! The reference's host operations as lists, one per layer (a layer that crosses a window of the printed program is
    cut there), the valuation after each layer, and the run. -/

namespace Cert.ReferenceIdeal.Val

open Cert.ReferenceIdeal Cert.ReferenceIdeal.Gen Cert.ReferenceIdeal.Facts₀
open Idealize.ShloMosaic Idealize.ShloMosaic.TcCoe Idealize.SL.Sem Idealize.ShloMosaic.StableHlo

variable {F : FTy → Type} [FloatOps F]

/-- Operations of the first encoder convolution. -/
abbrev ops1 : List (HloOp τ sig (Elt F)) :=
  [ nullary main_v0 (iotaInDim S32 32 0),
    unary main_v0 main_v1 (broadcastInDim S32x1 ![0] bcast_S32_S32x1_0 : (⟨S32, .i32⟩ : BufTy).Contents (Elt F) → (⟨S32x1, .i32⟩ : BufTy).Contents (Elt F)),
    nullary main_c (constantI S_ 32 2#32),
    unary main_c main_v2 (broadcastInDim S32x1 ![] bcast_S_S32x1 : (⟨S_, .i32⟩ : BufTy).Contents (Elt F) → (⟨S32x1, .i32⟩ : BufTy).Contents (Elt F)),
    binary main_v2 main_v1 main_v3 (muli : (⟨S32x1, .i32⟩ : BufTy).Contents (Elt F) → (⟨S32x1, .i32⟩ : BufTy).Contents (Elt F) → (⟨S32x1, .i32⟩ : BufTy).Contents (Elt F)),
    nullary main_v4 (iotaInDim S4 32 0),
    unary main_v4 main_v5 (broadcastInDim S1x4 ![1] bcast_S4_S1x4_1 : (⟨S4, .i32⟩ : BufTy).Contents (Elt F) → (⟨S1x4, .i32⟩ : BufTy).Contents (Elt F)),
    unary main_v3 main_v6 (broadcastInDim S32x4 ![0, 1] bcast_S32x1_S32x4_0_1 : (⟨S32x1, .i32⟩ : BufTy).Contents (Elt F) → (⟨S32x4, .i32⟩ : BufTy).Contents (Elt F)),
    unary main_v5 main_v7 (broadcastInDim S32x4 ![0, 1] bcast_S1x4_S32x4_0_1 : (⟨S1x4, .i32⟩ : BufTy).Contents (Elt F) → (⟨S32x4, .i32⟩ : BufTy).Contents (Elt F)),
    binary main_v6 main_v7 main_v8 (addi : (⟨S32x4, .i32⟩ : BufTy).Contents (Elt F) → (⟨S32x4, .i32⟩ : BufTy).Contents (Elt F) → (⟨S32x4, .i32⟩ : BufTy).Contents (Elt F)),
    nullary main_cst (constant S_ .f32 0x00000000#32),
    binary main_arg0 main_cst main_v9 ((fun x v => pad S256x3x66x66 ![0, 0, 1, 1] ![0, 0, 1, 1] ![0, 0, 0, 0] x v pads_S256x3x64x64_S256x3x66x66_000_000_110_110 h_S_) : (⟨S256x3x64x64, .f32⟩ : BufTy).Contents (Elt F) → (⟨S_, .f32⟩ : BufTy).Contents (Elt F) → (⟨S256x3x66x66, .f32⟩ : BufTy).Contents (Elt F)),
    nullary main_c_0 (constantI S_ 32 0#32),
    unary main_c_0 main_v10 (broadcastInDim S32x4 ![] bcast_S_S32x4 : (⟨S_, .i32⟩ : BufTy).Contents (Elt F) → (⟨S32x4, .i32⟩ : BufTy).Contents (Elt F)),
    binary main_v8 main_v10 main_v11 (cmpi .slt : (⟨S32x4, .i32⟩ : BufTy).Contents (Elt F) → (⟨S32x4, .i32⟩ : BufTy).Contents (Elt F) → (⟨S32x4, .i1⟩ : BufTy).Contents (Elt F)),
    nullary main_c_1 (constantI S_ 32 66#32),
    unary main_c_1 main_v12 (broadcastInDim S32x4 ![] bcast_S_S32x4 : (⟨S_, .i32⟩ : BufTy).Contents (Elt F) → (⟨S32x4, .i32⟩ : BufTy).Contents (Elt F)),
    binary main_v8 main_v12 main_v13 (addi : (⟨S32x4, .i32⟩ : BufTy).Contents (Elt F) → (⟨S32x4, .i32⟩ : BufTy).Contents (Elt F) → (⟨S32x4, .i32⟩ : BufTy).Contents (Elt F)),
    ternary main_v11 main_v13 main_v8 main_v14 (select : (⟨S32x4, .i1⟩ : BufTy).Contents (Elt F) → (⟨S32x4, .i32⟩ : BufTy).Contents (Elt F) → (⟨S32x4, .i32⟩ : BufTy).Contents (Elt F) → (⟨S32x4, .i32⟩ : BufTy).Contents (Elt F)),
    unary main_v14 main_v15 (broadcastInDim S32x4x1 ![0, 1] bcast_S32x4_S32x4x1_0_1 : (⟨S32x4, .i32⟩ : BufTy).Contents (Elt F) → (⟨S32x4x1, .i32⟩ : BufTy).Contents (Elt F)),
    binary main_v9 main_v15 main_v16 ((fun x i => Host.gather gather_S256x3x66x66_S32x4x1_S256x3x32x4x66_014_2_n_n_2_2_2563166 x i) : (⟨S256x3x66x66, .f32⟩ : BufTy).Contents (Elt F) → (⟨S32x4x1, .i32⟩ : BufTy).Contents (Elt F) → (⟨S256x3x32x4x66, .f32⟩ : BufTy).Contents (Elt F)),
    nullary main_c_2 (constantI S_ 32 0#32),
    unary main_c_2 main_v17 (broadcastInDim S32x4 ![] bcast_S_S32x4 : (⟨S_, .i32⟩ : BufTy).Contents (Elt F) → (⟨S32x4, .i32⟩ : BufTy).Contents (Elt F)),
    binary main_v8 main_v17 main_v18 (cmpi .slt : (⟨S32x4, .i32⟩ : BufTy).Contents (Elt F) → (⟨S32x4, .i32⟩ : BufTy).Contents (Elt F) → (⟨S32x4, .i1⟩ : BufTy).Contents (Elt F)),
    nullary main_c_3 (constantI S_ 32 66#32),
    unary main_c_3 main_v19 (broadcastInDim S32x4 ![] bcast_S_S32x4 : (⟨S_, .i32⟩ : BufTy).Contents (Elt F) → (⟨S32x4, .i32⟩ : BufTy).Contents (Elt F)),
    binary main_v8 main_v19 main_v20 (addi : (⟨S32x4, .i32⟩ : BufTy).Contents (Elt F) → (⟨S32x4, .i32⟩ : BufTy).Contents (Elt F) → (⟨S32x4, .i32⟩ : BufTy).Contents (Elt F)),
    ternary main_v18 main_v20 main_v8 main_v21 (select : (⟨S32x4, .i1⟩ : BufTy).Contents (Elt F) → (⟨S32x4, .i32⟩ : BufTy).Contents (Elt F) → (⟨S32x4, .i32⟩ : BufTy).Contents (Elt F) → (⟨S32x4, .i32⟩ : BufTy).Contents (Elt F)),
    unary main_v21 main_v22 (broadcastInDim S32x4x1 ![0, 1] bcast_S32x4_S32x4x1_0_1 : (⟨S32x4, .i32⟩ : BufTy).Contents (Elt F) → (⟨S32x4x1, .i32⟩ : BufTy).Contents (Elt F)),
    binary main_v16 main_v22 main_v23 ((fun x i => Host.gather gather_S256x3x32x4x66_S32x4x1_S256x3x32x4x32x4_0123_4_n_n_4_2_25633241 x i) : (⟨S256x3x32x4x66, .f32⟩ : BufTy).Contents (Elt F) → (⟨S32x4x1, .i32⟩ : BufTy).Contents (Elt F) → (⟨S256x3x32x4x32x4, .f32⟩ : BufTy).Contents (Elt F)),
    binary main_arg1 main_v23 main_v24 ((fun l r => Host.dotGeneral dot_S32x3x4x4_S256x3x32x4x32x4_S32x256x32x32_132_153_0_024_n_n none l r) : (⟨S32x3x4x4, .f32⟩ : BufTy).Contents (Elt F) → (⟨S256x3x32x4x32x4, .f32⟩ : BufTy).Contents (Elt F) → (⟨S32x256x32x32, .f32⟩ : BufTy).Contents (Elt F)),
    reshape main_v24 main_v25 (rfl : (.f32 : EltTy) = .f32) shapeCasts_S32x256x32x32_S32x256x1024,
    unary main_v25 main_v26 ((transpose S256x32x1024 [1, 0, 2] · transposes_S32x256x1024_S256x32x1024_1_0_2) : (⟨S32x256x1024, .f32⟩ : BufTy).Contents (Elt F) → (⟨S256x32x1024, .f32⟩ : BufTy).Contents (Elt F)),
    reshape main_arg2 main_v27 (rfl : (.f32 : EltTy) = .f32) shapeCasts_S32_S1x32x1,
    unary main_v27 main_v28 (broadcastInDim S256x32x1024 ![0, 1, 2] bcast_S1x32x1_S256x32x1024_0_1_2 : (⟨S1x32x1, .f32⟩ : BufTy).Contents (Elt F) → (⟨S256x32x1024, .f32⟩ : BufTy).Contents (Elt F)),
    binary main_v26 main_v28 main_v29 (addf : (⟨S256x32x1024, .f32⟩ : BufTy).Contents (Elt F) → (⟨S256x32x1024, .f32⟩ : BufTy).Contents (Elt F) → (⟨S256x32x1024, .f32⟩ : BufTy).Contents (Elt F)),
    nullary main_cst_4 (constant S_ .f32 0x00000000#32),
    unary main_cst_4 main_v30 (broadcastInDim S256x32x1024 ![] bcast_S_S256x32x1024 : (⟨S_, .f32⟩ : BufTy).Contents (Elt F) → (⟨S256x32x1024, .f32⟩ : BufTy).Contents (Elt F)),
    binary main_v29 main_v30 main_v31 (maximumf : (⟨S256x32x1024, .f32⟩ : BufTy).Contents (Elt F) → (⟨S256x32x1024, .f32⟩ : BufTy).Contents (Elt F) → (⟨S256x32x1024, .f32⟩ : BufTy).Contents (Elt F)),
    reshape main_v31 main_v32 (rfl : (.f32 : EltTy) = .f32) shapeCasts_S256x32x1024_S256x32x32x32 ]

/-- Operations of the second encoder convolution. -/
abbrev ops2_0 : List (HloOp τ sig (Elt F)) :=
  [ nullary main_v33 (iotaInDim S16 32 0),
    unary main_v33 main_v34 (broadcastInDim S16x1 ![0] bcast_S16_S16x1_0 : (⟨S16, .i32⟩ : BufTy).Contents (Elt F) → (⟨S16x1, .i32⟩ : BufTy).Contents (Elt F)),
    nullary main_c_5 (constantI S_ 32 2#32),
    unary main_c_5 main_v35 (broadcastInDim S16x1 ![] bcast_S_S16x1 : (⟨S_, .i32⟩ : BufTy).Contents (Elt F) → (⟨S16x1, .i32⟩ : BufTy).Contents (Elt F)),
    binary main_v35 main_v34 main_v36 (muli : (⟨S16x1, .i32⟩ : BufTy).Contents (Elt F) → (⟨S16x1, .i32⟩ : BufTy).Contents (Elt F) → (⟨S16x1, .i32⟩ : BufTy).Contents (Elt F)),
    nullary main_v37 (iotaInDim S4 32 0),
    unary main_v37 main_v38 (broadcastInDim S1x4 ![1] bcast_S4_S1x4_1 : (⟨S4, .i32⟩ : BufTy).Contents (Elt F) → (⟨S1x4, .i32⟩ : BufTy).Contents (Elt F)),
    unary main_v36 main_v39 (broadcastInDim S16x4 ![0, 1] bcast_S16x1_S16x4_0_1 : (⟨S16x1, .i32⟩ : BufTy).Contents (Elt F) → (⟨S16x4, .i32⟩ : BufTy).Contents (Elt F)),
    unary main_v38 main_v40 (broadcastInDim S16x4 ![0, 1] bcast_S1x4_S16x4_0_1 : (⟨S1x4, .i32⟩ : BufTy).Contents (Elt F) → (⟨S16x4, .i32⟩ : BufTy).Contents (Elt F)),
    binary main_v39 main_v40 main_v41 (addi : (⟨S16x4, .i32⟩ : BufTy).Contents (Elt F) → (⟨S16x4, .i32⟩ : BufTy).Contents (Elt F) → (⟨S16x4, .i32⟩ : BufTy).Contents (Elt F)),
    nullary main_cst_6 (constant S_ .f32 0x00000000#32),
    binary main_v32 main_cst_6 main_v42 ((fun x v => pad S256x32x34x34 ![0, 0, 1, 1] ![0, 0, 1, 1] ![0, 0, 0, 0] x v pads_S256x32x32x32_S256x32x34x34_000_000_110_110 h_S_) : (⟨S256x32x32x32, .f32⟩ : BufTy).Contents (Elt F) → (⟨S_, .f32⟩ : BufTy).Contents (Elt F) → (⟨S256x32x34x34, .f32⟩ : BufTy).Contents (Elt F)),
    nullary main_c_7 (constantI S_ 32 0#32),
    unary main_c_7 main_v43 (broadcastInDim S16x4 ![] bcast_S_S16x4 : (⟨S_, .i32⟩ : BufTy).Contents (Elt F) → (⟨S16x4, .i32⟩ : BufTy).Contents (Elt F)),
    binary main_v41 main_v43 main_v44 (cmpi .slt : (⟨S16x4, .i32⟩ : BufTy).Contents (Elt F) → (⟨S16x4, .i32⟩ : BufTy).Contents (Elt F) → (⟨S16x4, .i1⟩ : BufTy).Contents (Elt F)),
    nullary main_c_8 (constantI S_ 32 34#32),
    unary main_c_8 main_v45 (broadcastInDim S16x4 ![] bcast_S_S16x4 : (⟨S_, .i32⟩ : BufTy).Contents (Elt F) → (⟨S16x4, .i32⟩ : BufTy).Contents (Elt F)),
    binary main_v41 main_v45 main_v46 (addi : (⟨S16x4, .i32⟩ : BufTy).Contents (Elt F) → (⟨S16x4, .i32⟩ : BufTy).Contents (Elt F) → (⟨S16x4, .i32⟩ : BufTy).Contents (Elt F)),
    ternary main_v44 main_v46 main_v41 main_v47 (select : (⟨S16x4, .i1⟩ : BufTy).Contents (Elt F) → (⟨S16x4, .i32⟩ : BufTy).Contents (Elt F) → (⟨S16x4, .i32⟩ : BufTy).Contents (Elt F) → (⟨S16x4, .i32⟩ : BufTy).Contents (Elt F)),
    unary main_v47 main_v48 (broadcastInDim S16x4x1 ![0, 1] bcast_S16x4_S16x4x1_0_1 : (⟨S16x4, .i32⟩ : BufTy).Contents (Elt F) → (⟨S16x4x1, .i32⟩ : BufTy).Contents (Elt F)) ]

/-- Operations of the second encoder convolution. -/
abbrev ops2_1 : List (HloOp τ sig (Elt F)) :=
  [ binary main_v42 main_v48 main_v49 ((fun x i => Host.gather gather_S256x32x34x34_S16x4x1_S256x32x16x4x34_014_2_n_n_2_2_25632134 x i) : (⟨S256x32x34x34, .f32⟩ : BufTy).Contents (Elt F) → (⟨S16x4x1, .i32⟩ : BufTy).Contents (Elt F) → (⟨S256x32x16x4x34, .f32⟩ : BufTy).Contents (Elt F)),
    nullary main_c_9 (constantI S_ 32 0#32),
    unary main_c_9 main_v50 (broadcastInDim S16x4 ![] bcast_S_S16x4 : (⟨S_, .i32⟩ : BufTy).Contents (Elt F) → (⟨S16x4, .i32⟩ : BufTy).Contents (Elt F)),
    binary main_v41 main_v50 main_v51 (cmpi .slt : (⟨S16x4, .i32⟩ : BufTy).Contents (Elt F) → (⟨S16x4, .i32⟩ : BufTy).Contents (Elt F) → (⟨S16x4, .i1⟩ : BufTy).Contents (Elt F)),
    nullary main_c_10 (constantI S_ 32 34#32),
    unary main_c_10 main_v52 (broadcastInDim S16x4 ![] bcast_S_S16x4 : (⟨S_, .i32⟩ : BufTy).Contents (Elt F) → (⟨S16x4, .i32⟩ : BufTy).Contents (Elt F)),
    binary main_v41 main_v52 main_v53 (addi : (⟨S16x4, .i32⟩ : BufTy).Contents (Elt F) → (⟨S16x4, .i32⟩ : BufTy).Contents (Elt F) → (⟨S16x4, .i32⟩ : BufTy).Contents (Elt F)),
    ternary main_v51 main_v53 main_v41 main_v54 (select : (⟨S16x4, .i1⟩ : BufTy).Contents (Elt F) → (⟨S16x4, .i32⟩ : BufTy).Contents (Elt F) → (⟨S16x4, .i32⟩ : BufTy).Contents (Elt F) → (⟨S16x4, .i32⟩ : BufTy).Contents (Elt F)),
    unary main_v54 main_v55 (broadcastInDim S16x4x1 ![0, 1] bcast_S16x4_S16x4x1_0_1 : (⟨S16x4, .i32⟩ : BufTy).Contents (Elt F) → (⟨S16x4x1, .i32⟩ : BufTy).Contents (Elt F)),
    binary main_v49 main_v55 main_v56 ((fun x i => Host.gather gather_S256x32x16x4x34_S16x4x1_S256x32x16x4x16x4_0123_4_n_n_4_2_256321641 x i) : (⟨S256x32x16x4x34, .f32⟩ : BufTy).Contents (Elt F) → (⟨S16x4x1, .i32⟩ : BufTy).Contents (Elt F) → (⟨S256x32x16x4x16x4, .f32⟩ : BufTy).Contents (Elt F)),
    binary main_arg3 main_v56 main_v57 ((fun l r => Host.dotGeneral dot_S32x32x4x4_S256x32x16x4x16x4_S32x256x16x16_132_153_0_024_n_n none l r) : (⟨S32x32x4x4, .f32⟩ : BufTy).Contents (Elt F) → (⟨S256x32x16x4x16x4, .f32⟩ : BufTy).Contents (Elt F) → (⟨S32x256x16x16, .f32⟩ : BufTy).Contents (Elt F)),
    reshape main_v57 main_v58 (rfl : (.f32 : EltTy) = .f32) shapeCasts_S32x256x16x16_S32x256x256,
    unary main_v58 main_v59 ((transpose S256x32x256 [1, 0, 2] · transposes_S32x256x256_S256x32x256_1_0_2) : (⟨S32x256x256, .f32⟩ : BufTy).Contents (Elt F) → (⟨S256x32x256, .f32⟩ : BufTy).Contents (Elt F)),
    reshape main_arg4 main_v60 (rfl : (.f32 : EltTy) = .f32) shapeCasts_S32_S1x32x1,
    unary main_v60 main_v61 (broadcastInDim S256x32x256 ![0, 1, 2] bcast_S1x32x1_S256x32x256_0_1_2 : (⟨S1x32x1, .f32⟩ : BufTy).Contents (Elt F) → (⟨S256x32x256, .f32⟩ : BufTy).Contents (Elt F)),
    binary main_v59 main_v61 main_v62 (addf : (⟨S256x32x256, .f32⟩ : BufTy).Contents (Elt F) → (⟨S256x32x256, .f32⟩ : BufTy).Contents (Elt F) → (⟨S256x32x256, .f32⟩ : BufTy).Contents (Elt F)),
    nullary main_cst_11 (constant S_ .f32 0x00000000#32),
    unary main_cst_11 main_v63 (broadcastInDim S256x32x256 ![] bcast_S_S256x32x256 : (⟨S_, .f32⟩ : BufTy).Contents (Elt F) → (⟨S256x32x256, .f32⟩ : BufTy).Contents (Elt F)),
    binary main_v62 main_v63 main_v64 (maximumf : (⟨S256x32x256, .f32⟩ : BufTy).Contents (Elt F) → (⟨S256x32x256, .f32⟩ : BufTy).Contents (Elt F) → (⟨S256x32x256, .f32⟩ : BufTy).Contents (Elt F)),
    reshape main_v64 main_v65 (rfl : (.f32 : EltTy) = .f32) shapeCasts_S256x32x256_S256x32x16x16 ]

/-- Operations of the third encoder convolution. -/
abbrev ops3 : List (HloOp τ sig (Elt F)) :=
  [ nullary main_v66 (iotaInDim S8 32 0),
    unary main_v66 main_v67 (broadcastInDim S8x1 ![0] bcast_S8_S8x1_0 : (⟨S8, .i32⟩ : BufTy).Contents (Elt F) → (⟨S8x1, .i32⟩ : BufTy).Contents (Elt F)),
    nullary main_c_12 (constantI S_ 32 2#32),
    unary main_c_12 main_v68 (broadcastInDim S8x1 ![] bcast_S_S8x1 : (⟨S_, .i32⟩ : BufTy).Contents (Elt F) → (⟨S8x1, .i32⟩ : BufTy).Contents (Elt F)),
    binary main_v68 main_v67 main_v69 (muli : (⟨S8x1, .i32⟩ : BufTy).Contents (Elt F) → (⟨S8x1, .i32⟩ : BufTy).Contents (Elt F) → (⟨S8x1, .i32⟩ : BufTy).Contents (Elt F)),
    nullary main_v70 (iotaInDim S4 32 0),
    unary main_v70 main_v71 (broadcastInDim S1x4 ![1] bcast_S4_S1x4_1 : (⟨S4, .i32⟩ : BufTy).Contents (Elt F) → (⟨S1x4, .i32⟩ : BufTy).Contents (Elt F)),
    unary main_v69 main_v72 (broadcastInDim S8x4 ![0, 1] bcast_S8x1_S8x4_0_1 : (⟨S8x1, .i32⟩ : BufTy).Contents (Elt F) → (⟨S8x4, .i32⟩ : BufTy).Contents (Elt F)),
    unary main_v71 main_v73 (broadcastInDim S8x4 ![0, 1] bcast_S1x4_S8x4_0_1 : (⟨S1x4, .i32⟩ : BufTy).Contents (Elt F) → (⟨S8x4, .i32⟩ : BufTy).Contents (Elt F)),
    binary main_v72 main_v73 main_v74 (addi : (⟨S8x4, .i32⟩ : BufTy).Contents (Elt F) → (⟨S8x4, .i32⟩ : BufTy).Contents (Elt F) → (⟨S8x4, .i32⟩ : BufTy).Contents (Elt F)),
    nullary main_cst_13 (constant S_ .f32 0x00000000#32),
    binary main_v65 main_cst_13 main_v75 ((fun x v => pad S256x32x18x18 ![0, 0, 1, 1] ![0, 0, 1, 1] ![0, 0, 0, 0] x v pads_S256x32x16x16_S256x32x18x18_000_000_110_110 h_S_) : (⟨S256x32x16x16, .f32⟩ : BufTy).Contents (Elt F) → (⟨S_, .f32⟩ : BufTy).Contents (Elt F) → (⟨S256x32x18x18, .f32⟩ : BufTy).Contents (Elt F)),
    nullary main_c_14 (constantI S_ 32 0#32),
    unary main_c_14 main_v76 (broadcastInDim S8x4 ![] bcast_S_S8x4 : (⟨S_, .i32⟩ : BufTy).Contents (Elt F) → (⟨S8x4, .i32⟩ : BufTy).Contents (Elt F)),
    binary main_v74 main_v76 main_v77 (cmpi .slt : (⟨S8x4, .i32⟩ : BufTy).Contents (Elt F) → (⟨S8x4, .i32⟩ : BufTy).Contents (Elt F) → (⟨S8x4, .i1⟩ : BufTy).Contents (Elt F)),
    nullary main_c_15 (constantI S_ 32 18#32),
    unary main_c_15 main_v78 (broadcastInDim S8x4 ![] bcast_S_S8x4 : (⟨S_, .i32⟩ : BufTy).Contents (Elt F) → (⟨S8x4, .i32⟩ : BufTy).Contents (Elt F)),
    binary main_v74 main_v78 main_v79 (addi : (⟨S8x4, .i32⟩ : BufTy).Contents (Elt F) → (⟨S8x4, .i32⟩ : BufTy).Contents (Elt F) → (⟨S8x4, .i32⟩ : BufTy).Contents (Elt F)),
    ternary main_v77 main_v79 main_v74 main_v80 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v80 main_v81 (broadcastInDim S8x4x1 ![0, 1] bcast_S8x4_S8x4x1_0_1 : (⟨S8x4, .i32⟩ : BufTy).Contents (Elt F) → (⟨S8x4x1, .i32⟩ : BufTy).Contents (Elt F)),
    binary main_v75 main_v81 main_v82 ((fun x i => Host.gather gather_S256x32x18x18_S8x4x1_S256x32x8x4x18_014_2_n_n_2_2_25632118 x i) : (⟨S256x32x18x18, .f32⟩ : BufTy).Contents (Elt F) → (⟨S8x4x1, .i32⟩ : BufTy).Contents (Elt F) → (⟨S256x32x8x4x18, .f32⟩ : BufTy).Contents (Elt F)),
    nullary main_c_16 (constantI S_ 32 0#32),
    unary main_c_16 main_v83 (broadcastInDim S8x4 ![] bcast_S_S8x4 : (⟨S_, .i32⟩ : BufTy).Contents (Elt F) → (⟨S8x4, .i32⟩ : BufTy).Contents (Elt F)),
    binary main_v74 main_v83 main_v84 (cmpi .slt : (⟨S8x4, .i32⟩ : BufTy).Contents (Elt F) → (⟨S8x4, .i32⟩ : BufTy).Contents (Elt F) → (⟨S8x4, .i1⟩ : BufTy).Contents (Elt F)),
    nullary main_c_17 (constantI S_ 32 18#32),
    unary main_c_17 main_v85 (broadcastInDim S8x4 ![] bcast_S_S8x4 : (⟨S_, .i32⟩ : BufTy).Contents (Elt F) → (⟨S8x4, .i32⟩ : BufTy).Contents (Elt F)),
    binary main_v74 main_v85 main_v86 (addi : (⟨S8x4, .i32⟩ : BufTy).Contents (Elt F) → (⟨S8x4, .i32⟩ : BufTy).Contents (Elt F) → (⟨S8x4, .i32⟩ : BufTy).Contents (Elt F)),
    ternary main_v84 main_v86 main_v74 main_v87 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v87 main_v88 (broadcastInDim S8x4x1 ![0, 1] bcast_S8x4_S8x4x1_0_1 : (⟨S8x4, .i32⟩ : BufTy).Contents (Elt F) → (⟨S8x4x1, .i32⟩ : BufTy).Contents (Elt F)),
    binary main_v82 main_v88 main_v89 ((fun x i => Host.gather gather_S256x32x8x4x18_S8x4x1_S256x32x8x4x8x4_0123_4_n_n_4_2_25632841 x i) : (⟨S256x32x8x4x18, .f32⟩ : BufTy).Contents (Elt F) → (⟨S8x4x1, .i32⟩ : BufTy).Contents (Elt F) → (⟨S256x32x8x4x8x4, .f32⟩ : BufTy).Contents (Elt F)),
    binary main_arg5 main_v89 main_v90 ((fun l r => Host.dotGeneral dot_S64x32x4x4_S256x32x8x4x8x4_S64x256x8x8_132_153_0_024_n_n none l r) : (⟨S64x32x4x4, .f32⟩ : BufTy).Contents (Elt F) → (⟨S256x32x8x4x8x4, .f32⟩ : BufTy).Contents (Elt F) → (⟨S64x256x8x8, .f32⟩ : BufTy).Contents (Elt F)),
    reshape main_v90 main_v91 (rfl : (.f32 : EltTy) = .f32) shapeCasts_S64x256x8x8_S64x256x64,
    unary main_v91 main_v92 ((transpose S256x64x64 [1, 0, 2] · transposes_S64x256x64_S256x64x64_1_0_2) : (⟨S64x256x64, .f32⟩ : BufTy).Contents (Elt F) → (⟨S256x64x64, .f32⟩ : BufTy).Contents (Elt F)),
    reshape main_arg6 main_v93 (rfl : (.f32 : EltTy) = .f32) shapeCasts_S64_S1x64x1,
    unary main_v93 main_v94 (broadcastInDim S256x64x64 ![0, 1, 2] bcast_S1x64x1_S256x64x64_0_1_2 : (⟨S1x64x1, .f32⟩ : BufTy).Contents (Elt F) → (⟨S256x64x64, .f32⟩ : BufTy).Contents (Elt F)),
    binary main_v92 main_v94 main_v95 (addf : (⟨S256x64x64, .f32⟩ : BufTy).Contents (Elt F) → (⟨S256x64x64, .f32⟩ : BufTy).Contents (Elt F) → (⟨S256x64x64, .f32⟩ : BufTy).Contents (Elt F)),
    nullary main_cst_18 (constant S_ .f32 0x00000000#32),
    unary main_cst_18 main_v96 (broadcastInDim S256x64x64 ![] bcast_S_S256x64x64 : (⟨S_, .f32⟩ : BufTy).Contents (Elt F) → (⟨S256x64x64, .f32⟩ : BufTy).Contents (Elt F)),
    binary main_v95 main_v96 main_v97 (maximumf : (⟨S256x64x64, .f32⟩ : BufTy).Contents (Elt F) → (⟨S256x64x64, .f32⟩ : BufTy).Contents (Elt F) → (⟨S256x64x64, .f32⟩ : BufTy).Contents (Elt F)),
    reshape main_v97 main_v98 (rfl : (.f32 : EltTy) = .f32) shapeCasts_S256x64x64_S256x64x8x8 ]

/-- Operations of the fourth encoder convolution. -/
abbrev ops4 : List (HloOp τ sig (Elt F)) :=
  [ nullary main_v99 (iotaInDim S4 32 0),
    unary main_v99 main_v100 (broadcastInDim S4x1 ![0] bcast_S4_S4x1_0 : (⟨S4, .i32⟩ : BufTy).Contents (Elt F) → (⟨S4x1, .i32⟩ : BufTy).Contents (Elt F)),
    nullary main_c_19 (constantI S_ 32 2#32),
    unary main_c_19 main_v101 (broadcastInDim S4x1 ![] bcast_S_S4x1 : (⟨S_, .i32⟩ : BufTy).Contents (Elt F) → (⟨S4x1, .i32⟩ : BufTy).Contents (Elt F)),
    binary main_v101 main_v100 main_v102 (muli : (⟨S4x1, .i32⟩ : BufTy).Contents (Elt F) → (⟨S4x1, .i32⟩ : BufTy).Contents (Elt F) → (⟨S4x1, .i32⟩ : BufTy).Contents (Elt F)),
    nullary main_v103 (iotaInDim S4 32 0),
    unary main_v103 main_v104 (broadcastInDim S1x4 ![1] bcast_S4_S1x4_1 : (⟨S4, .i32⟩ : BufTy).Contents (Elt F) → (⟨S1x4, .i32⟩ : BufTy).Contents (Elt F)),
    unary main_v102 main_v105 (broadcastInDim S4x4 ![0, 1] bcast_S4x1_S4x4_0_1 : (⟨S4x1, .i32⟩ : BufTy).Contents (Elt F) → (⟨S4x4, .i32⟩ : BufTy).Contents (Elt F)),
    unary main_v104 main_v106 (broadcastInDim S4x4 ![0, 1] bcast_S1x4_S4x4_0_1 : (⟨S1x4, .i32⟩ : BufTy).Contents (Elt F) → (⟨S4x4, .i32⟩ : BufTy).Contents (Elt F)),
    binary main_v105 main_v106 main_v107 (addi : (⟨S4x4, .i32⟩ : BufTy).Contents (Elt F) → (⟨S4x4, .i32⟩ : BufTy).Contents (Elt F) → (⟨S4x4, .i32⟩ : BufTy).Contents (Elt F)),
    nullary main_cst_20 (constant S_ .f32 0x00000000#32),
    binary main_v98 main_cst_20 main_v108 ((fun x v => pad S256x64x10x10 ![0, 0, 1, 1] ![0, 0, 1, 1] ![0, 0, 0, 0] x v pads_S256x64x8x8_S256x64x10x10_000_000_110_110 h_S_) : (⟨S256x64x8x8, .f32⟩ : BufTy).Contents (Elt F) → (⟨S_, .f32⟩ : BufTy).Contents (Elt F) → (⟨S256x64x10x10, .f32⟩ : BufTy).Contents (Elt F)),
    nullary main_c_21 (constantI S_ 32 0#32),
    unary main_c_21 main_v109 (broadcastInDim S4x4 ![] bcast_S_S4x4 : (⟨S_, .i32⟩ : BufTy).Contents (Elt F) → (⟨S4x4, .i32⟩ : BufTy).Contents (Elt F)),
    binary main_v107 main_v109 main_v110 (cmpi .slt : (⟨S4x4, .i32⟩ : BufTy).Contents (Elt F) → (⟨S4x4, .i32⟩ : BufTy).Contents (Elt F) → (⟨S4x4, .i1⟩ : BufTy).Contents (Elt F)),
    nullary main_c_22 (constantI S_ 32 10#32),
    unary main_c_22 main_v111 (broadcastInDim S4x4 ![] bcast_S_S4x4 : (⟨S_, .i32⟩ : BufTy).Contents (Elt F) → (⟨S4x4, .i32⟩ : BufTy).Contents (Elt F)),
    binary main_v107 main_v111 main_v112 (addi : (⟨S4x4, .i32⟩ : BufTy).Contents (Elt F) → (⟨S4x4, .i32⟩ : BufTy).Contents (Elt F) → (⟨S4x4, .i32⟩ : BufTy).Contents (Elt F)),
    ternary main_v110 main_v112 main_v107 main_v113 (select : (⟨S4x4, .i1⟩ : BufTy).Contents (Elt F) → (⟨S4x4, .i32⟩ : BufTy).Contents (Elt F) → (⟨S4x4, .i32⟩ : BufTy).Contents (Elt F) → (⟨S4x4, .i32⟩ : BufTy).Contents (Elt F)),
    unary main_v113 main_v114 (broadcastInDim S4x4x1 ![0, 1] bcast_S4x4_S4x4x1_0_1 : (⟨S4x4, .i32⟩ : BufTy).Contents (Elt F) → (⟨S4x4x1, .i32⟩ : BufTy).Contents (Elt F)),
    binary main_v108 main_v114 main_v115 ((fun x i => Host.gather gather_S256x64x10x10_S4x4x1_S256x64x4x4x10_014_2_n_n_2_2_25664110 x i) : (⟨S256x64x10x10, .f32⟩ : BufTy).Contents (Elt F) → (⟨S4x4x1, .i32⟩ : BufTy).Contents (Elt F) → (⟨S256x64x4x4x10, .f32⟩ : BufTy).Contents (Elt F)),
    nullary main_c_23 (constantI S_ 32 0#32),
    unary main_c_23 main_v116 (broadcastInDim S4x4 ![] bcast_S_S4x4 : (⟨S_, .i32⟩ : BufTy).Contents (Elt F) → (⟨S4x4, .i32⟩ : BufTy).Contents (Elt F)),
    binary main_v107 main_v116 main_v117 (cmpi .slt : (⟨S4x4, .i32⟩ : BufTy).Contents (Elt F) → (⟨S4x4, .i32⟩ : BufTy).Contents (Elt F) → (⟨S4x4, .i1⟩ : BufTy).Contents (Elt F)),
    nullary main_c_24 (constantI S_ 32 10#32),
    unary main_c_24 main_v118 (broadcastInDim S4x4 ![] bcast_S_S4x4 : (⟨S_, .i32⟩ : BufTy).Contents (Elt F) → (⟨S4x4, .i32⟩ : BufTy).Contents (Elt F)),
    binary main_v107 main_v118 main_v119 (addi : (⟨S4x4, .i32⟩ : BufTy).Contents (Elt F) → (⟨S4x4, .i32⟩ : BufTy).Contents (Elt F) → (⟨S4x4, .i32⟩ : BufTy).Contents (Elt F)),
    ternary main_v117 main_v119 main_v107 main_v120 (select : (⟨S4x4, .i1⟩ : BufTy).Contents (Elt F) → (⟨S4x4, .i32⟩ : BufTy).Contents (Elt F) → (⟨S4x4, .i32⟩ : BufTy).Contents (Elt F) → (⟨S4x4, .i32⟩ : BufTy).Contents (Elt F)),
    unary main_v120 main_v121 (broadcastInDim S4x4x1 ![0, 1] bcast_S4x4_S4x4x1_0_1 : (⟨S4x4, .i32⟩ : BufTy).Contents (Elt F) → (⟨S4x4x1, .i32⟩ : BufTy).Contents (Elt F)),
    binary main_v115 main_v121 main_v122 ((fun x i => Host.gather gather_S256x64x4x4x10_S4x4x1_S256x64x4x4x4x4_0123_4_n_n_4_2_25664441 x i) : (⟨S256x64x4x4x10, .f32⟩ : BufTy).Contents (Elt F) → (⟨S4x4x1, .i32⟩ : BufTy).Contents (Elt F) → (⟨S256x64x4x4x4x4, .f32⟩ : BufTy).Contents (Elt F)),
    binary main_arg7 main_v122 main_v123 ((fun l r => Host.dotGeneral dot_S64x64x4x4_S256x64x4x4x4x4_S64x256x4x4_132_153_0_024_n_n none l r) : (⟨S64x64x4x4, .f32⟩ : BufTy).Contents (Elt F) → (⟨S256x64x4x4x4x4, .f32⟩ : BufTy).Contents (Elt F) → (⟨S64x256x4x4, .f32⟩ : BufTy).Contents (Elt F)),
    reshape main_v123 main_v124 (rfl : (.f32 : EltTy) = .f32) shapeCasts_S64x256x4x4_S64x256x16,
    unary main_v124 main_v125 ((transpose S256x64x16 [1, 0, 2] · transposes_S64x256x16_S256x64x16_1_0_2) : (⟨S64x256x16, .f32⟩ : BufTy).Contents (Elt F) → (⟨S256x64x16, .f32⟩ : BufTy).Contents (Elt F)),
    reshape main_arg8 main_v126 (rfl : (.f32 : EltTy) = .f32) shapeCasts_S64_S1x64x1,
    unary main_v126 main_v127 (broadcastInDim S256x64x16 ![0, 1, 2] bcast_S1x64x1_S256x64x16_0_1_2 : (⟨S1x64x1, .f32⟩ : BufTy).Contents (Elt F) → (⟨S256x64x16, .f32⟩ : BufTy).Contents (Elt F)),
    binary main_v125 main_v127 main_v128 (addf : (⟨S256x64x16, .f32⟩ : BufTy).Contents (Elt F) → (⟨S256x64x16, .f32⟩ : BufTy).Contents (Elt F) → (⟨S256x64x16, .f32⟩ : BufTy).Contents (Elt F)),
    nullary main_cst_25 (constant S_ .f32 0x00000000#32),
    unary main_cst_25 main_v129 (broadcastInDim S256x64x16 ![] bcast_S_S256x64x16 : (⟨S_, .f32⟩ : BufTy).Contents (Elt F) → (⟨S256x64x16, .f32⟩ : BufTy).Contents (Elt F)),
    binary main_v128 main_v129 main_v130 (maximumf : (⟨S256x64x16, .f32⟩ : BufTy).Contents (Elt F) → (⟨S256x64x16, .f32⟩ : BufTy).Contents (Elt F) → (⟨S256x64x16, .f32⟩ : BufTy).Contents (Elt F)),
    reshape main_v130 main_v131 (rfl : (.f32 : EltTy) = .f32) shapeCasts_S256x64x16_S256x64x4x4 ]

/-- Operations of the last encoder convolution and the projection. -/
abbrev ops5 : List (HloOp τ sig (Elt F)) :=
  [ binary main_v131 main_arg9 main_v132 ((fun l r => Host.dotGeneral dot_S256x64x4x4_S128x64x4x4_S256x128_132_132_0_0_n_n none l r) : (⟨S256x64x4x4, .f32⟩ : BufTy).Contents (Elt F) → (⟨S128x64x4x4, .f32⟩ : BufTy).Contents (Elt F) → (⟨S256x128, .f32⟩ : BufTy).Contents (Elt F)),
    unary main_arg10 main_v133 (broadcastInDim S1x128 ![1] bcast_S128_S1x128_1 : (⟨S128, .f32⟩ : BufTy).Contents (Elt F) → (⟨S1x128, .f32⟩ : BufTy).Contents (Elt F)),
    unary main_v133 main_v134 (broadcastInDim S256x128 ![0, 1] bcast_S1x128_S256x128_0_1 : (⟨S1x128, .f32⟩ : BufTy).Contents (Elt F) → (⟨S256x128, .f32⟩ : BufTy).Contents (Elt F)),
    binary main_v132 main_v134 main_v135 (addf : (⟨S256x128, .f32⟩ : BufTy).Contents (Elt F) → (⟨S256x128, .f32⟩ : BufTy).Contents (Elt F) → (⟨S256x128, .f32⟩ : BufTy).Contents (Elt F)),
    nullary main_cst_26 (constant S_ .f32 0x00000000#32),
    unary main_cst_26 main_v136 (broadcastInDim S256x128 ![] bcast_S_S256x128 : (⟨S_, .f32⟩ : BufTy).Contents (Elt F) → (⟨S256x128, .f32⟩ : BufTy).Contents (Elt F)),
    binary main_v135 main_v136 main_v137 (maximumf : (⟨S256x128, .f32⟩ : BufTy).Contents (Elt F) → (⟨S256x128, .f32⟩ : BufTy).Contents (Elt F) → (⟨S256x128, .f32⟩ : BufTy).Contents (Elt F)),
    reshape main_arg11 main_v138 (rfl : (.f32 : EltTy) = .f32) shapeCasts_S64x128x1x1_S64x128,
    binary main_v137 main_v138 main_v139 ((fun l r => Host.dotGeneral dot_S256x128_S64x128_S256x64_1_1_0_0_n_n none l r) : (⟨S256x128, .f32⟩ : BufTy).Contents (Elt F) → (⟨S64x128, .f32⟩ : BufTy).Contents (Elt F) → (⟨S256x64, .f32⟩ : BufTy).Contents (Elt F)),
    unary main_arg12 main_v140 (broadcastInDim S1x64 ![1] bcast_S64_S1x64_1 : (⟨S64, .f32⟩ : BufTy).Contents (Elt F) → (⟨S1x64, .f32⟩ : BufTy).Contents (Elt F)),
    unary main_v140 main_v141 (broadcastInDim S256x64 ![0, 1] bcast_S1x64_S256x64_0_1 : (⟨S1x64, .f32⟩ : BufTy).Contents (Elt F) → (⟨S256x64, .f32⟩ : BufTy).Contents (Elt F)),
    binary main_v139 main_v141 main_v142 (addf : (⟨S256x64, .f32⟩ : BufTy).Contents (Elt F) → (⟨S256x64, .f32⟩ : BufTy).Contents (Elt F) → (⟨S256x64, .f32⟩ : BufTy).Contents (Elt F)) ]

/-- Operations of the nearest codebook row of each image code. -/
abbrev ops6_0 : List (HloOp τ sig (Elt F)) :=
  [ unary main_v142 main_v143 (broadcastInDim S256x1x64 ![0, 2] bcast_S256x64_S256x1x64_0_2 : (⟨S256x64, .f32⟩ : BufTy).Contents (Elt F) → (⟨S256x1x64, .f32⟩ : BufTy).Contents (Elt F)),
    unary main_arg13 main_v144 (broadcastInDim S1x1024x64 ![1, 2] bcast_S1024x64_S1x1024x64_1_2 : (⟨S1024x64, .f32⟩ : BufTy).Contents (Elt F) → (⟨S1x1024x64, .f32⟩ : BufTy).Contents (Elt F)),
    unary main_v143 main_v145 (broadcastInDim S256x1024x64 ![0, 1, 2] bcast_S256x1x64_S256x1024x64_0_1_2 : (⟨S256x1x64, .f32⟩ : BufTy).Contents (Elt F) → (⟨S256x1024x64, .f32⟩ : BufTy).Contents (Elt F)),
    unary main_v144 main_v146 (broadcastInDim S256x1024x64 ![0, 1, 2] bcast_S1x1024x64_S256x1024x64_0_1_2 : (⟨S1x1024x64, .f32⟩ : BufTy).Contents (Elt F) → (⟨S256x1024x64, .f32⟩ : BufTy).Contents (Elt F)),
    binary main_v145 main_v146 main_v147 (subf : (⟨S256x1024x64, .f32⟩ : BufTy).Contents (Elt F) → (⟨S256x1024x64, .f32⟩ : BufTy).Contents (Elt F) → (⟨S256x1024x64, .f32⟩ : BufTy).Contents (Elt F)),
    binary main_v147 main_v147 main_v148 (mulf : (⟨S256x1024x64, .f32⟩ : BufTy).Contents (Elt F) → (⟨S256x1024x64, .f32⟩ : BufTy).Contents (Elt F) → (⟨S256x1024x64, .f32⟩ : BufTy).Contents (Elt F)),
    nullary main_cst_27 (constant S_ .f32 0x00000000#32),
    binary main_v148 main_cst_27 main_v149 ((fun x v => Host.reduceAdd x v reducesTo_S256x1024x64_S256x1024_d2 h_S_) : (⟨S256x1024x64, .f32⟩ : BufTy).Contents (Elt F) → (⟨S_, .f32⟩ : BufTy).Contents (Elt F) → (⟨S256x1024, .f32⟩ : BufTy).Contents (Elt F)) ]

/-- Operations of the nearest codebook row of each image code. -/
abbrev ops6_1 : List (HloOp τ sig (Elt F)) :=
  [ unary main_v149 main_v150 (Host.sqrt : (⟨S256x1024, .f32⟩ : BufTy).Contents (Elt F) → (⟨S256x1024, .f32⟩ : BufTy).Contents (Elt F)),
    nullary main_call0_v0 (iotaInDim S256x1024 32 1),
    nullary main_call0_cst (constant S_ .f32 0x7F800000#32),
    nullary main_call0_c (constantI S_ 32 0#32),
    quaternary main_v150 main_call0_v0 main_call0_cst main_call0_c main_call0_v1_0 ((fun x y u v j => (Host.argReduce reducer_argmin_f32_i32 x y u v reducesTo_S256x1024_S256_d1 h_S_ j).1) : (⟨S256x1024, .f32⟩ : BufTy).Contents (Elt F) → (⟨S256x1024, .i32⟩ : BufTy).Contents (Elt F) → (⟨S_, .f32⟩ : BufTy).Contents (Elt F) → (⟨S_, .i32⟩ : BufTy).Contents (Elt F) → (⟨S256, .f32⟩ : BufTy).Contents (Elt F)),
    quaternary main_v150 main_call0_v0 main_call0_cst main_call0_c main_v151 ((fun x y u v j => (Host.argReduce reducer_argmin_f32_i32 x y u v reducesTo_S256x1024_S256_d1 h_S_ j).2) : (⟨S256x1024, .f32⟩ : BufTy).Contents (Elt F) → (⟨S256x1024, .i32⟩ : BufTy).Contents (Elt F) → (⟨S_, .f32⟩ : BufTy).Contents (Elt F) → (⟨S_, .i32⟩ : BufTy).Contents (Elt F) → (⟨S256, .i32⟩ : BufTy).Contents (Elt F)),
    nullary main_c_28 (constantI S_ 32 0#32),
    unary main_c_28 main_v152 (broadcastInDim S256 ![] bcast_S_S256 : (⟨S_, .i32⟩ : BufTy).Contents (Elt F) → (⟨S256, .i32⟩ : BufTy).Contents (Elt F)),
    binary main_v151 main_v152 main_v153 (cmpi .slt : (⟨S256, .i32⟩ : BufTy).Contents (Elt F) → (⟨S256, .i32⟩ : BufTy).Contents (Elt F) → (⟨S256, .i1⟩ : BufTy).Contents (Elt F)),
    nullary main_c_29 (constantI S_ 32 1024#32),
    unary main_c_29 main_v154 (broadcastInDim S256 ![] bcast_S_S256 : (⟨S_, .i32⟩ : BufTy).Contents (Elt F) → (⟨S256, .i32⟩ : BufTy).Contents (Elt F)),
    binary main_v151 main_v154 main_v155 (addi : (⟨S256, .i32⟩ : BufTy).Contents (Elt F) → (⟨S256, .i32⟩ : BufTy).Contents (Elt F) → (⟨S256, .i32⟩ : BufTy).Contents (Elt F)),
    ternary main_v153 main_v155 main_v151 main_v156 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v156 main_v157 (broadcastInDim S256x1 ![0] bcast_S256_S256x1_0 : (⟨S256, .i32⟩ : BufTy).Contents (Elt F) → (⟨S256x1, .i32⟩ : BufTy).Contents (Elt F)),
    binary main_arg13 main_v157 main_v158 ((fun x i => Host.gather gather_S1024x64_S256x1_S256x64_1_0_n_n_0_1_164 x i) : (⟨S1024x64, .f32⟩ : BufTy).Contents (Elt F) → (⟨S256x1, .i32⟩ : BufTy).Contents (Elt F) → (⟨S256x64, .f32⟩ : BufTy).Contents (Elt F)) ]

/-- Operations of the first decoder layer. -/
abbrev ops7 : List (HloOp τ sig (Elt F)) :=
  [ reshape main_arg14 main_v159 (rfl : (.f32 : EltTy) = .f32) shapeCasts_S128x64x1x1_S128x64,
    binary main_v158 main_v159 main_v160 ((fun l r => Host.dotGeneral dot_S256x64_S128x64_S256x128_1_1_0_0_n_n none l r) : (⟨S256x64, .f32⟩ : BufTy).Contents (Elt F) → (⟨S128x64, .f32⟩ : BufTy).Contents (Elt F) → (⟨S256x128, .f32⟩ : BufTy).Contents (Elt F)),
    unary main_arg15 main_v161 (broadcastInDim S1x128 ![1] bcast_S128_S1x128_1 : (⟨S128, .f32⟩ : BufTy).Contents (Elt F) → (⟨S1x128, .f32⟩ : BufTy).Contents (Elt F)),
    unary main_v161 main_v162 (broadcastInDim S256x128 ![0, 1] bcast_S1x128_S256x128_0_1 : (⟨S1x128, .f32⟩ : BufTy).Contents (Elt F) → (⟨S256x128, .f32⟩ : BufTy).Contents (Elt F)),
    binary main_v160 main_v162 main_v163 (addf : (⟨S256x128, .f32⟩ : BufTy).Contents (Elt F) → (⟨S256x128, .f32⟩ : BufTy).Contents (Elt F) → (⟨S256x128, .f32⟩ : BufTy).Contents (Elt F)),
    nullary main_cst_30 (constant S_ .f32 0x00000000#32),
    unary main_cst_30 main_v164 (broadcastInDim S256x128 ![] bcast_S_S256x128 : (⟨S_, .f32⟩ : BufTy).Contents (Elt F) → (⟨S256x128, .f32⟩ : BufTy).Contents (Elt F)),
    binary main_v163 main_v164 main_v165 (maximumf : (⟨S256x128, .f32⟩ : BufTy).Contents (Elt F) → (⟨S256x128, .f32⟩ : BufTy).Contents (Elt F) → (⟨S256x128, .f32⟩ : BufTy).Contents (Elt F)) ]

/-- Operations of the second decoder layer. -/
abbrev ops8 : List (HloOp τ sig (Elt F)) :=
  [ binary main_v165 main_arg16 main_v166 ((fun l r => Host.dotGeneral dot_S256x128_S128x64x4x4_S256x64x4x4_1_0_0_123_n_n none l r) : (⟨S256x128, .f32⟩ : BufTy).Contents (Elt F) → (⟨S128x64x4x4, .f32⟩ : BufTy).Contents (Elt F) → (⟨S256x64x4x4, .f32⟩ : BufTy).Contents (Elt F)),
    reshape main_arg17 main_v167 (rfl : (.f32 : EltTy) = .f32) shapeCasts_S64_S1x64x1x1,
    unary main_v167 main_v168 (broadcastInDim S256x64x4x4 ![0, 1, 2, 3] bcast_S1x64x1x1_S256x64x4x4_0_1_2_3 : (⟨S1x64x1x1, .f32⟩ : BufTy).Contents (Elt F) → (⟨S256x64x4x4, .f32⟩ : BufTy).Contents (Elt F)),
    binary main_v166 main_v168 main_v169 (addf : (⟨S256x64x4x4, .f32⟩ : BufTy).Contents (Elt F) → (⟨S256x64x4x4, .f32⟩ : BufTy).Contents (Elt F) → (⟨S256x64x4x4, .f32⟩ : BufTy).Contents (Elt F)),
    nullary main_cst_31 (constant S_ .f32 0x00000000#32),
    unary main_cst_31 main_v170 (broadcastInDim S256x64x4x4 ![] bcast_S_S256x64x4x4 : (⟨S_, .f32⟩ : BufTy).Contents (Elt F) → (⟨S256x64x4x4, .f32⟩ : BufTy).Contents (Elt F)),
    binary main_v169 main_v170 main_v171 (maximumf : (⟨S256x64x4x4, .f32⟩ : BufTy).Contents (Elt F) → (⟨S256x64x4x4, .f32⟩ : BufTy).Contents (Elt F) → (⟨S256x64x4x4, .f32⟩ : BufTy).Contents (Elt F)) ]

/-- Operations of the first transposed convolution. -/
abbrev ops9_0 : List (HloOp τ sig (Elt F)) :=
  [ nullary main_v172 (iotaInDim S8 32 0),
    unary main_v172 main_v173 (broadcastInDim S8x1 ![0] bcast_S8_S8x1_0 : (⟨S8, .i32⟩ : BufTy).Contents (Elt F) → (⟨S8x1, .i32⟩ : BufTy).Contents (Elt F)),
    nullary main_c_32 (constantI S_ 32 1#32),
    unary main_c_32 main_v174 (broadcastInDim S8x1 ![] bcast_S_S8x1 : (⟨S_, .i32⟩ : BufTy).Contents (Elt F) → (⟨S8x1, .i32⟩ : BufTy).Contents (Elt F)),
    binary main_v174 main_v173 main_v175 (muli : (⟨S8x1, .i32⟩ : BufTy).Contents (Elt F) → (⟨S8x1, .i32⟩ : BufTy).Contents (Elt F) → (⟨S8x1, .i32⟩ : BufTy).Contents (Elt F)),
    nullary main_v176 (iotaInDim S4 32 0),
    unary main_v176 main_v177 (broadcastInDim S1x4 ![1] bcast_S4_S1x4_1 : (⟨S4, .i32⟩ : BufTy).Contents (Elt F) → (⟨S1x4, .i32⟩ : BufTy).Contents (Elt F)),
    unary main_v175 main_v178 (broadcastInDim S8x4 ![0, 1] bcast_S8x1_S8x4_0_1 : (⟨S8x1, .i32⟩ : BufTy).Contents (Elt F) → (⟨S8x4, .i32⟩ : BufTy).Contents (Elt F)),
    unary main_v177 main_v179 (broadcastInDim S8x4 ![0, 1] bcast_S1x4_S8x4_0_1 : (⟨S1x4, .i32⟩ : BufTy).Contents (Elt F) → (⟨S8x4, .i32⟩ : BufTy).Contents (Elt F)),
    binary main_v178 main_v179 main_v180 (addi : (⟨S8x4, .i32⟩ : BufTy).Contents (Elt F) → (⟨S8x4, .i32⟩ : BufTy).Contents (Elt F) → (⟨S8x4, .i32⟩ : BufTy).Contents (Elt F)),
    nullary main_cst_33 (constant S_ .f32 0x00000000#32),
    binary main_v171 main_cst_33 main_v181 ((fun x v => pad S256x64x11x11 ![0, 0, 2, 2] ![0, 0, 2, 2] ![0, 0, 1, 1] x v pads_S256x64x4x4_S256x64x11x11_000_000_221_221 h_S_) : (⟨S256x64x4x4, .f32⟩ : BufTy).Contents (Elt F) → (⟨S_, .f32⟩ : BufTy).Contents (Elt F) → (⟨S256x64x11x11, .f32⟩ : BufTy).Contents (Elt F)),
    unary main_arg18 main_v182 (Host.reverse [2, 3] : (⟨S64x64x4x4, .f32⟩ : BufTy).Contents (Elt F) → (⟨S64x64x4x4, .f32⟩ : BufTy).Contents (Elt F)),
    unary main_v182 main_v183 ((transpose S64x64x4x4 [1, 0, 2, 3] · transposes_S64x64x4x4_S64x64x4x4_1_0_2_3) : (⟨S64x64x4x4, .f32⟩ : BufTy).Contents (Elt F) → (⟨S64x64x4x4, .f32⟩ : BufTy).Contents (Elt F)),
    nullary main_c_34 (constantI S_ 32 0#32),
    unary main_c_34 main_v184 (broadcastInDim S8x4 ![] bcast_S_S8x4 : (⟨S_, .i32⟩ : BufTy).Contents (Elt F) → (⟨S8x4, .i32⟩ : BufTy).Contents (Elt F)),
    binary main_v180 main_v184 main_v185 (cmpi .slt : (⟨S8x4, .i32⟩ : BufTy).Contents (Elt F) → (⟨S8x4, .i32⟩ : BufTy).Contents (Elt F) → (⟨S8x4, .i1⟩ : BufTy).Contents (Elt F)),
    nullary main_c_35 (constantI S_ 32 11#32),
    unary main_c_35 main_v186 (broadcastInDim S8x4 ![] bcast_S_S8x4 : (⟨S_, .i32⟩ : BufTy).Contents (Elt F) → (⟨S8x4, .i32⟩ : BufTy).Contents (Elt F)),
    binary main_v180 main_v186 main_v187 (addi : (⟨S8x4, .i32⟩ : BufTy).Contents (Elt F) → (⟨S8x4, .i32⟩ : BufTy).Contents (Elt F) → (⟨S8x4, .i32⟩ : BufTy).Contents (Elt F)),
    ternary main_v185 main_v187 main_v180 main_v188 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v188 main_v189 (broadcastInDim S8x4x1 ![0, 1] bcast_S8x4_S8x4x1_0_1 : (⟨S8x4, .i32⟩ : BufTy).Contents (Elt F) → (⟨S8x4x1, .i32⟩ : BufTy).Contents (Elt F)),
    binary main_v181 main_v189 main_v190 ((fun x i => Host.gather gather_S256x64x11x11_S8x4x1_S256x64x8x4x11_014_2_n_n_2_2_25664111 x i) : (⟨S256x64x11x11, .f32⟩ : BufTy).Contents (Elt F) → (⟨S8x4x1, .i32⟩ : BufTy).Contents (Elt F) → (⟨S256x64x8x4x11, .f32⟩ : BufTy).Contents (Elt F)),
    nullary main_c_36 (constantI S_ 32 0#32),
    unary main_c_36 main_v191 (broadcastInDim S8x4 ![] bcast_S_S8x4 : (⟨S_, .i32⟩ : BufTy).Contents (Elt F) → (⟨S8x4, .i32⟩ : BufTy).Contents (Elt F)),
    binary main_v180 main_v191 main_v192 (cmpi .slt : (⟨S8x4, .i32⟩ : BufTy).Contents (Elt F) → (⟨S8x4, .i32⟩ : BufTy).Contents (Elt F) → (⟨S8x4, .i1⟩ : BufTy).Contents (Elt F)),
    nullary main_c_37 (constantI S_ 32 11#32),
    unary main_c_37 main_v193 (broadcastInDim S8x4 ![] bcast_S_S8x4 : (⟨S_, .i32⟩ : BufTy).Contents (Elt F) → (⟨S8x4, .i32⟩ : BufTy).Contents (Elt F)),
    binary main_v180 main_v193 main_v194 (addi : (⟨S8x4, .i32⟩ : BufTy).Contents (Elt F) → (⟨S8x4, .i32⟩ : BufTy).Contents (Elt F) → (⟨S8x4, .i32⟩ : BufTy).Contents (Elt F)),
    ternary main_v192 main_v194 main_v180 main_v195 (select : (⟨S8x4, .i1⟩ : BufTy).Contents (Elt F) → (⟨S8x4, .i32⟩ : BufTy).Contents (Elt F) → (⟨S8x4, .i32⟩ : BufTy).Contents (Elt F) → (⟨S8x4, .i32⟩ : BufTy).Contents (Elt F)),
    unary main_v195 main_v196 (broadcastInDim S8x4x1 ![0, 1] bcast_S8x4_S8x4x1_0_1 : (⟨S8x4, .i32⟩ : BufTy).Contents (Elt F) → (⟨S8x4x1, .i32⟩ : BufTy).Contents (Elt F)),
    binary main_v190 main_v196 main_v197 ((fun x i => Host.gather gather_S256x64x8x4x11_S8x4x1_S256x64x8x4x8x4_0123_4_n_n_4_2_25664841 x i) : (⟨S256x64x8x4x11, .f32⟩ : BufTy).Contents (Elt F) → (⟨S8x4x1, .i32⟩ : BufTy).Contents (Elt F) → (⟨S256x64x8x4x8x4, .f32⟩ : BufTy).Contents (Elt F)),
    binary main_v183 main_v197 main_v198 ((fun l r => Host.dotGeneral dot_S64x64x4x4_S256x64x8x4x8x4_S64x256x8x8_132_153_0_024_n_n none l r) : (⟨S64x64x4x4, .f32⟩ : BufTy).Contents (Elt F) → (⟨S256x64x8x4x8x4, .f32⟩ : BufTy).Contents (Elt F) → (⟨S64x256x8x8, .f32⟩ : BufTy).Contents (Elt F)),
    reshape main_v198 main_v199 (rfl : (.f32 : EltTy) = .f32) shapeCasts_S64x256x8x8_S64x256x64 ]

/-- Operations of the first transposed convolution. -/
abbrev ops9_1 : List (HloOp τ sig (Elt F)) :=
  [ unary main_v199 main_v200 ((transpose S256x64x64 [1, 0, 2] · transposes_S64x256x64_S256x64x64_1_0_2) : (⟨S64x256x64, .f32⟩ : BufTy).Contents (Elt F) → (⟨S256x64x64, .f32⟩ : BufTy).Contents (Elt F)),
    reshape main_arg19 main_v201 (rfl : (.f32 : EltTy) = .f32) shapeCasts_S64_S1x64x1,
    unary main_v201 main_v202 (broadcastInDim S256x64x64 ![0, 1, 2] bcast_S1x64x1_S256x64x64_0_1_2 : (⟨S1x64x1, .f32⟩ : BufTy).Contents (Elt F) → (⟨S256x64x64, .f32⟩ : BufTy).Contents (Elt F)),
    binary main_v200 main_v202 main_v203 (addf : (⟨S256x64x64, .f32⟩ : BufTy).Contents (Elt F) → (⟨S256x64x64, .f32⟩ : BufTy).Contents (Elt F) → (⟨S256x64x64, .f32⟩ : BufTy).Contents (Elt F)),
    nullary main_cst_38 (constant S_ .f32 0x00000000#32),
    unary main_cst_38 main_v204 (broadcastInDim S256x64x64 ![] bcast_S_S256x64x64 : (⟨S_, .f32⟩ : BufTy).Contents (Elt F) → (⟨S256x64x64, .f32⟩ : BufTy).Contents (Elt F)),
    binary main_v203 main_v204 main_v205 (maximumf : (⟨S256x64x64, .f32⟩ : BufTy).Contents (Elt F) → (⟨S256x64x64, .f32⟩ : BufTy).Contents (Elt F) → (⟨S256x64x64, .f32⟩ : BufTy).Contents (Elt F)),
    reshape main_v205 main_v206 (rfl : (.f32 : EltTy) = .f32) shapeCasts_S256x64x64_S256x64x8x8 ]

/-- Operations of the second transposed convolution. -/
abbrev ops10 : List (HloOp τ sig (Elt F)) :=
  [ nullary main_v207 (iotaInDim S16 32 0),
    unary main_v207 main_v208 (broadcastInDim S16x1 ![0] bcast_S16_S16x1_0 : (⟨S16, .i32⟩ : BufTy).Contents (Elt F) → (⟨S16x1, .i32⟩ : BufTy).Contents (Elt F)),
    nullary main_c_39 (constantI S_ 32 1#32),
    unary main_c_39 main_v209 (broadcastInDim S16x1 ![] bcast_S_S16x1 : (⟨S_, .i32⟩ : BufTy).Contents (Elt F) → (⟨S16x1, .i32⟩ : BufTy).Contents (Elt F)),
    binary main_v209 main_v208 main_v210 (muli : (⟨S16x1, .i32⟩ : BufTy).Contents (Elt F) → (⟨S16x1, .i32⟩ : BufTy).Contents (Elt F) → (⟨S16x1, .i32⟩ : BufTy).Contents (Elt F)),
    nullary main_v211 (iotaInDim S4 32 0),
    unary main_v211 main_v212 (broadcastInDim S1x4 ![1] bcast_S4_S1x4_1 : (⟨S4, .i32⟩ : BufTy).Contents (Elt F) → (⟨S1x4, .i32⟩ : BufTy).Contents (Elt F)),
    unary main_v210 main_v213 (broadcastInDim S16x4 ![0, 1] bcast_S16x1_S16x4_0_1 : (⟨S16x1, .i32⟩ : BufTy).Contents (Elt F) → (⟨S16x4, .i32⟩ : BufTy).Contents (Elt F)),
    unary main_v212 main_v214 (broadcastInDim S16x4 ![0, 1] bcast_S1x4_S16x4_0_1 : (⟨S1x4, .i32⟩ : BufTy).Contents (Elt F) → (⟨S16x4, .i32⟩ : BufTy).Contents (Elt F)),
    binary main_v213 main_v214 main_v215 (addi : (⟨S16x4, .i32⟩ : BufTy).Contents (Elt F) → (⟨S16x4, .i32⟩ : BufTy).Contents (Elt F) → (⟨S16x4, .i32⟩ : BufTy).Contents (Elt F)),
    nullary main_cst_40 (constant S_ .f32 0x00000000#32),
    binary main_v206 main_cst_40 main_v216 ((fun x v => pad S256x64x19x19 ![0, 0, 2, 2] ![0, 0, 2, 2] ![0, 0, 1, 1] x v pads_S256x64x8x8_S256x64x19x19_000_000_221_221 h_S_) : (⟨S256x64x8x8, .f32⟩ : BufTy).Contents (Elt F) → (⟨S_, .f32⟩ : BufTy).Contents (Elt F) → (⟨S256x64x19x19, .f32⟩ : BufTy).Contents (Elt F)),
    unary main_arg20 main_v217 (Host.reverse [2, 3] : (⟨S64x32x4x4, .f32⟩ : BufTy).Contents (Elt F) → (⟨S64x32x4x4, .f32⟩ : BufTy).Contents (Elt F)),
    unary main_v217 main_v218 ((transpose S32x64x4x4 [1, 0, 2, 3] · transposes_S64x32x4x4_S32x64x4x4_1_0_2_3) : (⟨S64x32x4x4, .f32⟩ : BufTy).Contents (Elt F) → (⟨S32x64x4x4, .f32⟩ : BufTy).Contents (Elt F)),
    nullary main_c_41 (constantI S_ 32 0#32),
    unary main_c_41 main_v219 (broadcastInDim S16x4 ![] bcast_S_S16x4 : (⟨S_, .i32⟩ : BufTy).Contents (Elt F) → (⟨S16x4, .i32⟩ : BufTy).Contents (Elt F)),
    binary main_v215 main_v219 main_v220 (cmpi .slt : (⟨S16x4, .i32⟩ : BufTy).Contents (Elt F) → (⟨S16x4, .i32⟩ : BufTy).Contents (Elt F) → (⟨S16x4, .i1⟩ : BufTy).Contents (Elt F)),
    nullary main_c_42 (constantI S_ 32 19#32),
    unary main_c_42 main_v221 (broadcastInDim S16x4 ![] bcast_S_S16x4 : (⟨S_, .i32⟩ : BufTy).Contents (Elt F) → (⟨S16x4, .i32⟩ : BufTy).Contents (Elt F)),
    binary main_v215 main_v221 main_v222 (addi : (⟨S16x4, .i32⟩ : BufTy).Contents (Elt F) → (⟨S16x4, .i32⟩ : BufTy).Contents (Elt F) → (⟨S16x4, .i32⟩ : BufTy).Contents (Elt F)),
    ternary main_v220 main_v222 main_v215 main_v223 (select : (⟨S16x4, .i1⟩ : BufTy).Contents (Elt F) → (⟨S16x4, .i32⟩ : BufTy).Contents (Elt F) → (⟨S16x4, .i32⟩ : BufTy).Contents (Elt F) → (⟨S16x4, .i32⟩ : BufTy).Contents (Elt F)),
    unary main_v223 main_v224 (broadcastInDim S16x4x1 ![0, 1] bcast_S16x4_S16x4x1_0_1 : (⟨S16x4, .i32⟩ : BufTy).Contents (Elt F) → (⟨S16x4x1, .i32⟩ : BufTy).Contents (Elt F)),
    binary main_v216 main_v224 main_v225 ((fun x i => Host.gather gather_S256x64x19x19_S16x4x1_S256x64x16x4x19_014_2_n_n_2_2_25664119 x i) : (⟨S256x64x19x19, .f32⟩ : BufTy).Contents (Elt F) → (⟨S16x4x1, .i32⟩ : BufTy).Contents (Elt F) → (⟨S256x64x16x4x19, .f32⟩ : BufTy).Contents (Elt F)),
    nullary main_c_43 (constantI S_ 32 0#32),
    unary main_c_43 main_v226 (broadcastInDim S16x4 ![] bcast_S_S16x4 : (⟨S_, .i32⟩ : BufTy).Contents (Elt F) → (⟨S16x4, .i32⟩ : BufTy).Contents (Elt F)),
    binary main_v215 main_v226 main_v227 (cmpi .slt : (⟨S16x4, .i32⟩ : BufTy).Contents (Elt F) → (⟨S16x4, .i32⟩ : BufTy).Contents (Elt F) → (⟨S16x4, .i1⟩ : BufTy).Contents (Elt F)),
    nullary main_c_44 (constantI S_ 32 19#32),
    unary main_c_44 main_v228 (broadcastInDim S16x4 ![] bcast_S_S16x4 : (⟨S_, .i32⟩ : BufTy).Contents (Elt F) → (⟨S16x4, .i32⟩ : BufTy).Contents (Elt F)),
    binary main_v215 main_v228 main_v229 (addi : (⟨S16x4, .i32⟩ : BufTy).Contents (Elt F) → (⟨S16x4, .i32⟩ : BufTy).Contents (Elt F) → (⟨S16x4, .i32⟩ : BufTy).Contents (Elt F)),
    ternary main_v227 main_v229 main_v215 main_v230 (select : (⟨S16x4, .i1⟩ : BufTy).Contents (Elt F) → (⟨S16x4, .i32⟩ : BufTy).Contents (Elt F) → (⟨S16x4, .i32⟩ : BufTy).Contents (Elt F) → (⟨S16x4, .i32⟩ : BufTy).Contents (Elt F)),
    unary main_v230 main_v231 (broadcastInDim S16x4x1 ![0, 1] bcast_S16x4_S16x4x1_0_1 : (⟨S16x4, .i32⟩ : BufTy).Contents (Elt F) → (⟨S16x4x1, .i32⟩ : BufTy).Contents (Elt F)),
    binary main_v225 main_v231 main_v232 ((fun x i => Host.gather gather_S256x64x16x4x19_S16x4x1_S256x64x16x4x16x4_0123_4_n_n_4_2_256641641 x i) : (⟨S256x64x16x4x19, .f32⟩ : BufTy).Contents (Elt F) → (⟨S16x4x1, .i32⟩ : BufTy).Contents (Elt F) → (⟨S256x64x16x4x16x4, .f32⟩ : BufTy).Contents (Elt F)),
    binary main_v218 main_v232 main_v233 ((fun l r => Host.dotGeneral dot_S32x64x4x4_S256x64x16x4x16x4_S32x256x16x16_132_153_0_024_n_n none l r) : (⟨S32x64x4x4, .f32⟩ : BufTy).Contents (Elt F) → (⟨S256x64x16x4x16x4, .f32⟩ : BufTy).Contents (Elt F) → (⟨S32x256x16x16, .f32⟩ : BufTy).Contents (Elt F)),
    reshape main_v233 main_v234 (rfl : (.f32 : EltTy) = .f32) shapeCasts_S32x256x16x16_S32x256x256,
    unary main_v234 main_v235 ((transpose S256x32x256 [1, 0, 2] · transposes_S32x256x256_S256x32x256_1_0_2) : (⟨S32x256x256, .f32⟩ : BufTy).Contents (Elt F) → (⟨S256x32x256, .f32⟩ : BufTy).Contents (Elt F)),
    reshape main_arg21 main_v236 (rfl : (.f32 : EltTy) = .f32) shapeCasts_S32_S1x32x1,
    unary main_v236 main_v237 (broadcastInDim S256x32x256 ![0, 1, 2] bcast_S1x32x1_S256x32x256_0_1_2 : (⟨S1x32x1, .f32⟩ : BufTy).Contents (Elt F) → (⟨S256x32x256, .f32⟩ : BufTy).Contents (Elt F)),
    binary main_v235 main_v237 main_v238 (addf : (⟨S256x32x256, .f32⟩ : BufTy).Contents (Elt F) → (⟨S256x32x256, .f32⟩ : BufTy).Contents (Elt F) → (⟨S256x32x256, .f32⟩ : BufTy).Contents (Elt F)),
    nullary main_cst_45 (constant S_ .f32 0x00000000#32),
    unary main_cst_45 main_v239 (broadcastInDim S256x32x256 ![] bcast_S_S256x32x256 : (⟨S_, .f32⟩ : BufTy).Contents (Elt F) → (⟨S256x32x256, .f32⟩ : BufTy).Contents (Elt F)),
    binary main_v238 main_v239 main_v240 (maximumf : (⟨S256x32x256, .f32⟩ : BufTy).Contents (Elt F) → (⟨S256x32x256, .f32⟩ : BufTy).Contents (Elt F) → (⟨S256x32x256, .f32⟩ : BufTy).Contents (Elt F)),
    reshape main_v240 main_v241 (rfl : (.f32 : EltTy) = .f32) shapeCasts_S256x32x256_S256x32x16x16 ]

/-- Operations of the third transposed convolution. -/
abbrev ops11_0 : List (HloOp τ sig (Elt F)) :=
  [ nullary main_v242 (iotaInDim S32 32 0),
    unary main_v242 main_v243 (broadcastInDim S32x1 ![0] bcast_S32_S32x1_0 : (⟨S32, .i32⟩ : BufTy).Contents (Elt F) → (⟨S32x1, .i32⟩ : BufTy).Contents (Elt F)),
    nullary main_c_46 (constantI S_ 32 1#32),
    unary main_c_46 main_v244 (broadcastInDim S32x1 ![] bcast_S_S32x1 : (⟨S_, .i32⟩ : BufTy).Contents (Elt F) → (⟨S32x1, .i32⟩ : BufTy).Contents (Elt F)),
    binary main_v244 main_v243 main_v245 (muli : (⟨S32x1, .i32⟩ : BufTy).Contents (Elt F) → (⟨S32x1, .i32⟩ : BufTy).Contents (Elt F) → (⟨S32x1, .i32⟩ : BufTy).Contents (Elt F)),
    nullary main_v246 (iotaInDim S4 32 0),
    unary main_v246 main_v247 (broadcastInDim S1x4 ![1] bcast_S4_S1x4_1 : (⟨S4, .i32⟩ : BufTy).Contents (Elt F) → (⟨S1x4, .i32⟩ : BufTy).Contents (Elt F)),
    unary main_v245 main_v248 (broadcastInDim S32x4 ![0, 1] bcast_S32x1_S32x4_0_1 : (⟨S32x1, .i32⟩ : BufTy).Contents (Elt F) → (⟨S32x4, .i32⟩ : BufTy).Contents (Elt F)),
    unary main_v247 main_v249 (broadcastInDim S32x4 ![0, 1] bcast_S1x4_S32x4_0_1 : (⟨S1x4, .i32⟩ : BufTy).Contents (Elt F) → (⟨S32x4, .i32⟩ : BufTy).Contents (Elt F)),
    binary main_v248 main_v249 main_v250 (addi : (⟨S32x4, .i32⟩ : BufTy).Contents (Elt F) → (⟨S32x4, .i32⟩ : BufTy).Contents (Elt F) → (⟨S32x4, .i32⟩ : BufTy).Contents (Elt F)) ]

/-- Operations of the third transposed convolution. -/
abbrev ops11_1 : List (HloOp τ sig (Elt F)) :=
  [ nullary main_cst_47 (constant S_ .f32 0x00000000#32),
    binary main_v241 main_cst_47 main_v251 ((fun x v => pad S256x32x35x35 ![0, 0, 2, 2] ![0, 0, 2, 2] ![0, 0, 1, 1] x v pads_S256x32x16x16_S256x32x35x35_000_000_221_221 h_S_) : (⟨S256x32x16x16, .f32⟩ : BufTy).Contents (Elt F) → (⟨S_, .f32⟩ : BufTy).Contents (Elt F) → (⟨S256x32x35x35, .f32⟩ : BufTy).Contents (Elt F)),
    unary main_arg22 main_v252 (Host.reverse [2, 3] : (⟨S32x32x4x4, .f32⟩ : BufTy).Contents (Elt F) → (⟨S32x32x4x4, .f32⟩ : BufTy).Contents (Elt F)),
    unary main_v252 main_v253 ((transpose S32x32x4x4 [1, 0, 2, 3] · transposes_S32x32x4x4_S32x32x4x4_1_0_2_3) : (⟨S32x32x4x4, .f32⟩ : BufTy).Contents (Elt F) → (⟨S32x32x4x4, .f32⟩ : BufTy).Contents (Elt F)),
    nullary main_c_48 (constantI S_ 32 0#32),
    unary main_c_48 main_v254 (broadcastInDim S32x4 ![] bcast_S_S32x4 : (⟨S_, .i32⟩ : BufTy).Contents (Elt F) → (⟨S32x4, .i32⟩ : BufTy).Contents (Elt F)),
    binary main_v250 main_v254 main_v255 (cmpi .slt : (⟨S32x4, .i32⟩ : BufTy).Contents (Elt F) → (⟨S32x4, .i32⟩ : BufTy).Contents (Elt F) → (⟨S32x4, .i1⟩ : BufTy).Contents (Elt F)),
    nullary main_c_49 (constantI S_ 32 35#32),
    unary main_c_49 main_v256 (broadcastInDim S32x4 ![] bcast_S_S32x4 : (⟨S_, .i32⟩ : BufTy).Contents (Elt F) → (⟨S32x4, .i32⟩ : BufTy).Contents (Elt F)),
    binary main_v250 main_v256 main_v257 (addi : (⟨S32x4, .i32⟩ : BufTy).Contents (Elt F) → (⟨S32x4, .i32⟩ : BufTy).Contents (Elt F) → (⟨S32x4, .i32⟩ : BufTy).Contents (Elt F)),
    ternary main_v255 main_v257 main_v250 main_v258 (select : (⟨S32x4, .i1⟩ : BufTy).Contents (Elt F) → (⟨S32x4, .i32⟩ : BufTy).Contents (Elt F) → (⟨S32x4, .i32⟩ : BufTy).Contents (Elt F) → (⟨S32x4, .i32⟩ : BufTy).Contents (Elt F)),
    unary main_v258 main_v259 (broadcastInDim S32x4x1 ![0, 1] bcast_S32x4_S32x4x1_0_1 : (⟨S32x4, .i32⟩ : BufTy).Contents (Elt F) → (⟨S32x4x1, .i32⟩ : BufTy).Contents (Elt F)),
    binary main_v251 main_v259 main_v260 ((fun x i => Host.gather gather_S256x32x35x35_S32x4x1_S256x32x32x4x35_014_2_n_n_2_2_25632135 x i) : (⟨S256x32x35x35, .f32⟩ : BufTy).Contents (Elt F) → (⟨S32x4x1, .i32⟩ : BufTy).Contents (Elt F) → (⟨S256x32x32x4x35, .f32⟩ : BufTy).Contents (Elt F)),
    nullary main_c_50 (constantI S_ 32 0#32),
    unary main_c_50 main_v261 (broadcastInDim S32x4 ![] bcast_S_S32x4 : (⟨S_, .i32⟩ : BufTy).Contents (Elt F) → (⟨S32x4, .i32⟩ : BufTy).Contents (Elt F)),
    binary main_v250 main_v261 main_v262 (cmpi .slt : (⟨S32x4, .i32⟩ : BufTy).Contents (Elt F) → (⟨S32x4, .i32⟩ : BufTy).Contents (Elt F) → (⟨S32x4, .i1⟩ : BufTy).Contents (Elt F)),
    nullary main_c_51 (constantI S_ 32 35#32),
    unary main_c_51 main_v263 (broadcastInDim S32x4 ![] bcast_S_S32x4 : (⟨S_, .i32⟩ : BufTy).Contents (Elt F) → (⟨S32x4, .i32⟩ : BufTy).Contents (Elt F)),
    binary main_v250 main_v263 main_v264 (addi : (⟨S32x4, .i32⟩ : BufTy).Contents (Elt F) → (⟨S32x4, .i32⟩ : BufTy).Contents (Elt F) → (⟨S32x4, .i32⟩ : BufTy).Contents (Elt F)),
    ternary main_v262 main_v264 main_v250 main_v265 (select : (⟨S32x4, .i1⟩ : BufTy).Contents (Elt F) → (⟨S32x4, .i32⟩ : BufTy).Contents (Elt F) → (⟨S32x4, .i32⟩ : BufTy).Contents (Elt F) → (⟨S32x4, .i32⟩ : BufTy).Contents (Elt F)),
    unary main_v265 main_v266 (broadcastInDim S32x4x1 ![0, 1] bcast_S32x4_S32x4x1_0_1 : (⟨S32x4, .i32⟩ : BufTy).Contents (Elt F) → (⟨S32x4x1, .i32⟩ : BufTy).Contents (Elt F)),
    binary main_v260 main_v266 main_v267 ((fun x i => Host.gather gather_S256x32x32x4x35_S32x4x1_S256x32x32x4x32x4_0123_4_n_n_4_2_256323241 x i) : (⟨S256x32x32x4x35, .f32⟩ : BufTy).Contents (Elt F) → (⟨S32x4x1, .i32⟩ : BufTy).Contents (Elt F) → (⟨S256x32x32x4x32x4, .f32⟩ : BufTy).Contents (Elt F)),
    binary main_v253 main_v267 main_v268 ((fun l r => Host.dotGeneral dot_S32x32x4x4_S256x32x32x4x32x4_S32x256x32x32_132_153_0_024_n_n none l r) : (⟨S32x32x4x4, .f32⟩ : BufTy).Contents (Elt F) → (⟨S256x32x32x4x32x4, .f32⟩ : BufTy).Contents (Elt F) → (⟨S32x256x32x32, .f32⟩ : BufTy).Contents (Elt F)),
    reshape main_v268 main_v269 (rfl : (.f32 : EltTy) = .f32) shapeCasts_S32x256x32x32_S32x256x1024,
    unary main_v269 main_v270 ((transpose S256x32x1024 [1, 0, 2] · transposes_S32x256x1024_S256x32x1024_1_0_2) : (⟨S32x256x1024, .f32⟩ : BufTy).Contents (Elt F) → (⟨S256x32x1024, .f32⟩ : BufTy).Contents (Elt F)),
    reshape main_arg23 main_v271 (rfl : (.f32 : EltTy) = .f32) shapeCasts_S32_S1x32x1,
    unary main_v271 main_v272 (broadcastInDim S256x32x1024 ![0, 1, 2] bcast_S1x32x1_S256x32x1024_0_1_2 : (⟨S1x32x1, .f32⟩ : BufTy).Contents (Elt F) → (⟨S256x32x1024, .f32⟩ : BufTy).Contents (Elt F)),
    binary main_v270 main_v272 main_v273 (addf : (⟨S256x32x1024, .f32⟩ : BufTy).Contents (Elt F) → (⟨S256x32x1024, .f32⟩ : BufTy).Contents (Elt F) → (⟨S256x32x1024, .f32⟩ : BufTy).Contents (Elt F)),
    nullary main_cst_52 (constant S_ .f32 0x00000000#32),
    unary main_cst_52 main_v274 (broadcastInDim S256x32x1024 ![] bcast_S_S256x32x1024 : (⟨S_, .f32⟩ : BufTy).Contents (Elt F) → (⟨S256x32x1024, .f32⟩ : BufTy).Contents (Elt F)),
    binary main_v273 main_v274 main_v275 (maximumf : (⟨S256x32x1024, .f32⟩ : BufTy).Contents (Elt F) → (⟨S256x32x1024, .f32⟩ : BufTy).Contents (Elt F) → (⟨S256x32x1024, .f32⟩ : BufTy).Contents (Elt F)),
    reshape main_v275 main_v276 (rfl : (.f32 : EltTy) = .f32) shapeCasts_S256x32x1024_S256x32x32x32 ]

/-- Operations of the last transposed convolution. -/
abbrev ops12_0 : List (HloOp τ sig (Elt F)) :=
  [ nullary main_v277 (iotaInDim S64 32 0),
    unary main_v277 main_v278 (broadcastInDim S64x1 ![0] bcast_S64_S64x1_0 : (⟨S64, .i32⟩ : BufTy).Contents (Elt F) → (⟨S64x1, .i32⟩ : BufTy).Contents (Elt F)),
    nullary main_c_53 (constantI S_ 32 1#32),
    unary main_c_53 main_v279 (broadcastInDim S64x1 ![] bcast_S_S64x1 : (⟨S_, .i32⟩ : BufTy).Contents (Elt F) → (⟨S64x1, .i32⟩ : BufTy).Contents (Elt F)),
    binary main_v279 main_v278 main_v280 (muli : (⟨S64x1, .i32⟩ : BufTy).Contents (Elt F) → (⟨S64x1, .i32⟩ : BufTy).Contents (Elt F) → (⟨S64x1, .i32⟩ : BufTy).Contents (Elt F)),
    nullary main_v281 (iotaInDim S4 32 0),
    unary main_v281 main_v282 (broadcastInDim S1x4 ![1] bcast_S4_S1x4_1 : (⟨S4, .i32⟩ : BufTy).Contents (Elt F) → (⟨S1x4, .i32⟩ : BufTy).Contents (Elt F)),
    unary main_v280 main_v283 (broadcastInDim S64x4 ![0, 1] bcast_S64x1_S64x4_0_1 : (⟨S64x1, .i32⟩ : BufTy).Contents (Elt F) → (⟨S64x4, .i32⟩ : BufTy).Contents (Elt F)),
    unary main_v282 main_v284 (broadcastInDim S64x4 ![0, 1] bcast_S1x4_S64x4_0_1 : (⟨S1x4, .i32⟩ : BufTy).Contents (Elt F) → (⟨S64x4, .i32⟩ : BufTy).Contents (Elt F)),
    binary main_v283 main_v284 main_v285 (addi : (⟨S64x4, .i32⟩ : BufTy).Contents (Elt F) → (⟨S64x4, .i32⟩ : BufTy).Contents (Elt F) → (⟨S64x4, .i32⟩ : BufTy).Contents (Elt F)),
    nullary main_cst_54 (constant S_ .f32 0x00000000#32),
    binary main_v276 main_cst_54 main_v286 ((fun x v => pad S256x32x67x67 ![0, 0, 2, 2] ![0, 0, 2, 2] ![0, 0, 1, 1] x v pads_S256x32x32x32_S256x32x67x67_000_000_221_221 h_S_) : (⟨S256x32x32x32, .f32⟩ : BufTy).Contents (Elt F) → (⟨S_, .f32⟩ : BufTy).Contents (Elt F) → (⟨S256x32x67x67, .f32⟩ : BufTy).Contents (Elt F)),
    unary main_arg24 main_v287 (Host.reverse [2, 3] : (⟨S32x3x4x4, .f32⟩ : BufTy).Contents (Elt F) → (⟨S32x3x4x4, .f32⟩ : BufTy).Contents (Elt F)),
    unary main_v287 main_v288 ((transpose S3x32x4x4 [1, 0, 2, 3] · transposes_S32x3x4x4_S3x32x4x4_1_0_2_3) : (⟨S32x3x4x4, .f32⟩ : BufTy).Contents (Elt F) → (⟨S3x32x4x4, .f32⟩ : BufTy).Contents (Elt F)),
    nullary main_c_55 (constantI S_ 32 0#32),
    unary main_c_55 main_v289 (broadcastInDim S64x4 ![] bcast_S_S64x4 : (⟨S_, .i32⟩ : BufTy).Contents (Elt F) → (⟨S64x4, .i32⟩ : BufTy).Contents (Elt F)),
    binary main_v285 main_v289 main_v290 (cmpi .slt : (⟨S64x4, .i32⟩ : BufTy).Contents (Elt F) → (⟨S64x4, .i32⟩ : BufTy).Contents (Elt F) → (⟨S64x4, .i1⟩ : BufTy).Contents (Elt F)),
    nullary main_c_56 (constantI S_ 32 67#32),
    unary main_c_56 main_v291 (broadcastInDim S64x4 ![] bcast_S_S64x4 : (⟨S_, .i32⟩ : BufTy).Contents (Elt F) → (⟨S64x4, .i32⟩ : BufTy).Contents (Elt F)),
    binary main_v285 main_v291 main_v292 (addi : (⟨S64x4, .i32⟩ : BufTy).Contents (Elt F) → (⟨S64x4, .i32⟩ : BufTy).Contents (Elt F) → (⟨S64x4, .i32⟩ : BufTy).Contents (Elt F)),
    ternary main_v290 main_v292 main_v285 main_v293 (select : (⟨S64x4, .i1⟩ : BufTy).Contents (Elt F) → (⟨S64x4, .i32⟩ : BufTy).Contents (Elt F) → (⟨S64x4, .i32⟩ : BufTy).Contents (Elt F) → (⟨S64x4, .i32⟩ : BufTy).Contents (Elt F)),
    unary main_v293 main_v294 (broadcastInDim S64x4x1 ![0, 1] bcast_S64x4_S64x4x1_0_1 : (⟨S64x4, .i32⟩ : BufTy).Contents (Elt F) → (⟨S64x4x1, .i32⟩ : BufTy).Contents (Elt F)),
    binary main_v286 main_v294 main_v295 ((fun x i => Host.gather gather_S256x32x67x67_S64x4x1_S256x32x64x4x67_014_2_n_n_2_2_25632167 x i) : (⟨S256x32x67x67, .f32⟩ : BufTy).Contents (Elt F) → (⟨S64x4x1, .i32⟩ : BufTy).Contents (Elt F) → (⟨S256x32x64x4x67, .f32⟩ : BufTy).Contents (Elt F)),
    nullary main_c_57 (constantI S_ 32 0#32),
    unary main_c_57 main_v296 (broadcastInDim S64x4 ![] bcast_S_S64x4 : (⟨S_, .i32⟩ : BufTy).Contents (Elt F) → (⟨S64x4, .i32⟩ : BufTy).Contents (Elt F)),
    binary main_v285 main_v296 main_v297 (cmpi .slt : (⟨S64x4, .i32⟩ : BufTy).Contents (Elt F) → (⟨S64x4, .i32⟩ : BufTy).Contents (Elt F) → (⟨S64x4, .i1⟩ : BufTy).Contents (Elt F)),
    nullary main_c_58 (constantI S_ 32 67#32),
    unary main_c_58 main_v298 (broadcastInDim S64x4 ![] bcast_S_S64x4 : (⟨S_, .i32⟩ : BufTy).Contents (Elt F) → (⟨S64x4, .i32⟩ : BufTy).Contents (Elt F)) ]

/-- Operations of the last transposed convolution. -/
abbrev ops12_1 : List (HloOp τ sig (Elt F)) :=
  [ binary main_v285 main_v298 main_v299 (addi : (⟨S64x4, .i32⟩ : BufTy).Contents (Elt F) → (⟨S64x4, .i32⟩ : BufTy).Contents (Elt F) → (⟨S64x4, .i32⟩ : BufTy).Contents (Elt F)),
    ternary main_v297 main_v299 main_v285 main_v300 (select : (⟨S64x4, .i1⟩ : BufTy).Contents (Elt F) → (⟨S64x4, .i32⟩ : BufTy).Contents (Elt F) → (⟨S64x4, .i32⟩ : BufTy).Contents (Elt F) → (⟨S64x4, .i32⟩ : BufTy).Contents (Elt F)),
    unary main_v300 main_v301 (broadcastInDim S64x4x1 ![0, 1] bcast_S64x4_S64x4x1_0_1 : (⟨S64x4, .i32⟩ : BufTy).Contents (Elt F) → (⟨S64x4x1, .i32⟩ : BufTy).Contents (Elt F)),
    binary main_v295 main_v301 main_v302 ((fun x i => Host.gather gather_S256x32x64x4x67_S64x4x1_S256x32x64x4x64x4_0123_4_n_n_4_2_256326441 x i) : (⟨S256x32x64x4x67, .f32⟩ : BufTy).Contents (Elt F) → (⟨S64x4x1, .i32⟩ : BufTy).Contents (Elt F) → (⟨S256x32x64x4x64x4, .f32⟩ : BufTy).Contents (Elt F)),
    binary main_v288 main_v302 main_v303 ((fun l r => Host.dotGeneral dot_S3x32x4x4_S256x32x64x4x64x4_S3x256x64x64_132_153_0_024_n_n none l r) : (⟨S3x32x4x4, .f32⟩ : BufTy).Contents (Elt F) → (⟨S256x32x64x4x64x4, .f32⟩ : BufTy).Contents (Elt F) → (⟨S3x256x64x64, .f32⟩ : BufTy).Contents (Elt F)),
    reshape main_v303 main_v304 (rfl : (.f32 : EltTy) = .f32) shapeCasts_S3x256x64x64_S3x256x4096,
    unary main_v304 main_v305 ((transpose S256x3x4096 [1, 0, 2] · transposes_S3x256x4096_S256x3x4096_1_0_2) : (⟨S3x256x4096, .f32⟩ : BufTy).Contents (Elt F) → (⟨S256x3x4096, .f32⟩ : BufTy).Contents (Elt F)),
    reshape main_arg25 main_v306 (rfl : (.f32 : EltTy) = .f32) shapeCasts_S3_S1x3x1,
    unary main_v306 main_v307 (broadcastInDim S256x3x4096 ![0, 1, 2] bcast_S1x3x1_S256x3x4096_0_1_2 : (⟨S1x3x1, .f32⟩ : BufTy).Contents (Elt F) → (⟨S256x3x4096, .f32⟩ : BufTy).Contents (Elt F)),
    binary main_v305 main_v307 main_v308 (addf : (⟨S256x3x4096, .f32⟩ : BufTy).Contents (Elt F) → (⟨S256x3x4096, .f32⟩ : BufTy).Contents (Elt F) → (⟨S256x3x4096, .f32⟩ : BufTy).Contents (Elt F)),
    reshape main_v308 main_v309 (rfl : (.f32 : EltTy) = .f32) shapeCasts_S256x3x4096_S256x3x64x64 ]

/-- Operations of the nearest image code of each codebook row. -/
abbrev ops13 : List (HloOp τ sig (Elt F)) :=
  [ unary main_arg13 main_v310 (broadcastInDim S1024x1x64 ![0, 2] bcast_S1024x64_S1024x1x64_0_2 : (⟨S1024x64, .f32⟩ : BufTy).Contents (Elt F) → (⟨S1024x1x64, .f32⟩ : BufTy).Contents (Elt F)),
    unary main_v142 main_v311 (broadcastInDim S1x256x64 ![1, 2] bcast_S256x64_S1x256x64_1_2 : (⟨S256x64, .f32⟩ : BufTy).Contents (Elt F) → (⟨S1x256x64, .f32⟩ : BufTy).Contents (Elt F)),
    unary main_v310 main_v312 (broadcastInDim S1024x256x64 ![0, 1, 2] bcast_S1024x1x64_S1024x256x64_0_1_2 : (⟨S1024x1x64, .f32⟩ : BufTy).Contents (Elt F) → (⟨S1024x256x64, .f32⟩ : BufTy).Contents (Elt F)),
    unary main_v311 main_v313 (broadcastInDim S1024x256x64 ![0, 1, 2] bcast_S1x256x64_S1024x256x64_0_1_2 : (⟨S1x256x64, .f32⟩ : BufTy).Contents (Elt F) → (⟨S1024x256x64, .f32⟩ : BufTy).Contents (Elt F)),
    binary main_v312 main_v313 main_v314 (subf : (⟨S1024x256x64, .f32⟩ : BufTy).Contents (Elt F) → (⟨S1024x256x64, .f32⟩ : BufTy).Contents (Elt F) → (⟨S1024x256x64, .f32⟩ : BufTy).Contents (Elt F)),
    binary main_v314 main_v314 main_v315 (mulf : (⟨S1024x256x64, .f32⟩ : BufTy).Contents (Elt F) → (⟨S1024x256x64, .f32⟩ : BufTy).Contents (Elt F) → (⟨S1024x256x64, .f32⟩ : BufTy).Contents (Elt F)),
    nullary main_cst_59 (constant S_ .f32 0x00000000#32),
    binary main_v315 main_cst_59 main_v316 ((fun x v => Host.reduceAdd x v reducesTo_S1024x256x64_S1024x256_d2 h_S_) : (⟨S1024x256x64, .f32⟩ : BufTy).Contents (Elt F) → (⟨S_, .f32⟩ : BufTy).Contents (Elt F) → (⟨S1024x256, .f32⟩ : BufTy).Contents (Elt F)),
    unary main_v316 main_v317 (Host.sqrt : (⟨S1024x256, .f32⟩ : BufTy).Contents (Elt F) → (⟨S1024x256, .f32⟩ : BufTy).Contents (Elt F)),
    nullary main_call1_v0 (iotaInDim S1024x256 32 1),
    nullary main_call1_cst (constant S_ .f32 0x7F800000#32),
    nullary main_call1_c (constantI S_ 32 0#32),
    quaternary main_v317 main_call1_v0 main_call1_cst main_call1_c main_call1_v1_0 ((fun x y u v j => (Host.argReduce reducer_argmin_f32_i32 x y u v reducesTo_S1024x256_S1024_d1 h_S_ j).1) : (⟨S1024x256, .f32⟩ : BufTy).Contents (Elt F) → (⟨S1024x256, .i32⟩ : BufTy).Contents (Elt F) → (⟨S_, .f32⟩ : BufTy).Contents (Elt F) → (⟨S_, .i32⟩ : BufTy).Contents (Elt F) → (⟨S1024, .f32⟩ : BufTy).Contents (Elt F)),
    quaternary main_v317 main_call1_v0 main_call1_cst main_call1_c main_v318 ((fun x y u v j => (Host.argReduce reducer_argmin_f32_i32 x y u v reducesTo_S1024x256_S1024_d1 h_S_ j).2) : (⟨S1024x256, .f32⟩ : BufTy).Contents (Elt F) → (⟨S1024x256, .i32⟩ : BufTy).Contents (Elt F) → (⟨S_, .f32⟩ : BufTy).Contents (Elt F) → (⟨S_, .i32⟩ : BufTy).Contents (Elt F) → (⟨S1024, .i32⟩ : BufTy).Contents (Elt F)),
    nullary main_c_60 (constantI S_ 32 0#32),
    unary main_c_60 main_v319 (broadcastInDim S1024 ![] bcast_S_S1024 : (⟨S_, .i32⟩ : BufTy).Contents (Elt F) → (⟨S1024, .i32⟩ : BufTy).Contents (Elt F)),
    binary main_v318 main_v319 main_v320 (cmpi .slt : (⟨S1024, .i32⟩ : BufTy).Contents (Elt F) → (⟨S1024, .i32⟩ : BufTy).Contents (Elt F) → (⟨S1024, .i1⟩ : BufTy).Contents (Elt F)),
    nullary main_c_61 (constantI S_ 32 256#32),
    unary main_c_61 main_v321 (broadcastInDim S1024 ![] bcast_S_S1024 : (⟨S_, .i32⟩ : BufTy).Contents (Elt F) → (⟨S1024, .i32⟩ : BufTy).Contents (Elt F)),
    binary main_v318 main_v321 main_v322 (addi : (⟨S1024, .i32⟩ : BufTy).Contents (Elt F) → (⟨S1024, .i32⟩ : BufTy).Contents (Elt F) → (⟨S1024, .i32⟩ : BufTy).Contents (Elt F)),
    ternary main_v320 main_v322 main_v318 main_v323 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v323 main_v324 (broadcastInDim S1024x1 ![0] bcast_S1024_S1024x1_0 : (⟨S1024, .i32⟩ : BufTy).Contents (Elt F) → (⟨S1024x1, .i32⟩ : BufTy).Contents (Elt F)),
    binary main_v142 main_v324 main_v325 ((fun x i => Host.gather gather_S256x64_S1024x1_S1024x64_1_0_n_n_0_1_164 x i) : (⟨S256x64, .f32⟩ : BufTy).Contents (Elt F) → (⟨S1024x1, .i32⟩ : BufTy).Contents (Elt F) → (⟨S1024x64, .f32⟩ : BufTy).Contents (Elt F)) ]

/-- The operations of window 0. -/
def win0 : List (HloOp τ sig (Elt F)) := ops1 ++ ops2_0
/-- The operations of window 1. -/
def win1 : List (HloOp τ sig (Elt F)) := ops2_1 ++ ops3
/-- The operations of window 2. -/
def win2 : List (HloOp τ sig (Elt F)) := ops4 ++ ops5 ++ ops6_0
/-- The operations of window 3. -/
def win3 : List (HloOp τ sig (Elt F)) := ops6_1 ++ ops7 ++ ops8 ++ ops9_0
/-- The operations of window 4. -/
def win4 : List (HloOp τ sig (Elt F)) := ops9_1 ++ ops10 ++ ops11_0
/-- The operations of window 5. -/
def win5 : List (HloOp τ sig (Elt F)) := ops11_1 ++ ops12_0
/-- The operations of window 6. -/
def win6 : List (HloOp τ sig (Elt F)) := ops12_1 ++ ops13

/-- All the operations, in order. -/
abbrev ops : List (HloOp τ sig (Elt F)) := win0 ++ (win1 ++ (win2 ++ (win3 ++ (win4 ++ (win5 ++ (win6))))))

set_option maxHeartbeats 4000000 in
/-- Window 0 runs its operations in order. -/
theorem main_part0_eq (c : Dev nD) : main_part0 (F := F) c = seq win0 := rfl
set_option maxHeartbeats 4000000 in
/-- Window 1 runs its operations in order. -/
theorem main_part1_eq (c : Dev nD) : main_part1 (F := F) c = seq win1 := rfl
set_option maxHeartbeats 4000000 in
/-- Window 2 runs its operations in order. -/
theorem main_part2_eq (c : Dev nD) : main_part2 (F := F) c = seq win2 := rfl
set_option maxHeartbeats 4000000 in
/-- Window 3 runs its operations in order. -/
theorem main_part3_eq (c : Dev nD) : main_part3 (F := F) c = seq win3 := rfl
set_option maxHeartbeats 4000000 in
/-- Window 4 runs its operations in order. -/
theorem main_part4_eq (c : Dev nD) : main_part4 (F := F) c = seq win4 := rfl
set_option maxHeartbeats 4000000 in
/-- Window 5 runs its operations in order. -/
theorem main_part5_eq (c : Dev nD) : main_part5 (F := F) c = seq win5 := rfl
set_option maxHeartbeats 4000000 in
/-- Window 6 runs its operations in order. -/
theorem main_part6_eq (c : Dev nD) : main_part6 (F := F) c = seq win6 := rfl
/-- The program runs its operations in order. -/
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl

end Cert.ReferenceIdeal.Val
-- ==== Proof.RefRun.lean ====
module

public import proofs.«01_k».proof.Proof.RefOps
public import Idealize.ShloMosaic.Lib.StableHlo.Run
public import Idealize.ShloMosaic.Lib.StableHlo.RunRead
public import Idealize.ShloMosaic.Lib.Pipeline.Frame

@[expose] public section

set_option Elab.async false
set_option maxRecDepth 16384

noncomputable section

/-! The buffers after each layer of the reference, and the reference's run. -/

namespace Cert.ReferenceIdeal.Val

open Cert.ReferenceIdeal Cert.ReferenceIdeal.Gen Cert.ReferenceIdeal.Facts₀
open Idealize.ShloMosaic Idealize.ShloMosaic.TcCoe Idealize.SL.Sem Idealize.ShloMosaic.StableHlo

variable {F : FTy → Type} [FloatOps F]

/-- What `ops1` writes. -/
abbrev ops1_W : List (Ref sig .tc) := [main_v0, main_v1, main_c, main_v2, main_v3, main_v4, main_v5, main_v6, main_v7, main_v8, main_cst, main_v9, main_c_0, main_v10, main_v11, main_c_1, main_v12, main_v13, main_v14, main_v15, main_v16, main_c_2, main_v17, main_v18, main_c_3, main_v19, main_v20, main_v21, main_v22, main_v23, main_v24, main_v25, main_v26, main_v27, main_v28, main_v29, main_cst_4, main_v30, main_v31, main_v32]
/-- What `ops2_0` writes. -/
abbrev ops2_0_W : List (Ref sig .tc) := [main_v33, main_v34, main_c_5, main_v35, main_v36, main_v37, main_v38, main_v39, main_v40, main_v41, main_cst_6, main_v42, main_c_7, main_v43, main_v44, main_c_8, main_v45, main_v46, main_v47, main_v48]
/-- What `ops2_1` writes. -/
abbrev ops2_1_W : List (Ref sig .tc) := [main_v49, main_c_9, main_v50, main_v51, main_c_10, main_v52, main_v53, main_v54, main_v55, main_v56, main_v57, main_v58, main_v59, main_v60, main_v61, main_v62, main_cst_11, main_v63, main_v64, main_v65]
/-- What `ops3` writes. -/
abbrev ops3_W : List (Ref sig .tc) := [main_v66, main_v67, main_c_12, main_v68, main_v69, main_v70, main_v71, main_v72, main_v73, main_v74, main_cst_13, main_v75, main_c_14, main_v76, main_v77, main_c_15, main_v78, main_v79, main_v80, main_v81, main_v82, main_c_16, main_v83, main_v84, main_c_17, main_v85, main_v86, main_v87, main_v88, main_v89, main_v90, main_v91, main_v92, main_v93, main_v94, main_v95, main_cst_18, main_v96, main_v97, main_v98]
/-- What `ops4` writes. -/
abbrev ops4_W : List (Ref sig .tc) := [main_v99, main_v100, main_c_19, main_v101, main_v102, main_v103, main_v104, main_v105, main_v106, main_v107, main_cst_20, main_v108, main_c_21, main_v109, main_v110, main_c_22, main_v111, main_v112, main_v113, main_v114, main_v115, main_c_23, main_v116, main_v117, main_c_24, main_v118, main_v119, main_v120, main_v121, main_v122, main_v123, main_v124, main_v125, main_v126, main_v127, main_v128, main_cst_25, main_v129, main_v130, main_v131]
/-- What `ops5` writes. -/
abbrev ops5_W : List (Ref sig .tc) := [main_v132, main_v133, main_v134, main_v135, main_cst_26, main_v136, main_v137, main_v138, main_v139, main_v140, main_v141, main_v142]
/-- What `ops6_0` writes. -/
abbrev ops6_0_W : List (Ref sig .tc) := [main_v143, main_v144, main_v145, main_v146, main_v147, main_v148, main_cst_27, main_v149]
/-- What `ops6_1` writes. -/
abbrev ops6_1_W : List (Ref sig .tc) := [main_v150, main_call0_v0, main_call0_cst, main_call0_c, main_call0_v1_0, main_v151, main_c_28, main_v152, main_v153, main_c_29, main_v154, main_v155, main_v156, main_v157, main_v158]
/-- What `ops7` writes. -/
abbrev ops7_W : List (Ref sig .tc) := [main_v159, main_v160, main_v161, main_v162, main_v163, main_cst_30, main_v164, main_v165]
/-- What `ops8` writes. -/
abbrev ops8_W : List (Ref sig .tc) := [main_v166, main_v167, main_v168, main_v169, main_cst_31, main_v170, main_v171]
/-- What `ops9_0` writes. -/
abbrev ops9_0_W : List (Ref sig .tc) := [main_v172, main_v173, main_c_32, main_v174, main_v175, main_v176, main_v177, main_v178, main_v179, main_v180, main_cst_33, main_v181, main_v182, main_v183, main_c_34, main_v184, main_v185, main_c_35, main_v186, main_v187, main_v188, main_v189, main_v190, main_c_36, main_v191, main_v192, main_c_37, main_v193, main_v194, main_v195, main_v196, main_v197, main_v198, main_v199]
/-- What `ops9_1` writes. -/
abbrev ops9_1_W : List (Ref sig .tc) := [main_v200, main_v201, main_v202, main_v203, main_cst_38, main_v204, main_v205, main_v206]
/-- What `ops10` writes. -/
abbrev ops10_W : List (Ref sig .tc) := [main_v207, main_v208, main_c_39, main_v209, main_v210, main_v211, main_v212, main_v213, main_v214, main_v215, main_cst_40, main_v216, main_v217, main_v218, main_c_41, main_v219, main_v220, main_c_42, main_v221, main_v222, main_v223, main_v224, main_v225, main_c_43, main_v226, main_v227, main_c_44, main_v228, main_v229, main_v230, main_v231, main_v232, main_v233, main_v234, main_v235, main_v236, main_v237, main_v238, main_cst_45, main_v239, main_v240, main_v241]
/-- What `ops11_0` writes. -/
abbrev ops11_0_W : List (Ref sig .tc) := [main_v242, main_v243, main_c_46, main_v244, main_v245, main_v246, main_v247, main_v248, main_v249, main_v250]
/-- What `ops11_1` writes. -/
abbrev ops11_1_W : List (Ref sig .tc) := [main_cst_47, main_v251, main_v252, main_v253, main_c_48, main_v254, main_v255, main_c_49, main_v256, main_v257, main_v258, main_v259, main_v260, main_c_50, main_v261, main_v262, main_c_51, main_v263, main_v264, main_v265, main_v266, main_v267, main_v268, main_v269, main_v270, main_v271, main_v272, main_v273, main_cst_52, main_v274, main_v275, main_v276]
/-- What `ops12_0` writes. -/
abbrev ops12_0_W : List (Ref sig .tc) := [main_v277, main_v278, main_c_53, main_v279, main_v280, main_v281, main_v282, main_v283, main_v284, main_v285, main_cst_54, main_v286, main_v287, main_v288, main_c_55, main_v289, main_v290, main_c_56, main_v291, main_v292, main_v293, main_v294, main_v295, main_c_57, main_v296, main_v297, main_c_58, main_v298]
/-- What `ops12_1` writes. -/
abbrev ops12_1_W : List (Ref sig .tc) := [main_v299, main_v300, main_v301, main_v302, main_v303, main_v304, main_v305, main_v306, main_v307, main_v308, main_v309]
/-- What `ops13` writes. -/
abbrev ops13_W : List (Ref sig .tc) := [main_v310, main_v311, main_v312, main_v313, main_v314, main_v315, main_cst_59, main_v316, main_v317, main_call1_v0, main_call1_cst, main_call1_c, main_call1_v1_0, main_v318, main_c_60, main_v319, main_v320, main_c_61, main_v321, main_v322, main_v323, main_v324, main_v325]

variable (V : Valuation τ sig (Elt F))

/-- The buffers after layer 1. -/
def U1 : Valuation τ sig (Elt F) := after ops1 V
/-- A buffer layer 1 does not write keeps its contents. -/
theorem U1_of (r : Ref sig .tc) (h : r ∉ ops1_W) : U1 V (Proc.devRef .tc r) = V (Proc.devRef .tc r) :=
  after_of_writes_sub ops1 _ (forall_writes_sub_of_map rfl) h
/-- The buffers after layer 2. -/
def U2 : Valuation τ sig (Elt F) := after ops2_1 (after ops2_0 (U1 V))
/-- A buffer layer 2 does not write keeps its contents. -/
theorem U2_of (r : Ref sig .tc) (h : r ∉ ops2_0_W ++ ops2_1_W) : U2 V (Proc.devRef .tc r) = (U1 V) (Proc.devRef .tc r) :=
  (after_of_writes_sub ops2_1 _ (forall_writes_sub_of_map rfl) fun h' => h (List.mem_append_right _ h')).trans
    (after_of_writes_sub ops2_0 _ (forall_writes_sub_of_map rfl) fun h' => h (List.mem_append_left _ h'))
/-- The buffers after layer 3. -/
def U3 : Valuation τ sig (Elt F) := after ops3 (U2 V)
/-- A buffer layer 3 does not write keeps its contents. -/
theorem U3_of (r : Ref sig .tc) (h : r ∉ ops3_W) : U3 V (Proc.devRef .tc r) = (U2 V) (Proc.devRef .tc r) :=
  after_of_writes_sub ops3 _ (forall_writes_sub_of_map rfl) h
/-- The buffers after layer 4. -/
def U4 : Valuation τ sig (Elt F) := after ops4 (U3 V)
/-- A buffer layer 4 does not write keeps its contents. -/
theorem U4_of (r : Ref sig .tc) (h : r ∉ ops4_W) : U4 V (Proc.devRef .tc r) = (U3 V) (Proc.devRef .tc r) :=
  after_of_writes_sub ops4 _ (forall_writes_sub_of_map rfl) h
/-- The buffers after layer 5. -/
def U5 : Valuation τ sig (Elt F) := after ops5 (U4 V)
/-- A buffer layer 5 does not write keeps its contents. -/
theorem U5_of (r : Ref sig .tc) (h : r ∉ ops5_W) : U5 V (Proc.devRef .tc r) = (U4 V) (Proc.devRef .tc r) :=
  after_of_writes_sub ops5 _ (forall_writes_sub_of_map rfl) h
/-- The buffers after layer 6. -/
def U6 : Valuation τ sig (Elt F) := after ops6_1 (after ops6_0 (U5 V))
/-- A buffer layer 6 does not write keeps its contents. -/
theorem U6_of (r : Ref sig .tc) (h : r ∉ ops6_0_W ++ ops6_1_W) : U6 V (Proc.devRef .tc r) = (U5 V) (Proc.devRef .tc r) :=
  (after_of_writes_sub ops6_1 _ (forall_writes_sub_of_map rfl) fun h' => h (List.mem_append_right _ h')).trans
    (after_of_writes_sub ops6_0 _ (forall_writes_sub_of_map rfl) fun h' => h (List.mem_append_left _ h'))
/-- The buffers after layer 7. -/
def U7 : Valuation τ sig (Elt F) := after ops7 (U6 V)
/-- A buffer layer 7 does not write keeps its contents. -/
theorem U7_of (r : Ref sig .tc) (h : r ∉ ops7_W) : U7 V (Proc.devRef .tc r) = (U6 V) (Proc.devRef .tc r) :=
  after_of_writes_sub ops7 _ (forall_writes_sub_of_map rfl) h
/-- The buffers after layer 8. -/
def U8 : Valuation τ sig (Elt F) := after ops8 (U7 V)
/-- A buffer layer 8 does not write keeps its contents. -/
theorem U8_of (r : Ref sig .tc) (h : r ∉ ops8_W) : U8 V (Proc.devRef .tc r) = (U7 V) (Proc.devRef .tc r) :=
  after_of_writes_sub ops8 _ (forall_writes_sub_of_map rfl) h
/-- The buffers after layer 9. -/
def U9 : Valuation τ sig (Elt F) := after ops9_1 (after ops9_0 (U8 V))
/-- A buffer layer 9 does not write keeps its contents. -/
theorem U9_of (r : Ref sig .tc) (h : r ∉ ops9_0_W ++ ops9_1_W) : U9 V (Proc.devRef .tc r) = (U8 V) (Proc.devRef .tc r) :=
  (after_of_writes_sub ops9_1 _ (forall_writes_sub_of_map rfl) fun h' => h (List.mem_append_right _ h')).trans
    (after_of_writes_sub ops9_0 _ (forall_writes_sub_of_map rfl) fun h' => h (List.mem_append_left _ h'))
/-- The buffers after layer 10. -/
def U10 : Valuation τ sig (Elt F) := after ops10 (U9 V)
/-- A buffer layer 10 does not write keeps its contents. -/
theorem U10_of (r : Ref sig .tc) (h : r ∉ ops10_W) : U10 V (Proc.devRef .tc r) = (U9 V) (Proc.devRef .tc r) :=
  after_of_writes_sub ops10 _ (forall_writes_sub_of_map rfl) h
/-- The buffers after layer 11. -/
def U11 : Valuation τ sig (Elt F) := after ops11_1 (after ops11_0 (U10 V))
/-- A buffer layer 11 does not write keeps its contents. -/
theorem U11_of (r : Ref sig .tc) (h : r ∉ ops11_0_W ++ ops11_1_W) : U11 V (Proc.devRef .tc r) = (U10 V) (Proc.devRef .tc r) :=
  (after_of_writes_sub ops11_1 _ (forall_writes_sub_of_map rfl) fun h' => h (List.mem_append_right _ h')).trans
    (after_of_writes_sub ops11_0 _ (forall_writes_sub_of_map rfl) fun h' => h (List.mem_append_left _ h'))
/-- The buffers after layer 12. -/
def U12 : Valuation τ sig (Elt F) := after ops12_1 (after ops12_0 (U11 V))
/-- A buffer layer 12 does not write keeps its contents. -/
theorem U12_of (r : Ref sig .tc) (h : r ∉ ops12_0_W ++ ops12_1_W) : U12 V (Proc.devRef .tc r) = (U11 V) (Proc.devRef .tc r) :=
  (after_of_writes_sub ops12_1 _ (forall_writes_sub_of_map rfl) fun h' => h (List.mem_append_right _ h')).trans
    (after_of_writes_sub ops12_0 _ (forall_writes_sub_of_map rfl) fun h' => h (List.mem_append_left _ h'))
/-- The buffers after layer 13. -/
def U13 : Valuation τ sig (Elt F) := after ops13 (U12 V)
/-- A buffer layer 13 does not write keeps its contents. -/
theorem U13_of (r : Ref sig .tc) (h : r ∉ ops13_W) : U13 V (Proc.devRef .tc r) = (U12 V) (Proc.devRef .tc r) :=
  after_of_writes_sub ops13 _ (forall_writes_sub_of_map rfl) h

/-- All the operations leave what the layers leave, one after the other. -/
theorem after_ops : after ops V = U13 V := by
  simp only [ops, win0, win1, win2, win3, win4, win5, win6, after_append]
  rfl

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- Layer 1 keeps the arguments. -/
theorem U1_args (a : Ref sig .tc) (ha : a ∈ argRefs) : U1 V (Proc.devRef .tc a) = V (Proc.devRef .tc a) :=
  (U1_of V a ((by decide +kernel : ∀ a ∈ argRefs, a ∉ ops1_W) a ha)).trans (rfl)
/-- Layer 2 keeps the arguments. -/
theorem U2_args (a : Ref sig .tc) (ha : a ∈ argRefs) : U2 V (Proc.devRef .tc a) = V (Proc.devRef .tc a) :=
  (U2_of V a ((by decide +kernel : ∀ a ∈ argRefs, a ∉ ops2_0_W ++ ops2_1_W) a ha)).trans (U1_args V a ha)
/-- Layer 3 keeps the arguments. -/
theorem U3_args (a : Ref sig .tc) (ha : a ∈ argRefs) : U3 V (Proc.devRef .tc a) = V (Proc.devRef .tc a) :=
  (U3_of V a ((by decide +kernel : ∀ a ∈ argRefs, a ∉ ops3_W) a ha)).trans (U2_args V a ha)
/-- Layer 4 keeps the arguments. -/
theorem U4_args (a : Ref sig .tc) (ha : a ∈ argRefs) : U4 V (Proc.devRef .tc a) = V (Proc.devRef .tc a) :=
  (U4_of V a ((by decide +kernel : ∀ a ∈ argRefs, a ∉ ops4_W) a ha)).trans (U3_args V a ha)
/-- Layer 5 keeps the arguments. -/
theorem U5_args (a : Ref sig .tc) (ha : a ∈ argRefs) : U5 V (Proc.devRef .tc a) = V (Proc.devRef .tc a) :=
  (U5_of V a ((by decide +kernel : ∀ a ∈ argRefs, a ∉ ops5_W) a ha)).trans (U4_args V a ha)
/-- Layer 6 keeps the arguments. -/
theorem U6_args (a : Ref sig .tc) (ha : a ∈ argRefs) : U6 V (Proc.devRef .tc a) = V (Proc.devRef .tc a) :=
  (U6_of V a ((by decide +kernel : ∀ a ∈ argRefs, a ∉ ops6_0_W ++ ops6_1_W) a ha)).trans (U5_args V a ha)
/-- Layer 7 keeps the arguments. -/
theorem U7_args (a : Ref sig .tc) (ha : a ∈ argRefs) : U7 V (Proc.devRef .tc a) = V (Proc.devRef .tc a) :=
  (U7_of V a ((by decide +kernel : ∀ a ∈ argRefs, a ∉ ops7_W) a ha)).trans (U6_args V a ha)
/-- Layer 8 keeps the arguments. -/
theorem U8_args (a : Ref sig .tc) (ha : a ∈ argRefs) : U8 V (Proc.devRef .tc a) = V (Proc.devRef .tc a) :=
  (U8_of V a ((by decide +kernel : ∀ a ∈ argRefs, a ∉ ops8_W) a ha)).trans (U7_args V a ha)
/-- Layer 9 keeps the arguments. -/
theorem U9_args (a : Ref sig .tc) (ha : a ∈ argRefs) : U9 V (Proc.devRef .tc a) = V (Proc.devRef .tc a) :=
  (U9_of V a ((by decide +kernel : ∀ a ∈ argRefs, a ∉ ops9_0_W ++ ops9_1_W) a ha)).trans (U8_args V a ha)
/-- Layer 10 keeps the arguments. -/
theorem U10_args (a : Ref sig .tc) (ha : a ∈ argRefs) : U10 V (Proc.devRef .tc a) = V (Proc.devRef .tc a) :=
  (U10_of V a ((by decide +kernel : ∀ a ∈ argRefs, a ∉ ops10_W) a ha)).trans (U9_args V a ha)
/-- Layer 11 keeps the arguments. -/
theorem U11_args (a : Ref sig .tc) (ha : a ∈ argRefs) : U11 V (Proc.devRef .tc a) = V (Proc.devRef .tc a) :=
  (U11_of V a ((by decide +kernel : ∀ a ∈ argRefs, a ∉ ops11_0_W ++ ops11_1_W) a ha)).trans (U10_args V a ha)
/-- Layer 12 keeps the arguments. -/
theorem U12_args (a : Ref sig .tc) (ha : a ∈ argRefs) : U12 V (Proc.devRef .tc a) = V (Proc.devRef .tc a) :=
  (U12_of V a ((by decide +kernel : ∀ a ∈ argRefs, a ∉ ops12_0_W ++ ops12_1_W) a ha)).trans (U11_args V a ha)
/-- Layer 13 keeps the arguments. -/
theorem U13_args (a : Ref sig .tc) (ha : a ∈ argRefs) : U13 V (Proc.devRef .tc a) = V (Proc.devRef .tc a) :=
  (U13_of V a ((by decide +kernel : ∀ a ∈ argRefs, a ∉ ops13_W) a ha)).trans (U12_args V a ha)

set_option maxHeartbeats 4000000 in
/-- No operation touches a buffer outside the TensorCore's. -/
theorem ops_sub : (ops : List (HloOp τ sig (Elt F))).Forall fun op => op.bufs ⊆ tcRefs τ sig := by
  simp only [ops, win0, win1, win2, win3, win4, win5, win6, List.forall_append, List.Forall, unary_bufs_sub, binary_bufs_sub, nullary_bufs_sub, ternary_bufs_sub,
    reshape_bufs_sub, quaternary_bufs_sub, and_self]

set_option maxHeartbeats 4000000 in
/-- Every operation determines its results. -/
theorem ops_fresh : ∀ op ∈ (ops : List (HloOp τ sig (Elt F))), op.fresh = ∅ := by
  refine List.forall_iff_forall_mem.mp ?_
  simp only [ops, win0, win1, win2, win3, win4, win5, win6, List.forall_append, List.Forall]
  repeat' constructor

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- From any memory with zero counters the reference ends with every buffer at what its layers leave. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = U13 (launchContents m d) (Proc.devRef .tc b) := by
  simp only [← after_ops]
  exact run_seq scopedRefs_eq scopedSems_eq defs main (fun _ => ops) main_eq (fun _ => ops_sub) m ρ fun _ => ops_fresh

end Cert.ReferenceIdeal.Val
-- ==== Proof.Launch.lean ====
module

public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel ends with every unscoped buffer at the last boundary's contents. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W162 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W162 m ρ c b)
    (hfin := fun c s' => by
      iintro ⟨⟨Hh, -⟩, HSI⟩
      unfold StableHlo.held
      imodintro
      iapply (pointsTo_read_all (Pipeline.ucRefs τ sig) (fun b => (((c : Thread nD τ)).1, b)) (W162 m ρ c) s')
      isplitl [Hh] <;> iassumption)
    (hQ := fun s h hz c b hb => h c _ (mem_uc b hb))

end Cert.KernelIdeal.Val
-- ==== Proof.Gathers.lean ====
/-
  Reading an array along one axis at given positions: the gathers of the two programs, at an index.
-/
module

public import Idealize.ShloMosaic.Lib.Pipeline.ValueKit
public import Idealize.ShloMosaic.Lib.Pointwise

@[expose] public section

set_option maxRecDepth 16384

noncomputable section

namespace Cert.Vq

open Idealize.ShloMosaic

/-- A word below 2 to the 31 reads signed as its number. -/
theorem toInt_toNat_ofNat {n : ℕ} (h : n < 2 ^ 31) : (BitVec.ofNat 32 n).toInt.toNat = n := by
  have hn : (BitVec.ofNat 32 n).toNat = n := by rw [BitVec.toNat_ofNat]; omega
  rw [BitVec.toInt_eq_toNat_of_lt (by rw [hn]; omega), hn]; rfl

/-- Positions along axis 2 of four, given as a table of two axes. -/
abbrev dims2 (B C H W P Q : ℕ) (wf : GatherDims.WF ⟨4, ![B, C, H, W]⟩ ⟨3, ![P, Q, 1]⟩ ⟨5, ![B, C, P, Q, W]⟩ [0, 1, 4] [2] [] [2] [] 2 ![B, C, 1, W]) :
    GatherDims ⟨4, ![B, C, H, W]⟩ ⟨3, ![P, Q, 1]⟩ ⟨5, ![B, C, P, Q, W]⟩ where
  offsetDims := [0, 1, 4]
  collapsedSliceDims := [2]
  operandBatchingDims := []
  startIndicesBatchingDims := []
  startIndexMap := [2]
  indexVectorDim := 2
  sliceSizes := ![B, C, 1, W]
  wf := wf

/-- The gather along axis 2, read at an index. -/
theorem gather2_apply {α : Type} {B C H W P Q : ℕ} (wf) (x : (⟨4, ![B, C, H, W]⟩ : Shape).Idx → α) (idx : IVec ⟨3, ![P, Q, 1]⟩ 32)
    (b : Fin B) (c : Fin C) (p : Fin P) (q : Fin Q) (w : Fin W) (k : Fin H) (hk : idx (ix3 p q 0) = BitVec.ofNat 32 k.val) (hH : H < 2 ^ 31) :
    Host.gather (dims2 B C H W P Q wf) x idx (ix5 b c p q w) = x (ix4 b c k w) := by
  unfold Host.gather
  refine congrArg x (funext fun a => Fin.ext ?_)
  show (dims2 B C H W P Q wf).start _ idx a + (dims2 B C H W P Q wf).batchCoord _ a + (dims2 B C H W P Q wf).offCoord _ a = _
  rw [GatherDims.batchCoord_eq_zero _ _ _ (fun h => by simp at h)]
  fin_cases a
  · show 0 + 0 + b.val = b.val
    omega
  · show 0 + 0 + c.val = c.val
    omega
  · show min (idx ((dims2 B C H W P Q wf).siIdx (ix5 b c p q w) ⟨0, _⟩)).toInt.toNat (H - 1) + 0 + 0 = k.val
    have hs : (dims2 B C H W P Q wf).siIdx (ix5 b c p q w) ⟨0, Nat.one_pos⟩ = ix3 p q 0 := by
      funext a; fin_cases a <;> rfl
    rw [hs, hk, toInt_toNat_ofNat (by omega)]
    omega
  · show 0 + 0 + w.val = w.val
    omega

/-- Positions along the last of five axes, given as a table of two axes. -/
abbrev dims4 (B C P Q W R S : ℕ) (wf : GatherDims.WF ⟨5, ![B, C, P, Q, W]⟩ ⟨3, ![R, S, 1]⟩ ⟨6, ![B, C, P, Q, R, S]⟩ [0, 1, 2, 3] [4] [] [4] [] 2 ![B, C, P, Q, 1]) :
    GatherDims ⟨5, ![B, C, P, Q, W]⟩ ⟨3, ![R, S, 1]⟩ ⟨6, ![B, C, P, Q, R, S]⟩ where
  offsetDims := [0, 1, 2, 3]
  collapsedSliceDims := [4]
  operandBatchingDims := []
  startIndicesBatchingDims := []
  startIndexMap := [4]
  indexVectorDim := 2
  sliceSizes := ![B, C, P, Q, 1]
  wf := wf

/-- The gather along the last of five axes, read at an index. -/
theorem gather4_apply {α : Type} {B C P Q W R S : ℕ} (wf) (x : (⟨5, ![B, C, P, Q, W]⟩ : Shape).Idx → α) (idx : IVec ⟨3, ![R, S, 1]⟩ 32)
    (b : Fin B) (c : Fin C) (p : Fin P) (q : Fin Q) (r : Fin R) (s : Fin S) (k : Fin W) (hk : idx (ix3 r s 0) = BitVec.ofNat 32 k.val) (hW : W < 2 ^ 31) :
    Host.gather (dims4 B C P Q W R S wf) x idx (ix6 b c p q r s) = x (ix5 b c p q k) := by
  unfold Host.gather
  refine congrArg x (funext fun a => Fin.ext ?_)
  show (dims4 B C P Q W R S wf).start _ idx a + (dims4 B C P Q W R S wf).batchCoord _ a + (dims4 B C P Q W R S wf).offCoord _ a = _
  rw [GatherDims.batchCoord_eq_zero _ _ _ (fun h => by simp at h)]
  fin_cases a
  · show 0 + 0 + b.val = b.val
    omega
  · show 0 + 0 + c.val = c.val
    omega
  · show 0 + 0 + p.val = p.val
    omega
  · show 0 + 0 + q.val = q.val
    omega
  · show min (idx ((dims4 B C P Q W R S wf).siIdx (ix6 b c p q r s) ⟨0, _⟩)).toInt.toNat (W - 1) + 0 + 0 = k.val
    have hs : (dims4 B C P Q W R S wf).siIdx (ix6 b c p q r s) ⟨0, Nat.one_pos⟩ = ix3 r s 0 := by
      funext a; fin_cases a <;> rfl
    rw [hs, hk, toInt_toNat_ofNat (by omega)]
    omega

/-- Positions along axis 2 of four, given as a list. -/
abbrev dimsA (A B H W P : ℕ) (wf : GatherDims.WF ⟨4, ![A, B, H, W]⟩ ⟨2, ![P, 1]⟩ ⟨4, ![A, B, P, W]⟩ [0, 1, 3] [2] [] [2] [] 1 ![A, B, 1, W]) :
    GatherDims ⟨4, ![A, B, H, W]⟩ ⟨2, ![P, 1]⟩ ⟨4, ![A, B, P, W]⟩ where
  offsetDims := [0, 1, 3]
  collapsedSliceDims := [2]
  operandBatchingDims := []
  startIndicesBatchingDims := []
  startIndexMap := [2]
  indexVectorDim := 1
  sliceSizes := ![A, B, 1, W]
  wf := wf

/-- The gather of a list of rows of a kernel, read at an index. -/
theorem gatherA_apply {α : Type} {A B H W P : ℕ} (wf) (x : (⟨4, ![A, B, H, W]⟩ : Shape).Idx → α) (idx : IVec ⟨2, ![P, 1]⟩ 32)
    (a : Fin A) (b : Fin B) (p : Fin P) (w : Fin W) (k : Fin H) (hk : idx (ix2 p 0) = BitVec.ofNat 32 k.val) (hH : H < 2 ^ 31) :
    Host.gather (dimsA A B H W P wf) x idx (ix4 a b p w) = x (ix4 a b k w) := by
  unfold Host.gather
  refine congrArg x (funext fun c => Fin.ext ?_)
  show (dimsA A B H W P wf).start _ idx c + (dimsA A B H W P wf).batchCoord _ c + (dimsA A B H W P wf).offCoord _ c = _
  rw [GatherDims.batchCoord_eq_zero _ _ _ (fun h => by simp at h)]
  fin_cases c
  · show 0 + 0 + a.val = a.val
    omega
  · show 0 + 0 + b.val = b.val
    omega
  · show min (idx ((dimsA A B H W P wf).siIdx (ix4 a b p w) ⟨0, _⟩)).toInt.toNat (H - 1) + 0 + 0 = k.val
    have hs : (dimsA A B H W P wf).siIdx (ix4 a b p w) ⟨0, Nat.one_pos⟩ = ix2 p 0 := by
      funext a; fin_cases a <;> rfl
    rw [hs, hk, toInt_toNat_ofNat (by omega)]
    omega
  · show 0 + 0 + w.val = w.val
    omega

/-- Positions along the last of four axes, given as a list. -/
abbrev dimsB (A B H W P : ℕ) (wf : GatherDims.WF ⟨4, ![A, B, H, W]⟩ ⟨2, ![P, 1]⟩ ⟨4, ![A, B, H, P]⟩ [0, 1, 2] [3] [] [3] [] 1 ![A, B, H, 1]) :
    GatherDims ⟨4, ![A, B, H, W]⟩ ⟨2, ![P, 1]⟩ ⟨4, ![A, B, H, P]⟩ where
  offsetDims := [0, 1, 2]
  collapsedSliceDims := [3]
  operandBatchingDims := []
  startIndicesBatchingDims := []
  startIndexMap := [3]
  indexVectorDim := 1
  sliceSizes := ![A, B, H, 1]
  wf := wf

/-- The gather of a list of columns of a kernel, read at an index. -/
theorem gatherB_apply {α : Type} {A B H W P : ℕ} (wf) (x : (⟨4, ![A, B, H, W]⟩ : Shape).Idx → α) (idx : IVec ⟨2, ![P, 1]⟩ 32)
    (a : Fin A) (b : Fin B) (h : Fin H) (p : Fin P) (k : Fin W) (hk : idx (ix2 p 0) = BitVec.ofNat 32 k.val) (hW : W < 2 ^ 31) :
    Host.gather (dimsB A B H W P wf) x idx (ix4 a b h p) = x (ix4 a b h k) := by
  unfold Host.gather
  refine congrArg x (funext fun c => Fin.ext ?_)
  show (dimsB A B H W P wf).start _ idx c + (dimsB A B H W P wf).batchCoord _ c + (dimsB A B H W P wf).offCoord _ c = _
  rw [GatherDims.batchCoord_eq_zero _ _ _ (fun h => by simp at h)]
  fin_cases c
  · show 0 + 0 + a.val = a.val
    omega
  · show 0 + 0 + b.val = b.val
    omega
  · show 0 + 0 + h.val = h.val
    omega
  · show min (idx ((dimsB A B H W P wf).siIdx (ix4 a b h p) ⟨0, _⟩)).toInt.toNat (W - 1) + 0 + 0 = k.val
    have hs : (dimsB A B H W P wf).siIdx (ix4 a b h p) ⟨0, Nat.one_pos⟩ = ix2 p 0 := by
      funext a; fin_cases a <;> rfl
    rw [hs, hk, toInt_toNat_ofNat (by omega)]
    omega

end Cert.Vq
-- ==== Proof.Contract3.lean ====
/-
  A product summed over channels and a 4x4 window, as a sum over its three axes.
-/
module

public import Idealize.ShloMosaic.Lib.Pipeline.ValueKit
public import Idealize.ShloMosaic.Lib.Pointwise

@[expose] public section

set_option maxRecDepth 16384

noncomputable section

namespace Cert.Vq

open Idealize.ShloMosaic

/-- The triples of coordinates are the indices of a shape of three axes. -/
def triples (s : Shape) (A B C : ℕ) (hr : s.rank = 3) (h0 : s.size ⟨0, by omega⟩ = A) (h1 : s.size ⟨1, by omega⟩ = B) (h2 : s.size ⟨2, by omega⟩ = C) :
    s.Idx ≃ Fin A × Fin B × Fin C where
  toFun q := ((q ⟨0, by omega⟩).cast h0, (q ⟨1, by omega⟩).cast h1, (q ⟨2, by omega⟩).cast h2)
  invFun p a := if a0 : a.val = 0 then p.1.cast (by rw [← h0]; congr 1; exact Fin.ext a0.symm)
    else if a1 : a.val = 1 then p.2.1.cast (by rw [← h1]; congr 1; exact Fin.ext a1.symm)
    else p.2.2.cast (by rw [← h2]; congr 1; have := a.isLt; exact Fin.ext (by show 2 = a.val; omega))
  left_inv q := by
    funext ⟨a, ha⟩
    apply Fin.ext
    rcases a with _ | _ | _ | a
    · simp
    · simp
    · simp
    · omega
  right_inv p := by
    obtain ⟨x, y, z⟩ := p
    simp

/-- The sum over a shape of three axes. -/
theorem sum_triples (s : Shape) (A B C : ℕ) (hr : s.rank = 3) (h0 : s.size ⟨0, by omega⟩ = A) (h1 : s.size ⟨1, by omega⟩ = B) (h2 : s.size ⟨2, by omega⟩ = C)
    (f : s.Idx → EReal) (g : Fin A → Fin B → Fin C → EReal)
    (hfg : ∀ q : s.Idx, f q = g ((q ⟨0, by omega⟩).cast h0) ((q ⟨1, by omega⟩).cast h1) ((q ⟨2, by omega⟩).cast h2)) :
    ∑ q, f q = ∑ a, ∑ b, ∑ c, g a b c := by
  rw [Fintype.sum_equiv (triples s A B C hr h0 h1 h2) f (fun p => g p.1 p.2.1 p.2.2) hfg, Fintype.sum_prod_type]
  exact Finset.sum_congr rfl fun a _ => Fintype.sum_prod_type _

/-- Kernels against 4x4 windows: channels and both window axes contracted. -/
abbrev dotWin (O C B P Q : ℕ) (wf : DotDims.WF ⟨4, ![O, C, 4, 4]⟩ ⟨6, ![B, C, P, 4, Q, 4]⟩ ⟨4, ![O, B, P, Q]⟩ [1, 3, 2] [1, 5, 3] [0] [0, 2, 4] [] []) :
    DotDims ⟨4, ![O, C, 4, 4]⟩ ⟨6, ![B, C, P, 4, Q, 4]⟩ ⟨4, ![O, B, P, Q]⟩ where
  lhsContracting := [1, 3, 2]
  rhsContracting := [1, 5, 3]
  lhsNonContracting := [0]
  rhsNonContracting := [0, 2, 4]
  lhsBatch := []
  rhsBatch := []
  wf := wf

/-- The product of kernels and windows, read at an index. -/
theorem dotWin_apply {O C B P Q : ℕ} (wf) (w : FVec Ideal ⟨4, ![O, C, 4, 4]⟩ .f32) (x : FVec Ideal ⟨6, ![B, C, P, 4, Q, 4]⟩ .f32)
    (o : Fin O) (b : Fin B) (p : Fin P) (q : Fin Q) :
    Host.dotGeneral (dotWin O C B P Q wf) none w x (ix4 o b p q)
      = (∑ c : Fin C, ∑ kx : Fin 4, ∑ ky : Fin 4, w (ix4 o c ky kx) * x (ix6 b c p ky q kx) : EReal) := by
  show Ideal.matmul _ _ _ _ _ = _
  unfold Ideal.matmul
  refine (zero_add _).trans ?_
  refine sum_triples _ C 4 4 rfl rfl rfl rfl _ (fun c kx ky => (w (ix4 o c ky kx) * x (ix6 b c p ky q kx) : EReal)) fun k => ?_
  have hl : (dotWin O C B P Q wf).lhsIdx (ix4 o b p q) k = ix4 o (k ⟨0, Nat.zero_lt_succ 2⟩) (k ⟨2, Nat.lt_succ_self 2⟩) (k ⟨1, Nat.succ_lt_succ (Nat.zero_lt_succ 1)⟩) := by
    funext a; fin_cases a <;> rfl
  have hr : (dotWin O C B P Q wf).rhsIdx (ix4 o b p q) k = ix6 b (k ⟨0, Nat.zero_lt_succ 2⟩) p (k ⟨2, Nat.lt_succ_self 2⟩) q (k ⟨1, Nat.succ_lt_succ (Nat.zero_lt_succ 1)⟩) := by
    funext a; fin_cases a <;> rfl
  rw [hl, hr]
  rfl

/-- Maps against kernels of their own size: channels and both axes contracted. -/
abbrev dotAll (B C O : ℕ) (wf : DotDims.WF ⟨4, ![B, C, 4, 4]⟩ ⟨4, ![O, C, 4, 4]⟩ ⟨2, ![B, O]⟩ [1, 3, 2] [1, 3, 2] [0] [0] [] []) :
    DotDims ⟨4, ![B, C, 4, 4]⟩ ⟨4, ![O, C, 4, 4]⟩ ⟨2, ![B, O]⟩ where
  lhsContracting := [1, 3, 2]
  rhsContracting := [1, 3, 2]
  lhsNonContracting := [0]
  rhsNonContracting := [0]
  lhsBatch := []
  rhsBatch := []
  wf := wf

/-- The product of maps and kernels of their own size, read at an index. -/
theorem dotAll_apply {B C O : ℕ} (wf) (x : FVec Ideal ⟨4, ![B, C, 4, 4]⟩ .f32) (w : FVec Ideal ⟨4, ![O, C, 4, 4]⟩ .f32) (b : Fin B) (o : Fin O) :
    Host.dotGeneral (dotAll B C O wf) none x w (ix2 b o)
      = (∑ c : Fin C, ∑ kx : Fin 4, ∑ ky : Fin 4, x (ix4 b c ky kx) * w (ix4 o c ky kx) : EReal) := by
  show Ideal.matmul _ _ _ _ _ = _
  unfold Ideal.matmul
  refine (zero_add _).trans ?_
  refine sum_triples _ C 4 4 rfl rfl rfl rfl _ (fun c kx ky => (x (ix4 b c ky kx) * w (ix4 o c ky kx) : EReal)) fun k => ?_
  have hl : (dotAll B C O wf).lhsIdx (ix2 b o) k = ix4 b (k ⟨0, Nat.zero_lt_succ 2⟩) (k ⟨2, Nat.lt_succ_self 2⟩) (k ⟨1, Nat.succ_lt_succ (Nat.zero_lt_succ 1)⟩) := by
    funext a; fin_cases a <;> rfl
  have hr : (dotAll B C O wf).rhsIdx (ix2 b o) k = ix4 o (k ⟨0, Nat.zero_lt_succ 2⟩) (k ⟨2, Nat.lt_succ_self 2⟩) (k ⟨1, Nat.succ_lt_succ (Nat.zero_lt_succ 1)⟩) := by
    funext a; fin_cases a <;> rfl
  rw [hl, hr]
  rfl

end Cert.Vq
-- ==== Proof.Conv.lean ====
/-
  The layers as sums: reading a map with zeros around or between its entries, the strided convolution and the
  transposed one, each at an index.
-/
module

public import proofs.«01_k».proof.Proof.Gathers
public import proofs.«01_k».proof.Proof.Contract3
public import Idealize.ShloMosaic.Lib.KernelVsHost

@[expose] public section

set_option maxRecDepth 16384

noncomputable section

namespace Cert.Vq

open Idealize.ShloMosaic

variable {B C O H W P Q : ℕ}

/-- An array of four axes. -/
abbrev Map4 (A B C D : ℕ) : Type := (⟨4, ![A, B, C, D]⟩ : Shape).Idx → EReal
/-- An array of one axis. -/
abbrev Map1 (A : ℕ) : Type := (⟨1, ![A]⟩ : Shape).Idx → EReal

/-- A plane read at natural numbers, zero outside. -/
def plane (f : Fin H → Fin W → EReal) (y x : ℕ) : EReal :=
  if h : y < H ∧ x < W then f ⟨y, h.1⟩ ⟨x, h.2⟩ else 0

/-- A plane with one line of zeros around it. -/
def padRd (f : Fin H → Fin W → EReal) (y x : ℕ) : EReal :=
  if 1 ≤ y ∧ 1 ≤ x then plane f (y - 1) (x - 1) else 0

/-- A plane with zeros between its entries and two lines of zeros around it. -/
def dilRd (f : Fin H → Fin W → EReal) (y x : ℕ) : EReal :=
  if 2 ≤ y ∧ 2 ≤ x ∧ (y - 2) % 2 = 0 ∧ (x - 2) % 2 = 0 then plane f ((y - 2) / 2) ((x - 2) / 2) else 0

/-- Sums of padded planes are padded planes of sums. -/
theorem padRd_sum {ι : Type} (s : Finset ι) (f : ι → Fin H → Fin W → EReal) (y x : ℕ) :
    padRd (fun a b => ∑ i ∈ s, f i a b) y x = ∑ i ∈ s, padRd (f i) y x := by
  unfold padRd plane
  split_ifs
  · rfl
  · exact Finset.sum_const_zero.symm
  · exact Finset.sum_const_zero.symm

/-- Scaled padded planes are padded planes of the scaled. -/
theorem padRd_mul (f : Fin H → Fin W → EReal) (r : EReal) (y x : ℕ) :
    padRd (fun a b => f a b * r) y x = padRd f y x * r := by
  unfold padRd plane
  split_ifs
  · rfl
  · exact (zero_mul r).symm
  · exact (zero_mul r).symm

/-- A read between zeros is a padded read where both coordinates are even, and zero elsewhere. -/
theorem dilRd_eq (f : Fin H → Fin W → EReal) (y x : ℕ) :
    dilRd f y x = if y % 2 = 0 ∧ x % 2 = 0 then padRd f (y / 2) (x / 2) else 0 := by
  unfold dilRd padRd
  by_cases h : 2 ≤ y ∧ 2 ≤ x
  · by_cases g : y % 2 = 0 ∧ x % 2 = 0
    · rw [if_pos (by omega), if_pos g, if_pos (by omega), show (y - 2) / 2 = y / 2 - 1 by omega, show (x - 2) / 2 = x / 2 - 1 by omega]
    · rw [if_neg (by omega), if_neg g]
  · rw [if_neg (by omega)]
    by_cases g : y % 2 = 0 ∧ x % 2 = 0
    · rw [if_pos g, if_neg (by omega)]
    · rw [if_neg g]

/-- Padding the last two of four axes by one, at an index. -/
theorem pad_nchw {Hp Wp : ℕ} (X : Map4 B C H W) {u : Shape} (v : u.Idx → EReal)
    (h : (⟨4, ![B, C, H, W]⟩ : Shape).Pads ![0, 0, 1, 1] ![0, 0, 1, 1] ![0, 0, 0, 0] ⟨4, ![B, C, Hp, Wp]⟩) (hu : 0 < u.numel) (hv : ∀ i, v i = 0)
    (b : Fin B) (c : Fin C) (y : Fin Hp) (x : Fin Wp) :
    pad ⟨4, ![B, C, Hp, Wp]⟩ ![0, 0, 1, 1] ![0, 0, 1, 1] ![0, 0, 0, 0] X v h hu (ix4 b c y x)
      = padRd (fun i j => X (ix4 b c i j)) y.val x.val := by
  unfold padRd plane
  by_cases g : 1 ≤ y.val ∧ 1 ≤ x.val
  · rw [if_pos g]
    by_cases g2 : y.val - 1 < H ∧ x.val - 1 < W
    · rw [dif_pos g2]
      refine pad_apply_of_inside _ _ _ X v h hu _ (ix4 b c ⟨y.val - 1, g2.1⟩ ⟨x.val - 1, g2.2⟩) fun a => ?_
      fin_cases a
      · show b.val = 0 + b.val * 1; omega
      · show c.val = 0 + c.val * 1; omega
      · show y.val = 1 + (y.val - 1) * 1; omega
      · show x.val = 1 + (x.val - 1) * 1; omega
    · rw [dif_neg g2]
      by_cases g3 : y.val - 1 < H
      · refine (pad_apply_of_not_inside _ _ _ X v h hu _ 3 fun hh => ?_).trans (hv _)
        have : (x.val - 1) / 1 < W := hh.2.2
        omega
      · refine (pad_apply_of_not_inside _ _ _ X v h hu _ 2 fun hh => ?_).trans (hv _)
        have : (y.val - 1) / 1 < H := hh.2.2
        omega
  · rw [if_neg g]
    by_cases g3 : 1 ≤ y.val
    · refine (pad_apply_of_not_inside _ _ _ X v h hu _ 3 fun hh => ?_).trans (hv _)
      have : 1 ≤ x.val := hh.1
      omega
    · refine (pad_apply_of_not_inside _ _ _ X v h hu _ 2 fun hh => ?_).trans (hv _)
      have : 1 ≤ y.val := hh.1
      omega

/-- Padding the middle two of four axes by one, at an index. -/
theorem pad_nhwc {Hp Wp : ℕ} (X : Map4 B H W C) {u : Shape} (v : u.Idx → EReal)
    (h : (⟨4, ![B, H, W, C]⟩ : Shape).Pads ![0, 1, 1, 0] ![0, 1, 1, 0] ![0, 0, 0, 0] ⟨4, ![B, Hp, Wp, C]⟩) (hu : 0 < u.numel) (hv : ∀ i, v i = 0)
    (b : Fin B) (c : Fin C) (y : Fin Hp) (x : Fin Wp) :
    pad ⟨4, ![B, Hp, Wp, C]⟩ ![0, 1, 1, 0] ![0, 1, 1, 0] ![0, 0, 0, 0] X v h hu (ix4 b y x c)
      = padRd (fun i j => X (ix4 b i j c)) y.val x.val := by
  unfold padRd plane
  by_cases g : 1 ≤ y.val ∧ 1 ≤ x.val
  · rw [if_pos g]
    by_cases g2 : y.val - 1 < H ∧ x.val - 1 < W
    · rw [dif_pos g2]
      refine pad_apply_of_inside _ _ _ X v h hu _ (ix4 b ⟨y.val - 1, g2.1⟩ ⟨x.val - 1, g2.2⟩ c) fun a => ?_
      fin_cases a
      · show b.val = 0 + b.val * 1; omega
      · show y.val = 1 + (y.val - 1) * 1; omega
      · show x.val = 1 + (x.val - 1) * 1; omega
      · show c.val = 0 + c.val * 1; omega
    · rw [dif_neg g2]
      by_cases g3 : y.val - 1 < H
      · refine (pad_apply_of_not_inside _ _ _ X v h hu _ 2 fun hh => ?_).trans (hv _)
        have : (x.val - 1) / 1 < W := hh.2.2
        omega
      · refine (pad_apply_of_not_inside _ _ _ X v h hu _ 1 fun hh => ?_).trans (hv _)
        have : (y.val - 1) / 1 < H := hh.2.2
        omega
  · rw [if_neg g]
    by_cases g3 : 1 ≤ y.val
    · refine (pad_apply_of_not_inside _ _ _ X v h hu _ 2 fun hh => ?_).trans (hv _)
      have : 1 ≤ x.val := hh.1
      omega
    · refine (pad_apply_of_not_inside _ _ _ X v h hu _ 1 fun hh => ?_).trans (hv _)
      have : 1 ≤ y.val := hh.1
      omega

/-- Zeros between and around the last two of four axes, at an index. -/
theorem dil_nchw {Hp Wp : ℕ} (X : Map4 B C H W) {u : Shape} (v : u.Idx → EReal)
    (h : (⟨4, ![B, C, H, W]⟩ : Shape).Pads ![0, 0, 2, 2] ![0, 0, 2, 2] ![0, 0, 1, 1] ⟨4, ![B, C, Hp, Wp]⟩) (hu : 0 < u.numel) (hv : ∀ i, v i = 0)
    (b : Fin B) (c : Fin C) (y : Fin Hp) (x : Fin Wp) :
    pad ⟨4, ![B, C, Hp, Wp]⟩ ![0, 0, 2, 2] ![0, 0, 2, 2] ![0, 0, 1, 1] X v h hu (ix4 b c y x)
      = dilRd (fun i j => X (ix4 b c i j)) y.val x.val := by
  have out3 (k : ¬(2 ≤ x.val ∧ (x.val - 2) % 2 = 0 ∧ (x.val - 2) / 2 < W)) :
      pad ⟨4, ![B, C, Hp, Wp]⟩ ![0, 0, 2, 2] ![0, 0, 2, 2] ![0, 0, 1, 1] X v h hu (ix4 b c y x) = 0 :=
    (pad_apply_of_not_inside _ _ _ X v h hu (ix4 b c y x) 3 fun hh => k hh).trans (hv _)
  have out2 (k : ¬(2 ≤ y.val ∧ (y.val - 2) % 2 = 0 ∧ (y.val - 2) / 2 < H)) :
      pad ⟨4, ![B, C, Hp, Wp]⟩ ![0, 0, 2, 2] ![0, 0, 2, 2] ![0, 0, 1, 1] X v h hu (ix4 b c y x) = 0 :=
    (pad_apply_of_not_inside _ _ _ X v h hu (ix4 b c y x) 2 fun hh => k hh).trans (hv _)
  unfold dilRd plane
  by_cases g : 2 ≤ y.val ∧ 2 ≤ x.val ∧ (y.val - 2) % 2 = 0 ∧ (x.val - 2) % 2 = 0
  · rw [if_pos g]
    by_cases g2 : (y.val - 2) / 2 < H ∧ (x.val - 2) / 2 < W
    · rw [dif_pos g2]
      refine pad_apply_of_inside _ _ _ X v h hu _ (ix4 b c ⟨(y.val - 2) / 2, g2.1⟩ ⟨(x.val - 2) / 2, g2.2⟩) fun a => ?_
      fin_cases a
      · show b.val = 0 + b.val * 1; omega
      · show c.val = 0 + c.val * 1; omega
      · show y.val = 2 + (y.val - 2) / 2 * 2; omega
      · show x.val = 2 + (x.val - 2) / 2 * 2; omega
    · rw [dif_neg g2]
      by_cases g3 : (y.val - 2) / 2 < H
      · exact out3 (by omega)
      · exact out2 (by omega)
  · rw [if_neg g]
    by_cases g3 : 2 ≤ y.val ∧ (y.val - 2) % 2 = 0
    · exact out3 (by omega)
    · exact out2 (by omega)

/-- The convolution of a padded plane by stride 2, before its bias. -/
def convAt (X : Map4 B C H W) (w : Map4 O C 4 4) (b : Fin B) (o : Fin O) (i j : ℕ) : EReal :=
  ∑ c : Fin C, ∑ kx : Fin 4, ∑ ky : Fin 4, w (ix4 o c ky kx) * padRd (fun y x => X (ix4 b c y x)) (2 * i + ky.val) (2 * j + kx.val)

/-- A layer of the encoder: convolution, bias, rectifier. -/
def encLayer (X : Map4 B C H W) (w : Map4 O C 4 4) (bias : Map1 O) : Map4 B O P Q :=
  fun y => max (convAt X w (y 0) (y 1) (y 2).val (y 3).val + bias (ix1 (y 1))) 0

/-- The transposed convolution by stride 2, before its bias. -/
def convTAt (X : Map4 B C H W) (w : Map4 C O 4 4) (b : Fin B) (o : Fin O) (i j : ℕ) : EReal :=
  ∑ c : Fin C, ∑ kx : Fin 4, ∑ ky : Fin 4, w (ix4 c o ky.rev kx.rev) * dilRd (fun y x => X (ix4 b c y x)) (i + ky.val) (j + kx.val)

/-- The last layer of the decoder: transposed convolution and bias. -/
def decLin (X : Map4 B C H W) (w : Map4 C O 4 4) (bias : Map1 O) : Map4 B O P Q :=
  fun y => convTAt X w (y 0) (y 1) (y 2).val (y 3).val + bias (ix1 (y 1))

/-- The other layers of the decoder: transposed convolution, bias, rectifier. -/
def decLayer (X : Map4 B C H W) (w : Map4 C O 4 4) (bias : Map1 O) : Map4 B O P Q :=
  fun y => max (convTAt X w (y 0) (y 1) (y 2).val (y 3).val + bias (ix1 (y 1))) 0

/-- One of the four terms a position of parities `py`, `px` sums. -/
def tapT (X : Map4 B C H W) (w : Map4 C O 4 4) (b : Fin B) (o : Fin O) (i j : ℕ) (py px sy sx : Fin 2) : EReal :=
  ∑ c : Fin C, padRd (fun y x => X (ix4 b c y x)) (i + py.val + sy.val) (j + px.val + sx.val)
    * w (ix4 c o ⟨3 - py.val - 2 * sy.val, by omega⟩ ⟨3 - px.val - 2 * sx.val, by omega⟩)

/-- The transposed convolution from its four nonzero terms: the position has parities `py`, `px`. -/
theorem convTAt_parity (X : Map4 B C H W) (w : Map4 C O 4 4) (b : Fin B) (o : Fin O) (i j : ℕ) (py px : Fin 2) :
    convTAt X w b o (2 * i + py.val) (2 * j + px.val) =
      tapT X w b o i j py px 0 0 + tapT X w b o i j py px 0 1 + tapT X w b o i j py px 1 0 + tapT X w b o i j py px 1 1 := by
  unfold tapT convTAt
  rw [← Finset.sum_add_distrib, ← Finset.sum_add_distrib, ← Finset.sum_add_distrib]
  refine Finset.sum_congr rfl fun c _ => ?_
  have ev (k : ℕ) : (2 * k) % 2 = 0 ∧ (2 * k + 1) % 2 = 1 ∧ (2 * k + 2) % 2 = 0 ∧ (2 * k + 3) % 2 = 1 ∧
      (2 * k + 1 + 1) % 2 = 0 ∧ (2 * k + 1 + 2) % 2 = 1 ∧ (2 * k + 1 + 3) % 2 = 0 := by omega
  have dv (k : ℕ) : (2 * k) / 2 = k ∧ (2 * k + 2) / 2 = k + 1 ∧ (2 * k + 1 + 1) / 2 = k + 1 ∧ (2 * k + 1 + 3) / 2 = k + 2 := by omega
  have ei := ev i
  have ej := ev j
  have di := dv i
  have dj := dv j
  simp only [Fin.sum_univ_four, dilRd_eq]
  fin_cases py <;> fin_cases px <;>
    simp [di, dj, ei, ej, Fin.rev, add_assoc] <;> ac_rfl

/-- Windows of stride 2 into a padded map, multiplied with kernels: the convolution. -/
theorem win_conv {Hp : ℕ} (wfd wf4 wf2) (X : Map4 B C H W) (w : Map4 O C 4 4) (idx : IVec ⟨3, ![P, 4, 1]⟩ 32)
    (hidx : ∀ (p : Fin P) (k : Fin 4), idx (ix3 p k 0) = BitVec.ofNat 32 (2 * p.val + k.val)) (hP : 2 * P + 2 ≤ Hp) (hH : Hp < 2 ^ 31)
    {u : Shape} (v : u.Idx → EReal) (h : (⟨4, ![B, C, H, W]⟩ : Shape).Pads ![0, 0, 1, 1] ![0, 0, 1, 1] ![0, 0, 0, 0] ⟨4, ![B, C, Hp, Hp]⟩)
    (hu : 0 < u.numel) (hv : ∀ i, v i = 0) (o : Fin O) (b : Fin B) (i j : Fin P) :
    Host.dotGeneral (F := Ideal) (φ₁ := .f32) (φ₂ := .f32) (dotWin O C B P P wfd) none (w : FVec Ideal ⟨4, ![O, C, 4, 4]⟩ .f32)
      (Host.gather (dims4 B C P 4 Hp P 4 wf4) (Host.gather (dims2 B C Hp Hp P 4 wf2)
        (pad ⟨4, ![B, C, Hp, Hp]⟩ ![0, 0, 1, 1] ![0, 0, 1, 1] ![0, 0, 0, 0] X v h hu) idx) idx : FVec Ideal ⟨6, ![B, C, P, 4, P, 4]⟩ .f32) (ix4 o b i j)
      = convAt X w b o i.val j.val := by
  rw [dotWin_apply]
  refine Finset.sum_congr rfl fun c _ => Finset.sum_congr rfl fun kx _ => Finset.sum_congr rfl fun ky _ => congrArg (w (ix4 o c ky kx) * ·) ?_
  show Host.gather (dims4 B C P 4 Hp P 4 wf4) _ idx (ix6 b c i ky j kx) = _
  rw [gather4_apply wf4 _ idx b c i ky j kx ⟨2 * j.val + kx.val, by omega⟩ (hidx j kx) hH,
    gather2_apply wf2 _ idx b c i ky _ ⟨2 * i.val + ky.val, by omega⟩ (hidx i ky) hH, pad_nchw X v h hu hv]

/-- Windows of stride 1 into a map with zeros between and around, multiplied with turned kernels: the transposed convolution. -/
theorem win_convT {Hp : ℕ} (wfd wf4 wf2) (X : Map4 B C H W) (w : Map4 C O 4 4) (wt : Map4 O C 4 4)
    (hw : ∀ o c ky kx, wt (ix4 o c ky kx) = w (ix4 c o (Fin.rev ky) (Fin.rev kx))) (idx : IVec ⟨3, ![P, 4, 1]⟩ 32)
    (hidx : ∀ (p : Fin P) (k : Fin 4), idx (ix3 p k 0) = BitVec.ofNat 32 (1 * p.val + k.val)) (hP : P + 3 ≤ Hp) (hH : Hp < 2 ^ 31)
    {u : Shape} (v : u.Idx → EReal) (h : (⟨4, ![B, C, H, W]⟩ : Shape).Pads ![0, 0, 2, 2] ![0, 0, 2, 2] ![0, 0, 1, 1] ⟨4, ![B, C, Hp, Hp]⟩)
    (hu : 0 < u.numel) (hv : ∀ i, v i = 0) (o : Fin O) (b : Fin B) (i j : Fin P) :
    Host.dotGeneral (F := Ideal) (φ₁ := .f32) (φ₂ := .f32) (dotWin O C B P P wfd) none (wt : FVec Ideal ⟨4, ![O, C, 4, 4]⟩ .f32)
      (Host.gather (dims4 B C P 4 Hp P 4 wf4) (Host.gather (dims2 B C Hp Hp P 4 wf2)
        (pad ⟨4, ![B, C, Hp, Hp]⟩ ![0, 0, 2, 2] ![0, 0, 2, 2] ![0, 0, 1, 1] X v h hu) idx) idx : FVec Ideal ⟨6, ![B, C, P, 4, P, 4]⟩ .f32) (ix4 o b i j)
      = convTAt X w b o i.val j.val := by
  rw [dotWin_apply]
  refine Finset.sum_congr rfl fun c _ => Finset.sum_congr rfl fun kx _ => Finset.sum_congr rfl fun ky _ => ?_
  rw [hw]
  refine congrArg (w (ix4 c o ky.rev kx.rev) * ·) ?_
  show Host.gather (dims4 B C P 4 Hp P 4 wf4) _ idx (ix6 b c i ky j kx) = _
  rw [gather4_apply wf4 _ idx b c i ky j kx ⟨j.val + kx.val, by omega⟩ (by rw [hidx, Nat.one_mul]) hH,
    gather2_apply wf2 _ idx b c i ky _ ⟨i.val + ky.val, by omega⟩ (by rw [hidx, Nat.one_mul]) hH, dil_nchw X v h hu hv]

/-- A nonnegative word is kept by the wrap-around of negative indices. -/
theorem wrap_ofNat (n : ℕ) (hn : n < 2 ^ 31) (a : BitVec 32) :
    Scalar.select (IntOp.cmpi .slt (BitVec.ofNat 32 n) 0#32) a (BitVec.ofNat 32 n) = BitVec.ofNat 32 n := by
  have h : IntOp.cmpi .slt (BitVec.ofNat 32 n) 0#32 = 0#1 := by
    show BitVec.ofBool ((BitVec.ofNat 32 n).slt 0#32) = 0#1
    rw [BitVec.slt, BitVec.toInt_eq_toNat_of_lt (by rw [BitVec.toNat_ofNat]; omega)]
    have : decide (((BitVec.ofNat 32 n).toNat : ℤ) < (0#32 : BitVec 32).toInt) = false := by
      rw [decide_eq_false_iff_not]; simp; omega
    rw [this]; rfl
  rw [h]; rfl

/-- The position `s p + k` as the reference computes it. -/
theorem wrap_at (s p k : ℕ) (h : s * p + k < 2 ^ 31) (a : BitVec 32) :
    Scalar.select (IntOp.cmpi .slt (IntOp.addi (IntOp.muli (BitVec.ofNat 32 s) (BitVec.ofNat 32 p)) (BitVec.ofNat 32 k)) 0#32) a
      (IntOp.addi (IntOp.muli (BitVec.ofNat 32 s) (BitVec.ofNat 32 p)) (BitVec.ofNat 32 k)) = BitVec.ofNat 32 (s * p + k) := by
  have e : IntOp.addi (IntOp.muli (BitVec.ofNat 32 s) (BitVec.ofNat 32 p)) (BitVec.ofNat 32 k) = BitVec.ofNat 32 (s * p + k) := by
    show BitVec.ofNat 32 s * BitVec.ofNat 32 p + BitVec.ofNat 32 k = _
    rw [← BitVec.ofNat_mul, ← BitVec.ofNat_add]
  rw [e]; exact wrap_ofNat _ h a

end Cert.Vq
-- ==== Proof.Mm.lean ====
module

public import Idealize.ShloMosaic.Lib.Pointwise

@[expose] public section

noncomputable section

namespace Cert.Vq

open Idealize.ShloMosaic

/-- The product of the rows of `x` with the columns of `w`, the bias `b` added: what a matrix region without
    the rectifier leaves. -/
def mmLin {M K N : ℕ} {φ ψ χ : FTy} (x : FVec Ideal ⟨3, ![1, M, K]⟩ φ) (w : FVec Ideal ⟨3, ![1, K, N]⟩ φ)
    (b : FVec Ideal ⟨3, ![1, 1, N]⟩ ψ) : FVec Ideal ⟨3, ![1, M, N]⟩ χ :=
  fun j => (∑ k : Fin K, x (ix3 0 (j 1) k) * w (ix3 0 k (j 2)) : EReal) + b (ix3 0 0 (j 2))

/-- The same, negative values replaced by zero. -/
def mmRelu {M K N : ℕ} {φ ψ χ : FTy} (x : FVec Ideal ⟨3, ![1, M, K]⟩ φ) (w : FVec Ideal ⟨3, ![1, K, N]⟩ φ)
    (b : FVec Ideal ⟨3, ![1, 1, N]⟩ ψ) : FVec Ideal ⟨3, ![1, M, N]⟩ χ :=
  fun j => max ((∑ k : Fin K, x (ix3 0 (j 1) k) * w (ix3 0 k (j 2)) : EReal) + b (ix3 0 0 (j 2))) 0

end Cert.Vq
-- ==== Proof.Taps.lean ====
/-
  The kernel's encoder on the host: the sixteen strided reads of a padded map laid side by side are the rows a
  matrix product turns into a convolution.
-/
module

public import proofs.«01_k».proof.Proof.Conv
public import proofs.«01_k».proof.Proof.Mm
public import Idealize.ShloMosaic.Lib.Pipeline.ValueKit

@[expose] public section

set_option maxRecDepth 16384

noncomputable section

namespace Cert.Vq

open Idealize.ShloMosaic

variable {B C O H W P Q M K : ℕ}

/-- An array of five axes. -/
abbrev Map5 (A B C D E : ℕ) : Type := (⟨5, ![A, B, C, D, E]⟩ : Shape).Idx → EReal
/-- An array of three axes. -/
abbrev Map3 (A B C : ℕ) : Type := (⟨3, ![A, B, C]⟩ : Shape).Idx → EReal

/-- One strided read of a padded map. -/
theorem tap_apply {Hp ky kx : ℕ} (A : Map4 B H W C) (X : Map4 B C H W) (hA : ∀ b y x c, A (ix4 b y x c) = X (ix4 b c y x))
    {u : Shape} (v : u.Idx → EReal)
    (h : (⟨4, ![B, H, W, C]⟩ : Shape).Pads ![0, 1, 1, 0] ![0, 1, 1, 0] ![0, 0, 0, 0] ⟨4, ![B, Hp, Hp, C]⟩) (hu : 0 < u.numel) (hv : ∀ i, v i = 0)
    (hs : (⟨4, ![B, Hp, Hp, C]⟩ : Shape).SlicesBy ![0, ky, kx, 0] ![1, 2, 2, 1] ⟨4, ![B, P, Q, C]⟩)
    (hb : (⟨4, ![B, P, Q, C]⟩ : Shape).BroadcastsInDim ⟨5, ![B, P, Q, 1, C]⟩ ![0, 1, 2, 4])
    (b : Fin B) (i : Fin P) (j : Fin Q) (c : Fin C) :
    broadcastInDim ⟨5, ![B, P, Q, 1, C]⟩ ![0, 1, 2, 4] hb (Host.slice ⟨4, ![B, P, Q, C]⟩ ![0, ky, kx, 0] ![1, 2, 2, 1]
      (pad ⟨4, ![B, Hp, Hp, C]⟩ ![0, 1, 1, 0] ![0, 1, 1, 0] ![0, 0, 0, 0] A v h hu) hs) (ix5 b i j 0 c)
      = padRd (fun y x => X (ix4 b c y x)) (2 * i.val + ky) (2 * j.val + kx) := by
  refine (broadcastInDim_apply _ _ _ _ (ix4 b i j c) fun a => ?_).trans ?_
  · have hb' := b.isLt
    have hi := i.isLt
    have hj := j.isLt
    have hc := c.isLt
    fin_cases a
    · show b.val = if B = 1 then 0 else b.val
      split_ifs <;> omega
    · show i.val = if P = 1 then 0 else i.val
      split_ifs <;> omega
    · show j.val = if Q = 1 then 0 else j.val
      split_ifs <;> omega
    · show c.val = if C = 1 then 0 else c.val
      split_ifs <;> omega
  · have key (y x : Fin Hp) (hy : y.val = ky + 2 * i.val) (hx : x.val = kx + 2 * j.val) :
        Host.slice ⟨4, ![B, P, Q, C]⟩ ![0, ky, kx, 0] ![1, 2, 2, 1]
          (pad ⟨4, ![B, Hp, Hp, C]⟩ ![0, 1, 1, 0] ![0, 1, 1, 0] ![0, 0, 0, 0] A v h hu) hs (ix4 b i j c)
        = pad ⟨4, ![B, Hp, Hp, C]⟩ ![0, 1, 1, 0] ![0, 1, 1, 0] ![0, 0, 0, 0] A v h hu (ix4 b y x c) := by
      unfold Host.slice
      refine congrArg (pad _ _ _ _ A v h hu) (funext fun a => Fin.ext ?_)
      fin_cases a
      · show 0 + 1 * b.val = b.val; omega
      · show ky + 2 * i.val = y.val; omega
      · show kx + 2 * j.val = x.val; omega
      · show 0 + 1 * c.val = c.val; omega
    have e1 : ky + 2 * i.val < Hp := by
      have hh := (hs.2 1).2
      rcases hh with h0 | hl
      · have : P = 0 := h0
        have := i.isLt; omega
      · have hl' : ky + 2 * (P - 1) < Hp := hl
        have := i.isLt; omega
    have e2 : kx + 2 * j.val < Hp := by
      have hh := (hs.2 2).2
      rcases hh with h0 | hl
      · have : Q = 0 := h0
        have := j.isLt; omega
      · have hl' : kx + 2 * (Q - 1) < Hp := hl
        have := j.isLt; omega
    rw [key ⟨ky + 2 * i.val, e1⟩ ⟨kx + 2 * j.val, e2⟩ rfl rfl, pad_nhwc A v h hu hv]
    show padRd (fun y x => A (ix4 b y x c)) (ky + 2 * i.val) (kx + 2 * j.val) = _
    rw [show (fun y x => A (ix4 b y x c)) = fun y x => X (ix4 b c y x) from funext fun y => funext fun x => hA b y x c,
      Nat.add_comm ky, Nat.add_comm kx]

/-- The word zero is the number zero. -/
theorem zero_cell (φ : FTy) {S : Shape} (i : S.Idx) : (sitofp (F := Ideal) φ (constantI S 32 0#32)) i = 0 := by
  show (((0#32 : BitVec 32).toInt : ℝ) : EReal) = 0
  simp

/-- The rows of a matrix are the places of a map, the columns its channels. -/
def IsRows (v : Map3 1 M C) (X : Map4 B C H W) : Prop :=
  ∀ (b : Fin B) (c : Fin C) (y : Fin H) (x : Fin W) (r : Fin M), r.val = (b.val * H + y.val) * W + x.val → v (ix3 0 r c) = X (ix4 b c y x)

/-- Rows of a matrix read as places of a map. -/
theorem map_of_rows (v : Map3 1 M C) (h1 : (⟨3, ![1, M, C]⟩ : Shape).ShapeCasts ⟨2, ![M, C]⟩) (h2 : (⟨2, ![M, C]⟩ : Shape).ShapeCasts ⟨4, ![B, H, W, C]⟩)
    (b : Fin B) (y : Fin H) (x : Fin W) (c : Fin C) (r : Fin M) (hr : r.val = (b.val * H + y.val) * W + x.val) :
    shapeCast ⟨4, ![B, H, W, C]⟩ (shapeCast ⟨2, ![M, C]⟩ v h1) h2 (ix4 b y x c) = v (ix3 0 r c) := by
  refine (shapeCast_apply _ _ _ (ix2 r c) ?_).trans (shapeCast_apply _ _ _ (ix3 0 r c) ?_)
  · rw [Shape.rowMajor_val_two, Shape.rowMajor_val_four]
    show r.val * C + c.val = ((b.val * H + y.val) * W + x.val) * C + c.val
    rw [hr]
  · rw [Shape.rowMajor_val_two, Shape.rowMajor_val_three]
    show (0 * M + r.val) * C + c.val = r.val * C + c.val
    rw [Nat.zero_mul, Nat.zero_add]

/-- A matrix read under its unit axis. -/
theorem unit_axis {α : Type} (x : (⟨2, ![M, K]⟩ : Shape).Idx → α) (hb : (⟨2, ![M, K]⟩ : Shape).BroadcastsInDim ⟨3, ![1, M, K]⟩ ![1, 2]) (r : Fin M) (k : Fin K) :
    broadcastInDim ⟨3, ![1, M, K]⟩ ![1, 2] hb x (ix3 0 r k) = x (ix2 r k) := by
  refine broadcastInDim_apply _ _ _ _ (ix2 r k) fun a => ?_
  have hr := r.isLt
  have hk := k.isLt
  fin_cases a
  · show r.val = if M = 1 then 0 else r.val
    split_ifs <;> omega
  · show k.val = if K = 1 then 0 else k.val
    split_ifs <;> omega

/-- Sixteen arrays side by side as the rows of a matrix. -/
theorem rows_apply (x : Map5 B P Q 16 C) (hc : (⟨5, ![B, P, Q, 16, C]⟩ : Shape).ShapeCasts ⟨2, ![M, K]⟩) (hK : K = 16 * C)
    (b : Fin B) (i : Fin P) (j : Fin Q) (t : Fin 16) (c : Fin C) (r : Fin M) (k : Fin K)
    (hr : r.val = (b.val * P + i.val) * Q + j.val) (hk : k.val = t.val * C + c.val) :
    shapeCast ⟨2, ![M, K]⟩ x hc (ix2 r k) = x (ix5 b i j t c) := by
  refine shapeCast_apply _ _ _ (ix5 b i j t c) ?_
  rw [Shape.rowMajor_val_two, Shape.rowMajor_val_five]
  show (((b.val * P + i.val) * Q + j.val) * 16 + t.val) * C + c.val = r.val * K + k.val
  rw [hr, hk, hK]; ring

/-- A convolution's kernels as a matrix: rows by window place and channel, columns by output. -/
theorem weights_apply (w : Map4 O C 4 4) (ht : (⟨4, ![O, C, 4, 4]⟩ : Shape).Transposes [2, 3, 1, 0] ⟨4, ![4, 4, C, O]⟩)
    (hc : (⟨4, ![4, 4, C, O]⟩ : Shape).ShapeCasts ⟨2, ![K, O]⟩) (ky kx : Fin 4) (c : Fin C) (o : Fin O) (k : Fin K)
    (hk : k.val = (ky.val * 4 + kx.val) * C + c.val) :
    shapeCast ⟨2, ![K, O]⟩ (transpose ⟨4, ![4, 4, C, O]⟩ [2, 3, 1, 0] w ht) hc (ix2 k o) = w (ix4 o c ky kx) := by
  refine (shapeCast_apply _ _ _ (ix4 ky kx c o) ?_).trans (transpose_apply _ _ _ _ _ fun a => by fin_cases a <;> rfl)
  rw [Shape.rowMajor_val_two, Shape.rowMajor_val_four]
  show ((ky.val * 4 + kx.val) * C + c.val) * O + o.val = k.val * O + o.val
  rw [hk]

/-- The concatenation of sixteen arrays along their unit axis, read at piece `t`. -/
theorem concat16 (x0 x1 x2 x3 x4 x5 x6 x7 x8 x9 x10 x11 x12 x13 x14 x15 : Map5 B P Q 1 C) (h) (T : Fin 16 → EReal)
    (b : Fin B) (i : Fin P) (j : Fin Q) (t : Fin 16) (c : Fin C)
    (h0 : x0 (ix5 b i j 0 c) = T 0) (h1 : x1 (ix5 b i j 0 c) = T 1) (h2 : x2 (ix5 b i j 0 c) = T 2) (h3 : x3 (ix5 b i j 0 c) = T 3)
    (h4 : x4 (ix5 b i j 0 c) = T 4) (h5 : x5 (ix5 b i j 0 c) = T 5) (h6 : x6 (ix5 b i j 0 c) = T 6) (h7 : x7 (ix5 b i j 0 c) = T 7)
    (h8 : x8 (ix5 b i j 0 c) = T 8) (h9 : x9 (ix5 b i j 0 c) = T 9) (h10 : x10 (ix5 b i j 0 c) = T 10) (h11 : x11 (ix5 b i j 0 c) = T 11)
    (h12 : x12 (ix5 b i j 0 c) = T 12) (h13 : x13 (ix5 b i j 0 c) = T 13) (h14 : x14 (ix5 b i j 0 c) = T 14) (h15 : x15 (ix5 b i j 0 c) = T 15) :
    concatenate ⟨5, ![B, P, Q, 16, C]⟩ 3 [⟨⟨5, ![B, P, Q, 1, C]⟩, x0⟩, ⟨⟨5, ![B, P, Q, 1, C]⟩, x1⟩, ⟨⟨5, ![B, P, Q, 1, C]⟩, x2⟩,
      ⟨⟨5, ![B, P, Q, 1, C]⟩, x3⟩, ⟨⟨5, ![B, P, Q, 1, C]⟩, x4⟩, ⟨⟨5, ![B, P, Q, 1, C]⟩, x5⟩, ⟨⟨5, ![B, P, Q, 1, C]⟩, x6⟩,
      ⟨⟨5, ![B, P, Q, 1, C]⟩, x7⟩, ⟨⟨5, ![B, P, Q, 1, C]⟩, x8⟩, ⟨⟨5, ![B, P, Q, 1, C]⟩, x9⟩, ⟨⟨5, ![B, P, Q, 1, C]⟩, x10⟩,
      ⟨⟨5, ![B, P, Q, 1, C]⟩, x11⟩, ⟨⟨5, ![B, P, Q, 1, C]⟩, x12⟩, ⟨⟨5, ![B, P, Q, 1, C]⟩, x13⟩, ⟨⟨5, ![B, P, Q, 1, C]⟩, x14⟩,
      ⟨⟨5, ![B, P, Q, 1, C]⟩, x15⟩] h (ix5 b i j t c) = T t := by
  have pc (k : ℕ) (hk : k < 16) (x : Map5 B P Q 1 C) (hx : x (ix5 b i j 0 c) = T ⟨k, hk⟩) :
      PieceAt (t := ⟨5, ![B, P, Q, 16, C]⟩) 3 (ix5 b i j t c) (T t) ⟨5, ![B, P, Q, 1, C]⟩ x k := by
    intro ht hr i' h0 hoff
    have e : i' = ix5 b i j 0 c := by
      funext a
      fin_cases a
      · exact Fin.ext (hoff 0 (show (0 : Fin 5) ≠ 3 by decide))
      · exact Fin.ext (hoff 1 (show (1 : Fin 5) ≠ 3 by decide))
      · exact Fin.ext (hoff 2 (show (2 : Fin 5) ≠ 3 by decide))
      · exact Fin.ext h0
      · exact Fin.ext (hoff 4 (show (4 : Fin 5) ≠ 3 by decide))
    rw [e, hx]
    exact congrArg T (Fin.ext (Eq.symm ht))
  refine concatenate_unit_eq _ _ h _ _ (decide_eq_true fun s hs => ?_)
    ⟨pc 0 (by omega) _ h0, pc 1 (by omega) _ h1, pc 2 (by omega) _ h2, pc 3 (by omega) _ h3, pc 4 (by omega) _ h4, pc 5 (by omega) _ h5,
     pc 6 (by omega) _ h6, pc 7 (by omega) _ h7, pc 8 (by omega) _ h8, pc 9 (by omega) _ h9, pc 10 (by omega) _ h10, pc 11 (by omega) _ h11,
     pc 12 (by omega) _ h12, pc 13 (by omega) _ h13, pc 14 (by omega) _ h14, pc 15 (by omega) _ h15, trivial⟩
  have hs' : s = ⟨5, ![B, P, Q, 1, C]⟩ := by
    simp only [List.map_cons, List.map_nil, List.mem_cons, List.not_mem_nil, or_false, or_self] at hs
    exact hs
  subst hs'
  rfl

/-- A sum over window places and channels in one index, as three sums. -/
theorem sum_window (hK : K = 16 * C) (f : Fin K → EReal) (g : Fin C → Fin 4 → Fin 4 → EReal)
    (h : ∀ (k : Fin K) (c : Fin C) (kx ky : Fin 4), k.val = (ky.val * 4 + kx.val) * C + c.val → f k = g c kx ky) :
    ∑ k, f k = ∑ c, ∑ kx, ∑ ky, g c kx ky := by
  subst hK
  rw [← Equiv.sum_comp (finProdFinEquiv (m := 16) (n := C)), Fintype.sum_prod_type, Finset.sum_comm]
  refine Finset.sum_congr rfl fun c _ => ?_
  rw [← Equiv.sum_comp (finProdFinEquiv (m := 4) (n := 4)), Fintype.sum_prod_type, Finset.sum_comm]
  refine Finset.sum_congr rfl fun kx _ => Finset.sum_congr rfl fun ky _ => h _ c kx ky ?_
  show c.val + C * (kx.val + 4 * ky.val) = _
  ring

/-- A matrix product of window rows with kernels is the encoder's layer. -/
theorem encLayer_of_rows {φ ψ χ : FTy} (X : Map4 B C H W) (w : Map4 O C 4 4) (bias : Map1 O) (hK : K = 16 * C)
    (x0 : FVec Ideal ⟨3, ![1, M, K]⟩ φ) (w0 : FVec Ideal ⟨3, ![1, K, O]⟩ φ) (b0 : FVec Ideal ⟨3, ![1, 1, O]⟩ ψ)
    (b : Fin B) (i : Fin P) (j : Fin Q) (r : Fin M)
    (hx : ∀ (k : Fin K) (c : Fin C) (kx ky : Fin 4), k.val = (ky.val * 4 + kx.val) * C + c.val →
      x0 (ix3 0 r k) = padRd (fun y x => X (ix4 b c y x)) (2 * i.val + ky.val) (2 * j.val + kx.val))
    (hw : ∀ (k : Fin K) (c : Fin C) (kx ky : Fin 4) (o : Fin O), k.val = (ky.val * 4 + kx.val) * C + c.val → w0 (ix3 0 k o) = w (ix4 o c ky kx))
    (hb : ∀ o : Fin O, b0 (ix3 0 0 o) = bias (ix1 o)) (o : Fin O) :
    mmRelu (χ := χ) x0 w0 b0 (ix3 0 r o) = encLayer (P := P) (Q := Q) X w bias (ix4 b o i j) := by
  refine congrArg₂ (fun s t : EReal => max (s + t) 0) ?_ (hb o)
  refine sum_window hK _ (fun c kx ky => w (ix4 o c ky kx) * padRd (fun y x => X (ix4 b c y x)) (2 * i.val + ky.val) (2 * j.val + kx.val)) fun k c kx ky hk => ?_
  show (x0 (ix3 0 r k) * w0 (ix3 0 k o) : EReal) = _
  rw [hx k c kx ky hk, hw k c kx ky o hk, mul_comm]

end Cert.Vq
-- ==== Proof.RegA.lean ====
module

public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import proofs.«01_k».proof.Proof.Gen.KernelIdeal.Frame.Region4
public import proofs.«01_k».proof.Proof.Mm
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.ShloMosaic.Pipeline
open Cert.Vq

variable (V : (c : Dev nD) → (b : Ref sig .tc) → Buf (Elt Ideal) ((c : Thread nD τ).loc b))

/-- Region 0's payload, read at an index: the block's product. -/
theorem pay0 (x : Vec Ideal S1x4096x48 .bf16) (w : Vec Ideal S1x48x32 .bf16) (b : Vec Ideal S1x1x32 .f32) (j : S1x4096x32.Idx) :
    k0_pay1 x w b j = mmRelu (M := 4096) (K := 48) (N := 32) (φ := .bf16) (ψ := .f32) (χ := .bf16) x w b j := by
  pointwise [k0_pay1, mmRelu]
/-- Region 0's windows at step `t`: the row block `t` of the input and of the output, the whole of the others. -/
theorem idx0 : ∀ t : Fin grid0.N, win0_0.index t = ![0, t.val, 0] ∧ win0_1.index t = ![0, 0, 0] ∧
    win0_2.index t = ![0, 0, 0] ∧ win0_3.index t = ![0, t.val, 0] := by decide +kernel
/-- Region 0 leaves the whole product in its output array. -/
theorem arr0 (c : Dev nD) : (dat0 V c).arrAt 3 cfg0.N = mmRelu (M := 262144) (K := 48) (N := 32) (φ := .bf16) (ψ := .f32) (χ := .bf16)
    (V c main_v40) (V c main_v41) (V c main_v43) := by
  refine (dat0 V c).arrAt_eq_of_covers 3 _ (by decide +kernel) fun t hf y => ?_
  blk_simp
  rw [after0_3]; frame_out
  rw [pay0]
  unfold mmRelu
  blk_point [iblk0, idx0 t]

/-- Region 1's payload, read at an index: the block's product. -/
theorem pay1 (x : Vec Ideal S1x2048x512 .bf16) (w : Vec Ideal S1x512x32 .bf16) (b : Vec Ideal S1x1x32 .f32) (j : S1x2048x32.Idx) :
    k1_pay1 x w b j = mmRelu (M := 2048) (K := 512) (N := 32) (φ := .bf16) (ψ := .f32) (χ := .bf16) x w b j := by
  pointwise [k1_pay1, mmRelu]
/-- Region 1's windows at step `t`: the row block `t` of the input and of the output, the whole of the others. -/
theorem idx1 : ∀ t : Fin grid1.N, win1_0.index t = ![0, t.val, 0] ∧ win1_1.index t = ![0, 0, 0] ∧
    win1_2.index t = ![0, 0, 0] ∧ win1_3.index t = ![0, t.val, 0] := by decide +kernel
/-- Region 1 leaves the whole product in its output array. -/
theorem arr1 (c : Dev nD) : (dat1 V c).arrAt 3 cfg1.N = mmRelu (M := 65536) (K := 512) (N := 32) (φ := .bf16) (ψ := .f32) (χ := .bf16)
    (V c main_v85) (V c main_v86) (V c main_v88) := by
  refine (dat1 V c).arrAt_eq_of_covers 3 _ (by decide +kernel) fun t hf y => ?_
  blk_simp
  rw [after1_3]; frame_out
  rw [pay1]
  unfold mmRelu
  blk_point [iblk1, idx1 t]

/-- Region 2's payload, read at an index: the block's product. -/
theorem pay2 (x : Vec Ideal S1x4096x512 .bf16) (w : Vec Ideal S1x512x64 .bf16) (b : Vec Ideal S1x1x64 .f32) (j : S1x4096x64.Idx) :
    k2_pay1 x w b j = mmRelu (M := 4096) (K := 512) (N := 64) (φ := .bf16) (ψ := .f32) (χ := .bf16) x w b j := by
  pointwise [k2_pay1, mmRelu]
/-- Region 2's windows at step `t`: the row block `t` of the input and of the output, the whole of the others. -/
theorem idx2 : ∀ t : Fin grid2.N, win2_0.index t = ![0, t.val, 0] ∧ win2_1.index t = ![0, 0, 0] ∧
    win2_2.index t = ![0, 0, 0] ∧ win2_3.index t = ![0, t.val, 0] := by decide +kernel
/-- Region 2 leaves the whole product in its output array. -/
theorem arr2 (c : Dev nD) : (dat2 V c).arrAt 3 cfg2.N = mmRelu (M := 16384) (K := 512) (N := 64) (φ := .bf16) (ψ := .f32) (χ := .bf16)
    (V c main_v130) (V c main_v131) (V c main_v133) := by
  refine (dat2 V c).arrAt_eq_of_covers 3 _ (by decide +kernel) fun t hf y => ?_
  blk_simp
  rw [after2_3]; frame_out
  rw [pay2]
  unfold mmRelu
  blk_point [iblk2, idx2 t]

/-- Region 3's payload, read at an index: the block's product. -/
theorem pay3 (x : Vec Ideal S1x4096x1024 .bf16) (w : Vec Ideal S1x1024x64 .bf16) (b : Vec Ideal S1x1x64 .f32) (j : S1x4096x64.Idx) :
    k3_pay1 x w b j = mmRelu (M := 4096) (K := 1024) (N := 64) (φ := .bf16) (ψ := .f32) (χ := .bf16) x w b j := by
  pointwise [k3_pay1, mmRelu]
/-- Region 3's windows at step `t`: the row block `t` of the input and of the output, the whole of the others. -/
theorem idx3 : ∀ t : Fin grid3.N, win3_0.index t = ![0, t.val, 0] ∧ win3_1.index t = ![0, 0, 0] ∧
    win3_2.index t = ![0, 0, 0] ∧ win3_3.index t = ![0, t.val, 0] := by decide +kernel
/-- Region 3 leaves the whole product in its output array. -/
theorem arr3 (c : Dev nD) : (dat3 V c).arrAt 3 cfg3.N = mmRelu (M := 4096) (K := 1024) (N := 64) (φ := .bf16) (ψ := .f32) (χ := .bf16)
    (V c main_v175) (V c main_v176) (V c main_v178) := by
  refine (dat3 V c).arrAt_eq_of_covers 3 _ (by decide +kernel) fun t hf y => ?_
  blk_simp
  rw [after3_3]; frame_out
  rw [pay3]
  unfold mmRelu
  blk_point [iblk3, idx3 t]

/-- Region 4's payload, read at an index: the block's product. -/
theorem pay4 (x : Vec Ideal S1x256x1024 .bf16) (w : Vec Ideal S1x1024x128 .bf16) (b : Vec Ideal S1x1x128 .f32) (j : S1x256x128.Idx) :
    k4_pay1 x w b j = mmRelu (M := 256) (K := 1024) (N := 128) (φ := .bf16) (ψ := .f32) (χ := .bf16) x w b j := by
  pointwise [k4_pay1, mmRelu]
/-- Region 4's windows at step `t`: the row block `t` of the input and of the output, the whole of the others. -/
theorem idx4 : ∀ t : Fin grid4.N, win4_0.index t = ![0, t.val, 0] ∧ win4_1.index t = ![0, 0, 0] ∧
    win4_2.index t = ![0, 0, 0] ∧ win4_3.index t = ![0, t.val, 0] := by decide +kernel
/-- Region 4 leaves the whole product in its output array. -/
theorem arr4 (c : Dev nD) : (dat4 V c).arrAt 3 cfg4.N = mmRelu (M := 256) (K := 1024) (N := 128) (φ := .bf16) (ψ := .f32) (χ := .bf16)
    (V c main_v186) (V c main_v187) (V c main_v189) := by
  refine (dat4 V c).arrAt_eq_of_covers 3 _ (by decide +kernel) fun t hf y => ?_
  blk_simp
  rw [after4_3]; frame_out
  rw [pay4]
  unfold mmRelu
  blk_point [iblk4, idx4 t]

end Cert.KernelIdeal.Val
-- ==== Proof.KerEnc.lean ====
/-
  The kernel's encoder, layer by layer: what each matrix region is given and what it leaves.
-/
module

public import proofs.«01_k».proof.Proof.Taps
public import proofs.«01_k».proof.Proof.RegA
public import proofs.«01_k».proof.Proof.Gen.KernelIdeal.Frame
public import Idealize.ShloMosaic.Lib.StableHlo.RunRead

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.Vq

variable (m : (ℓ : Loc nD τ sig) → Buf (Elt Ideal) ℓ) (ρ : Dev nD → PrngReg) (c : Dev nD)

/-- Layer 1's rows read the padded map it is given. -/
theorem x0_apply (b : Fin 256) (i j : Fin 32) (r : Fin 262144) (hr : r.val = (b.val * 32 + i.val) * 32 + j.val)
    (k : Fin 48) (ch : Fin 3) (kx ky : Fin 4) (hk : k.val = (ky.val * 4 + kx.val) * 3 + ch.val) :
    (W3 m ρ c (Proc.devRef .tc main_v40) : Map3 1 262144 48) (ix3 0 r k)
      = padRd (fun y x => (m ((c : Thread nD τ).loc main_arg0) : Map4 256 3 64 64) (ix4 b ch y x)) (2 * i.val + ky.val) (2 * j.val + kx.val) := by
  after_reads_simp
  refine (unit_axis _ _ r k).trans ?_
  refine (rows_apply _ _ (by rfl) b i j ⟨ky.val * 4 + kx.val, by omega⟩ ch r k hr hk).trans ?_
  refine (concat16 _ _ _ _ _ _ _ _ _ _ _ _ _ _ _ _ _ (fun t => padRd (fun y x => (m ((c : Thread nD τ).loc main_arg0) : Map4 256 3 64 64) (ix4 b ch y x)) (2 * i.val + t.val / 4) (2 * j.val + t.val % 4))
    b i j _ ch ?_ ?_ ?_ ?_ ?_ ?_ ?_ ?_ ?_ ?_ ?_ ?_ ?_ ?_ ?_ ?_).trans ?_
  case refine_17 =>
    show padRd _ (2 * i.val + (ky.val * 4 + kx.val) / 4) (2 * j.val + (ky.val * 4 + kx.val) % 4) = _
    rw [show (ky.val * 4 + kx.val) / 4 = ky.val by omega, show (ky.val * 4 + kx.val) % 4 = kx.val by omega]
  all_goals
    simp only [Matrix.cons_val]
    after_reads_simp
    simp -implicitDefEqProofs only [TRef.toBuf, TRef.ofBuf, cast_eq]
    refine tap_apply _ (m ((c : Thread nD τ).loc main_arg0) : Map4 256 3 64 64) (fun b y x o => ?_) _ _ _ (fun i => ?_) _ _ b i j ch
    · pointwise []
    · exact zero_cell _ i

/-- Layer 1's weights. -/
theorem w0_apply (k : Fin 48) (ch : Fin 3) (kx ky : Fin 4) (o : Fin 32) (hk : k.val = (ky.val * 4 + kx.val) * 3 + ch.val) :
    (W3 m ρ c (Proc.devRef .tc main_v41) : Map3 1 48 32) (ix3 0 k o) = (m ((c : Thread nD τ).loc main_arg1) : Map4 32 3 4 4) (ix4 o ch ky kx) := by
  after_reads_simp
  refine (unit_axis _ _ k o).trans ((weights_apply _ _ _ ky kx ch o k hk).trans ?_)
  rfl

/-- Layer 1's bias. -/
theorem b0_apply (o : Fin 32) :
    (W3 m ρ c (Proc.devRef .tc main_v43) : Map3 1 1 32) (ix3 0 0 o) = (m ((c : Thread nD τ).loc main_arg2) : Map1 32) (ix1 o) := by
  after_reads_simp
  pointwise []

/-- Layer 1 of the kernel is the encoder's layer. -/
theorem ker0  :
    IsRows (W4 m ρ c (Proc.devRef .tc main_v44) : Map3 1 262144 32) (encLayer (P := 32) (Q := 32) (m ((c : Thread nD τ).loc main_arg0) : Map4 256 3 64 64)
      (m ((c : Thread nD τ).loc main_arg1) : Map4 32 3 4 4) (m ((c : Thread nD τ).loc main_arg2) : Map1 32)) := by
  intro b o i j r hr
  refine (congrFun ((W4_arr m ρ c 3).trans (arr0 (V3 m ρ) c)) (ix3 0 r o)).trans ?_
  exact encLayer_of_rows _ _ _ (by rfl) _ _ _ b i j r (fun k ch kx ky hk => x0_apply m ρ c b i j r hr k ch kx ky hk)
    (fun k ch kx ky o hk => w0_apply m ρ c k ch kx ky o hk) (fun o => b0_apply m ρ c o) o

/-- Layer 2's rows read the padded map it is given. -/
theorem x1_apply (X : Map4 256 32 32 32) (b : Fin 256) (i j : Fin 16) (r : Fin 65536) (hr : r.val = (b.val * 16 + i.val) * 16 + j.val)
    (hX : IsRows (W4 m ρ c (Proc.devRef .tc main_v44) : Map3 1 262144 32) X)
    (k : Fin 512) (ch : Fin 32) (kx ky : Fin 4) (hk : k.val = (ky.val * 4 + kx.val) * 32 + ch.val) :
    (W7 m ρ c (Proc.devRef .tc main_v85) : Map3 1 65536 512) (ix3 0 r k)
      = padRd (fun y x => X (ix4 b ch y x)) (2 * i.val + ky.val) (2 * j.val + kx.val) := by
  after_reads_simp
  refine (unit_axis _ _ r k).trans ?_
  refine (rows_apply _ _ (by rfl) b i j ⟨ky.val * 4 + kx.val, by omega⟩ ch r k hr hk).trans ?_
  refine (concat16 _ _ _ _ _ _ _ _ _ _ _ _ _ _ _ _ _ (fun t => padRd (fun y x => X (ix4 b ch y x)) (2 * i.val + t.val / 4) (2 * j.val + t.val % 4))
    b i j _ ch ?_ ?_ ?_ ?_ ?_ ?_ ?_ ?_ ?_ ?_ ?_ ?_ ?_ ?_ ?_ ?_).trans ?_
  case refine_17 =>
    show padRd _ (2 * i.val + (ky.val * 4 + kx.val) / 4) (2 * j.val + (ky.val * 4 + kx.val) % 4) = _
    rw [show (ky.val * 4 + kx.val) / 4 = ky.val by omega, show (ky.val * 4 + kx.val) % 4 = kx.val by omega]
  all_goals
    simp only [Matrix.cons_val]
    after_reads_simp
    simp -implicitDefEqProofs only [TRef.toBuf, TRef.ofBuf, cast_eq]
    refine tap_apply _ X (fun b y x o => ?_) _ _ _ (fun i => ?_) _ _ b i j ch
    · exact (map_of_rows _ _ _ b y x o ⟨(b.val * 32 + y.val) * 32 + x.val, by omega⟩ rfl).trans (hX b o y x _ rfl)
    · exact zero_cell _ i

/-- Layer 2's weights. -/
theorem w1_apply (k : Fin 512) (ch : Fin 32) (kx ky : Fin 4) (o : Fin 32) (hk : k.val = (ky.val * 4 + kx.val) * 32 + ch.val) :
    (W7 m ρ c (Proc.devRef .tc main_v86) : Map3 1 512 32) (ix3 0 k o) = (m ((c : Thread nD τ).loc main_arg3) : Map4 32 32 4 4) (ix4 o ch ky kx) := by
  after_reads_simp
  refine (unit_axis _ _ k o).trans ((weights_apply _ _ _ ky kx ch o k hk).trans ?_)
  exact congrFun (W4_args m ρ c main_arg3 (by simp [argRefs])) _

/-- Layer 2's bias. -/
theorem b1_apply (o : Fin 32) :
    (W7 m ρ c (Proc.devRef .tc main_v88) : Map3 1 1 32) (ix3 0 0 o) = (m ((c : Thread nD τ).loc main_arg4) : Map1 32) (ix1 o) := by
  after_reads_simp
  pointwise []
  exact congrFun (W4_args m ρ c main_arg4 (by simp [argRefs])) _

/-- Layer 2 of the kernel is the encoder's layer. -/
theorem ker1 (X : Map4 256 32 32 32)
    (hX : IsRows (W4 m ρ c (Proc.devRef .tc main_v44) : Map3 1 262144 32) X) :
    IsRows (W8 m ρ c (Proc.devRef .tc main_v89) : Map3 1 65536 32) (encLayer (P := 16) (Q := 16) X
      (m ((c : Thread nD τ).loc main_arg3) : Map4 32 32 4 4) (m ((c : Thread nD τ).loc main_arg4) : Map1 32)) := by
  intro b o i j r hr
  refine (congrFun ((W8_arr m ρ c 3).trans (arr1 (V7 m ρ) c)) (ix3 0 r o)).trans ?_
  exact encLayer_of_rows _ _ _ (by rfl) _ _ _ b i j r (fun k ch kx ky hk => x1_apply m ρ c X b i j r hr hX k ch kx ky hk)
    (fun k ch kx ky o hk => w1_apply m ρ c k ch kx ky o hk) (fun o => b1_apply m ρ c o) o

/-- Layer 3's rows read the padded map it is given. -/
theorem x2_apply (X : Map4 256 32 16 16) (b : Fin 256) (i j : Fin 8) (r : Fin 16384) (hr : r.val = (b.val * 8 + i.val) * 8 + j.val)
    (hX : IsRows (W8 m ρ c (Proc.devRef .tc main_v89) : Map3 1 65536 32) X)
    (k : Fin 512) (ch : Fin 32) (kx ky : Fin 4) (hk : k.val = (ky.val * 4 + kx.val) * 32 + ch.val) :
    (W11 m ρ c (Proc.devRef .tc main_v130) : Map3 1 16384 512) (ix3 0 r k)
      = padRd (fun y x => X (ix4 b ch y x)) (2 * i.val + ky.val) (2 * j.val + kx.val) := by
  after_reads_simp
  refine (unit_axis _ _ r k).trans ?_
  refine (rows_apply _ _ (by rfl) b i j ⟨ky.val * 4 + kx.val, by omega⟩ ch r k hr hk).trans ?_
  refine (concat16 _ _ _ _ _ _ _ _ _ _ _ _ _ _ _ _ _ (fun t => padRd (fun y x => X (ix4 b ch y x)) (2 * i.val + t.val / 4) (2 * j.val + t.val % 4))
    b i j _ ch ?_ ?_ ?_ ?_ ?_ ?_ ?_ ?_ ?_ ?_ ?_ ?_ ?_ ?_ ?_ ?_).trans ?_
  case refine_17 =>
    show padRd _ (2 * i.val + (ky.val * 4 + kx.val) / 4) (2 * j.val + (ky.val * 4 + kx.val) % 4) = _
    rw [show (ky.val * 4 + kx.val) / 4 = ky.val by omega, show (ky.val * 4 + kx.val) % 4 = kx.val by omega]
  all_goals
    simp only [Matrix.cons_val]
    after_reads_simp
    simp -implicitDefEqProofs only [TRef.toBuf, TRef.ofBuf, cast_eq]
    refine tap_apply _ X (fun b y x o => ?_) _ _ _ (fun i => ?_) _ _ b i j ch
    · exact (map_of_rows _ _ _ b y x o ⟨(b.val * 16 + y.val) * 16 + x.val, by omega⟩ rfl).trans (hX b o y x _ rfl)
    · exact zero_cell _ i

/-- Layer 3's weights. -/
theorem w2_apply (k : Fin 512) (ch : Fin 32) (kx ky : Fin 4) (o : Fin 64) (hk : k.val = (ky.val * 4 + kx.val) * 32 + ch.val) :
    (W11 m ρ c (Proc.devRef .tc main_v131) : Map3 1 512 64) (ix3 0 k o) = (m ((c : Thread nD τ).loc main_arg5) : Map4 64 32 4 4) (ix4 o ch ky kx) := by
  after_reads_simp
  refine (unit_axis _ _ k o).trans ((weights_apply _ _ _ ky kx ch o k hk).trans ?_)
  exact congrFun (W8_args m ρ c main_arg5 (by simp [argRefs])) _

/-- Layer 3's bias. -/
theorem b2_apply (o : Fin 64) :
    (W11 m ρ c (Proc.devRef .tc main_v133) : Map3 1 1 64) (ix3 0 0 o) = (m ((c : Thread nD τ).loc main_arg6) : Map1 64) (ix1 o) := by
  after_reads_simp
  pointwise []
  exact congrFun (W8_args m ρ c main_arg6 (by simp [argRefs])) _

/-- Layer 3 of the kernel is the encoder's layer. -/
theorem ker2 (X : Map4 256 32 16 16)
    (hX : IsRows (W8 m ρ c (Proc.devRef .tc main_v89) : Map3 1 65536 32) X) :
    IsRows (W12 m ρ c (Proc.devRef .tc main_v134) : Map3 1 16384 64) (encLayer (P := 8) (Q := 8) X
      (m ((c : Thread nD τ).loc main_arg5) : Map4 64 32 4 4) (m ((c : Thread nD τ).loc main_arg6) : Map1 64)) := by
  intro b o i j r hr
  refine (congrFun ((W12_arr m ρ c 3).trans (arr2 (V11 m ρ) c)) (ix3 0 r o)).trans ?_
  exact encLayer_of_rows _ _ _ (by rfl) _ _ _ b i j r (fun k ch kx ky hk => x2_apply m ρ c X b i j r hr hX k ch kx ky hk)
    (fun k ch kx ky o hk => w2_apply m ρ c k ch kx ky o hk) (fun o => b2_apply m ρ c o) o

/-- Layer 4's rows read the padded map it is given. -/
theorem x3_apply (X : Map4 256 64 8 8) (b : Fin 256) (i j : Fin 4) (r : Fin 4096) (hr : r.val = (b.val * 4 + i.val) * 4 + j.val)
    (hX : IsRows (W12 m ρ c (Proc.devRef .tc main_v134) : Map3 1 16384 64) X)
    (k : Fin 1024) (ch : Fin 64) (kx ky : Fin 4) (hk : k.val = (ky.val * 4 + kx.val) * 64 + ch.val) :
    (W15 m ρ c (Proc.devRef .tc main_v175) : Map3 1 4096 1024) (ix3 0 r k)
      = padRd (fun y x => X (ix4 b ch y x)) (2 * i.val + ky.val) (2 * j.val + kx.val) := by
  after_reads_simp
  refine (unit_axis _ _ r k).trans ?_
  refine (rows_apply _ _ (by rfl) b i j ⟨ky.val * 4 + kx.val, by omega⟩ ch r k hr hk).trans ?_
  refine (concat16 _ _ _ _ _ _ _ _ _ _ _ _ _ _ _ _ _ (fun t => padRd (fun y x => X (ix4 b ch y x)) (2 * i.val + t.val / 4) (2 * j.val + t.val % 4))
    b i j _ ch ?_ ?_ ?_ ?_ ?_ ?_ ?_ ?_ ?_ ?_ ?_ ?_ ?_ ?_ ?_ ?_).trans ?_
  case refine_17 =>
    show padRd _ (2 * i.val + (ky.val * 4 + kx.val) / 4) (2 * j.val + (ky.val * 4 + kx.val) % 4) = _
    rw [show (ky.val * 4 + kx.val) / 4 = ky.val by omega, show (ky.val * 4 + kx.val) % 4 = kx.val by omega]
  all_goals
    simp only [Matrix.cons_val]
    after_reads_simp
    simp -implicitDefEqProofs only [TRef.toBuf, TRef.ofBuf, cast_eq]
    refine tap_apply _ X (fun b y x o => ?_) _ _ _ (fun i => ?_) _ _ b i j ch
    · exact (map_of_rows _ _ _ b y x o ⟨(b.val * 8 + y.val) * 8 + x.val, by omega⟩ rfl).trans (hX b o y x _ rfl)
    · exact zero_cell _ i

/-- Layer 4's weights. -/
theorem w3_apply (k : Fin 1024) (ch : Fin 64) (kx ky : Fin 4) (o : Fin 64) (hk : k.val = (ky.val * 4 + kx.val) * 64 + ch.val) :
    (W15 m ρ c (Proc.devRef .tc main_v176) : Map3 1 1024 64) (ix3 0 k o) = (m ((c : Thread nD τ).loc main_arg7) : Map4 64 64 4 4) (ix4 o ch ky kx) := by
  after_reads_simp
  refine (unit_axis _ _ k o).trans ((weights_apply _ _ _ ky kx ch o k hk).trans ?_)
  exact congrFun (W12_args m ρ c main_arg7 (by simp [argRefs])) _

/-- Layer 4's bias. -/
theorem b3_apply (o : Fin 64) :
    (W15 m ρ c (Proc.devRef .tc main_v178) : Map3 1 1 64) (ix3 0 0 o) = (m ((c : Thread nD τ).loc main_arg8) : Map1 64) (ix1 o) := by
  after_reads_simp
  pointwise []
  exact congrFun (W12_args m ρ c main_arg8 (by simp [argRefs])) _

/-- Layer 4 of the kernel is the encoder's layer. -/
theorem ker3 (X : Map4 256 64 8 8)
    (hX : IsRows (W12 m ρ c (Proc.devRef .tc main_v134) : Map3 1 16384 64) X) :
    IsRows (W16 m ρ c (Proc.devRef .tc main_v179) : Map3 1 4096 64) (encLayer (P := 4) (Q := 4) X
      (m ((c : Thread nD τ).loc main_arg7) : Map4 64 64 4 4) (m ((c : Thread nD τ).loc main_arg8) : Map1 64)) := by
  intro b o i j r hr
  refine (congrFun ((W16_arr m ρ c 3).trans (arr3 (V15 m ρ) c)) (ix3 0 r o)).trans ?_
  exact encLayer_of_rows _ _ _ (by rfl) _ _ _ b i j r (fun k ch kx ky hk => x3_apply m ρ c X b i j r hr hX k ch kx ky hk)
    (fun k ch kx ky o hk => w3_apply m ρ c k ch kx ky o hk) (fun o => b3_apply m ρ c o) o

end Cert.KernelIdeal.Val
-- ==== Proof.RegC.lean ====
module

public import proofs.«01_k».proof.Proof.Gen.KernelIdeal.Frame.Region5
public import proofs.«01_k».proof.Proof.Mm
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.ShloMosaic.Pipeline
open Cert.Vq

variable (V : (c : Dev nD) → (b : Ref sig .tc) → Buf (Elt Ideal) ((c : Thread nD τ).loc b))

/-- Region 5's payload, read at an index: the projection's product with its bias. -/
theorem pay5 (x : Vec Ideal S256x128 .bf16) (w : Vec Ideal S128x64 .f32) (b : Vec Ideal S64 .f32) (j : S256x64.Idx) :
    k5_pay1 x w b j = (∑ k : Fin 128, x (ix2 (j 0) k) * w (ix2 k (j 1)) : EReal) + b (ix1 (j 1)) := by
  pointwise [k5_pay1]
/-- Every window of region 5 stays at its first block. -/
theorem idx5 : ∀ t : Fin grid5.N, win5_0.index t = ![0, 0] ∧ win5_1.index t = ![0, 0] ∧ win5_2.index t = ![0] ∧ win5_3.index t = ![0, 0] := by decide +kernel
/-- Region 5 leaves its payload of the whole input arrays. -/
theorem arr5 (c : Dev nD) : (dat5 V c).arrAt 3 cfg5.N = k5_pay1 (V c main_v191) (V c main_v193) (V c main_arg12) := by
  refine (dat5 V c).arrAt_eq_of_covers 3 _ (by decide +kernel) fun t hf y => ?_
  blk_simp
  rw [after5_3]; frame_out
  rw [pay5, pay5]
  blk_point [iblk5, idx5 t]

end Cert.KernelIdeal.Val
-- ==== Proof.VqDist.lean ====
/-
  The distance table that the nearest-neighbour launch computes: what one chunk of 64 codebook rows stores.
-/
module

public import proofs.«01_k».proof.Proof.Gen.KernelIdeal.Frame.Region6
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Vq

open Idealize.ShloMosaic

/-- The squared distance between row `r` of the codebook and row `b` of the encodings. -/
def dist2 {K B : ℕ} (e : Vec Ideal ⟨2, ![K, 64]⟩ .f32) (z : Vec Ideal ⟨2, ![B, 64]⟩ .f32) (r : Fin K) (b : Fin B) : EReal :=
  ∑ d : Fin 64, ((e (ix2 r d) - z (ix2 b d)) * (e (ix2 r d) - z (ix2 b d)) : EReal)

/-- The table of squared distances. -/
def distTab {K B : ℕ} (e : Vec Ideal ⟨2, ![K, 64]⟩ .f32) (z : Vec Ideal ⟨2, ![B, 64]⟩ .f32) : Vec Ideal ⟨2, ![K, B]⟩ .f32 :=
  fun y => dist2 e z (y 0) (y 1)

end Cert.Vq

namespace Cert.KernelIdeal.Val

open Cert.KernelIdeal Cert.KernelIdeal.Gen Cert.Vq Idealize.ShloMosaic Idealize.ShloMosaic.TcCoe Idealize.ShloMosaic.Pipeline

/-- The squared differences, read at an index. -/
theorem sq_apply (z : Vec Ideal S256x64 .f32) (e : Vec Ideal S64x64 .f32) (r : Fin 64) (a c : Fin 8) (b : Fin 256) (d : Fin 64)
    (hd : d.val = a.val * 8 + c.val) :
    k6_pay2 (k6_pay8 z) e (ix4 r a c b) = ((e (ix2 r d) - z (ix2 b d)) * (e (ix2 r d) - z (ix2 b d)) : EReal) := by
  have hd' : (⟨a.val * 8 + c.val, hd ▸ d.isLt⟩ : Fin 64) = d := Fin.ext hd.symm
  pointwise [k6_pay2, k6_pay8, k6_pay7]
  rw [hd']

/-- A sum over eight by eight of the squared differences is the squared distance. -/
theorem dist2_split (z : Vec Ideal S256x64 .f32) (e : Vec Ideal S64x64 .f32) (r : Fin 64) (b : Fin 256) :
    dist2 e z r b = ∑ a : Fin 8, ∑ c : Fin 8, (k6_pay2 (k6_pay8 z) e (ix4 r a c b) : EReal) := by
  unfold dist2
  rw [← Equiv.sum_comp (finProdFinEquiv (m := 8) (n := 8)), Fintype.sum_prod_type]
  refine Finset.sum_congr rfl fun a _ => Finset.sum_congr rfl fun c _ => ?_
  rw [sq_apply z e r a c b (finProdFinEquiv (m := 8) (n := 8) (a, c)) (by simp [finProdFinEquiv]; omega)]

/-- The first order of summation gives the squared distance. -/
theorem df_apply (z : Vec Ideal S256x64 .f32) (e : Vec Ideal S64x64 .f32) (r : Fin 64) (b : Fin 256) :
    k6_pay3 (k6_pay8 z) e (ix2 r b) = dist2 e z r b := by
  rw [dist2_split]
  unfold k6_pay3
  generalize k6_pay2 (k6_pay8 z) e = q
  pointwise []
  simp only [Fin.sum_univ_eight]
  abel

/-- The second order of summation gives it as well. -/
theorem dr_apply (z : Vec Ideal S256x64 .f32) (e : Vec Ideal S64x64 .f32) (r : Fin 64) (b : Fin 256) :
    k6_pay9 (k6_pay6 (k6_pay2 (k6_pay8 z) e) (k6_pay4 (k6_pay8 z) e) (k6_pay5 (k6_pay8 z) e)) (ix2 r b) = dist2 e z r b := by
  rw [dist2_split]
  unfold k6_pay9 k6_pay6 k6_pay5 k6_pay4
  generalize k6_pay2 (k6_pay8 z) e = q
  pointwise []
  simp only [Fin.sum_univ_eight]
  abel

end Cert.KernelIdeal.Val
-- ==== Proof.VqMath.lean ====
/-
  The first smallest value of a row, as the two programs find it: the launch by a minimum and a smallest equal index,
  the reference by one pass over (value, index) pairs.
-/
module

public import proofs.«01_k».proof.Proof.RefFacts
public import proofs.«01_k».proof.Proof.VqDist

@[expose] public section

set_option maxRecDepth 16384

noncomputable section

namespace Cert.Vq

open Idealize.ShloMosaic Idealize.ShloMosaic.TcCoe

/-- `k` is the first place where `f` is smallest. -/
def IsFirstMin {n : ℕ} (f : Fin n → EReal) (k : Fin n) : Prop :=
  (∀ i, f k ≤ f i) ∧ ∀ i, f i = f k → k ≤ i

/-- A nonempty row has a first smallest place. -/
theorem exists_firstMin {n : ℕ} (hn : 0 < n) (f : Fin n → EReal) : ∃ k, IsFirstMin f k := by
  have : Nonempty (Fin n) := ⟨⟨0, hn⟩⟩
  obtain ⟨k0, h0⟩ := Finite.exists_min f
  have hne : (Finset.univ.filter fun i => f i = f k0).Nonempty := ⟨k0, by simp⟩
  refine ⟨(Finset.univ.filter fun i => f i = f k0).min' hne, ?_, ?_⟩
  · have h := Finset.min'_mem _ hne
    rw [Finset.mem_filter] at h
    intro i; rw [h.2]; exact h0 i
  · intro i hi
    have h := Finset.min'_mem _ hne
    rw [Finset.mem_filter] at h
    exact Finset.min'_le _ _ (by simp [hi, h.2])

/-- The minimum over the row is its value at the first smallest place. -/
theorem fold_min_eq {n : ℕ} {f : Fin n → EReal} {k : Fin n} (h : IsFirstMin f k) (t : EReal) (ht : t = ⊤) :
    Finset.fold min t f Finset.univ = f k := by
  subst ht
  apply le_antisymm
  · rw [Finset.fold_min_le]; exact .inr ⟨k, Finset.mem_univ _, le_rfl⟩
  · rw [Finset.le_fold_min]; exact ⟨le_top, fun i _ => h.1 i⟩

/-- A small index, as a word, reads back as itself. -/
theorem toInt_ofNat {i : ℕ} (h : i < 2 ^ 30) : (BitVec.ofNat 32 i).toInt = (i : ℤ) := by
  have hn : (BitVec.ofNat 32 i).toNat = i := by rw [BitVec.toNat_ofNat]; omega
  rw [BitVec.toInt_eq_toNat_of_lt (by rw [hn]; omega), hn]

/-- The signed minimum of words reads as the minimum. -/
theorem toInt_minsi' (a b : BitVec 32) : (IntOp.minsi a b).toInt = min a.toInt b.toInt := by
  unfold IntOp.minsi
  simp only [BitVec.slt, decide_eq_true_eq]
  split <;> omega

/-- The smallest index whose value equals the minimum is the first smallest place. -/
theorem fold_minsi_eq {n : ℕ} (hn : n ≤ 2 ^ 30) {f : Fin n → EReal} {k : Fin n} (h : IsFirstMin f k) :
    Finset.fold IntOp.minsi (2147483647#32) (fun x : Fin n => if f x = f k then BitVec.ofNat 32 x.val else 1073741824#32) Finset.univ
      = BitVec.ofNat 32 k.val := by
  apply BitVec.eq_of_toInt_eq
  have e := Finset.fold_hom (op := IntOp.minsi) (op' := (min : ℤ → ℤ → ℤ)) (b := (2147483647#32 : BitVec 32)) (m := BitVec.toInt)
    (f := fun x : Fin n => if f x = f k then BitVec.ofNat 32 x.val else 1073741824#32) (s := Finset.univ) toInt_minsi'
  rw [← e, toInt_ofNat (lt_of_lt_of_le k.isLt hn)]
  apply le_antisymm
  · rw [Finset.fold_min_le]
    refine .inr ⟨k, Finset.mem_univ _, ?_⟩
    rw [if_pos rfl, toInt_ofNat (lt_of_lt_of_le k.isLt hn)]
  · rw [Finset.le_fold_min]
    refine ⟨?_, fun i _ => ?_⟩
    · have := k.isLt
      show (k.val : ℤ) ≤ 2147483647
      omega
    · split
      · rename_i hi
        rw [toInt_ofNat (lt_of_lt_of_le i.isLt hn)]
        have := h.2 i hi
        exact_mod_cast this
      · have := k.isLt
        show (k.val : ℤ) ≤ 1073741824
        omega

/-- A sum against the indicator of one index is the value there. -/
theorem sum_indicator {n : ℕ} (hn : n ≤ 2 ^ 30) (k : Fin n) (z : Fin n → EReal) :
    (∑ x : Fin n, (FloatOps.sitofp (F := Ideal) FTy.f32 (BitVec.setWidth 32 (IntOp.cmpi CmpIPredicate.eq (BitVec.ofNat 32 x.val) (BitVec.ofNat 32 k.val))) : EReal) * z x) = z k := by
  rw [Finset.sum_eq_single k]
  · have : IntOp.cmpi CmpIPredicate.eq (BitVec.ofNat 32 k.val) (BitVec.ofNat 32 k.val) = 1#1 := by simp [IntOp.cmpi]
    rw [this]
    have h1 : (FloatOps.sitofp (F := Ideal) FTy.f32 (BitVec.setWidth 32 (1#1)) : EReal) = 1 := by
      show (((BitVec.setWidth 32 (1#1)).toInt : ℝ) : EReal) = 1
      have : (BitVec.setWidth 32 (1#1)).toInt = 1 := by decide
      rw [this]; norm_num
    rw [h1, one_mul]
  · intro x _ hx
    have hne : BitVec.ofNat 32 x.val ≠ BitVec.ofNat 32 k.val := by
      intro he
      have := congrArg BitVec.toInt he
      rw [toInt_ofNat (lt_of_lt_of_le x.isLt hn), toInt_ofNat (lt_of_lt_of_le k.isLt hn)] at this
      exact hx (Fin.ext (by exact_mod_cast this))
    have : IntOp.cmpi CmpIPredicate.eq (BitVec.ofNat 32 x.val) (BitVec.ofNat 32 k.val) = 0#1 := by
      have hb : (BitVec.ofNat 32 x.val == BitVec.ofNat 32 k.val) = false := beq_eq_false_iff_ne.mpr hne
      simp only [IntOp.cmpi, hb]; rfl
    rw [this]
    have h0 : (FloatOps.sitofp (F := Ideal) FTy.f32 (BitVec.setWidth 32 (0#1)) : EReal) = 0 := by
      show (((BitVec.setWidth 32 (0#1)).toInt : ℝ) : EReal) = 0
      have : (BitVec.setWidth 32 (0#1)).toInt = 0 := by decide
      rw [this]; norm_num
    rw [h0, zero_mul]
  · intro h; exact absurd (Finset.mem_univ _) h

end Cert.Vq

namespace Cert.KernelIdeal.Val

open Cert.KernelIdeal Cert.KernelIdeal.Gen Cert.Vq Idealize.ShloMosaic Idealize.ShloMosaic.TcCoe Idealize.ShloMosaic.Pipeline

/-- Positive infinity's bits. -/
theorem inf_bits : Ideal.ofBits .f32 2139095040#32 = ⊤ := by simp [Ideal.ofBits, Ideal.ieee]

/-- The launch's second result reads the encoding first nearest to a codebook row. -/
theorem pay10_apply (z : Vec Ideal S256x64 .f32) (T : Vec Ideal S1024x256 .f32) (r : Fin 1024) (d : Fin 64) (k : Fin 256)
    (h : IsFirstMin (fun b : Fin 256 => Ideal.sqrt (T (ix2 r b))) k) : k6_pay10 z T (ix2 r d) = z (ix2 k d) := by
  pointwise [k6_pay10, k6_pay7]
  rw [fold_min_eq h _ inf_bits]
  rw [fold_minsi_eq (by norm_num) h]
  exact sum_indicator (by norm_num) k fun x => z (ix2 x d)

/-- The launch's first result reads the codebook row first nearest to an encoding. -/
theorem pay1_apply (e : Vec Ideal S1024x64 .f32) (T : Vec Ideal S1024x256 .f32) (r : Fin 256) (d : Fin 64) (k : Fin 1024)
    (h : IsFirstMin (fun b : Fin 1024 => Ideal.sqrt (T (ix2 b r))) k) : k6_pay1 (k6_pay11 T) e (ix2 r d) = e (ix2 k d) := by
  pointwise [k6_pay11, k6_pay1]
  rw [fold_min_eq h _ inf_bits]
  rw [fold_minsi_eq (by norm_num) h]
  exact sum_indicator (by norm_num) k fun x => e (ix2 x d)

end Cert.KernelIdeal.Val

namespace Cert.ReferenceIdeal.Val

open Cert.ReferenceIdeal Cert.ReferenceIdeal.Gen Cert.Vq Idealize.ShloMosaic Idealize.ShloMosaic.TcCoe

/-- Pairs ordered by value and, on equal values, by signed index. -/
def lexle (p q : Ideal .f32 × BitVec 32) : Prop := (p.1 : EReal) < q.1 ∨ ((p.1 : EReal) = q.1 ∧ p.2.toInt ≤ q.2.toInt)

theorem lexle_refl (p : Ideal .f32 × BitVec 32) : lexle p p := .inr ⟨rfl, le_rfl⟩

theorem lexle_trans {p q r : Ideal .f32 × BitVec 32} (h : lexle p q) (h' : lexle q r) : lexle p r := by
  rcases h with h | ⟨h, i⟩ <;> rcases h' with h' | ⟨h', i'⟩
  · exact .inl (h.trans h')
  · exact .inl (h'  ▸ h)
  · exact .inl (h ▸ h')
  · exact .inr ⟨h.trans h', i.trans i'⟩

/-- The reducer keeps one of its two pairs, and one not after either. -/
theorem red_spec (a b : Ideal .f32 × BitVec 32) :
    (reducer_argmin_f32_i32 (F := Ideal) a b = a ∨ reducer_argmin_f32_i32 (F := Ideal) a b = b)
      ∧ lexle (reducer_argmin_f32_i32 (F := Ideal) a b) a ∧ lexle (reducer_argmin_f32_i32 (F := Ideal) a b) b := by
  obtain ⟨x, i⟩ := a
  obtain ⟨y, j⟩ := b
  have key : reducer_argmin_f32_i32 (F := Ideal) (x, i) (y, j)
      = if (x : EReal) < y then (x, i) else if (x : EReal) = y ∧ i.toInt < j.toInt then (y, i) else (y, j) := by
    unfold reducer_argmin_f32_i32
    pointwise [Scalar.select, IntOp.ori, IntOp.andi, IntOp.cmpi]
    have hslt : i.slt j = decide (i.toInt < j.toInt) := by simp [BitVec.slt]
    rw [hslt]
    by_cases h1 : (x : EReal) < y <;> by_cases h2 : (x : EReal) = y <;> by_cases h3 : i.toInt < j.toInt <;>
      simp [h1, h2, h3]
  rw [key]
  rcases lt_trichotomy (x : EReal) y with h | h | h
  · rw [if_pos h]
    exact ⟨.inl rfl, lexle_refl _, .inl h⟩
  · rw [if_neg (by rw [h]; exact lt_irrefl _)]
    by_cases hi : i.toInt < j.toInt
    · rw [if_pos ⟨h, hi⟩]
      exact ⟨.inl (Prod.ext h.symm rfl), .inr ⟨h.symm, le_rfl⟩, .inr ⟨rfl, hi.le⟩⟩
    · rw [if_neg fun hh => hi hh.2]
      exact ⟨.inr rfl, .inr ⟨h.symm, not_lt.mp hi⟩, lexle_refl _⟩
  · rw [if_neg h.not_gt, if_neg fun hh => h.ne' hh.1]
    exact ⟨.inr rfl, .inl h, lexle_refl _⟩

/-- A pass over pairs ends at a pair of the list or the start, not after any of them. -/
theorem foldl_spec : ∀ (L : List (Ideal .f32 × BitVec 32)) (a : Ideal .f32 × BitVec 32),
    (L.foldl (reducer_argmin_f32_i32 (F := Ideal)) a = a ∨ L.foldl (reducer_argmin_f32_i32 (F := Ideal)) a ∈ L)
      ∧ lexle (L.foldl (reducer_argmin_f32_i32 (F := Ideal)) a) a ∧ ∀ p ∈ L, lexle (L.foldl (reducer_argmin_f32_i32 (F := Ideal)) a) p
  | [], a => ⟨.inl rfl, lexle_refl a, fun p hp => absurd hp List.not_mem_nil⟩
  | q :: L, a => by
    obtain ⟨h1, h2, h3⟩ := foldl_spec L (reducer_argmin_f32_i32 (F := Ideal) a q)
    obtain ⟨r1, r2, r3⟩ := red_spec a q
    rw [List.foldl_cons]
    refine ⟨?_, lexle_trans h2 r2, fun p hp => ?_⟩
    · rcases h1 with h1 | h1
      · rw [h1]
        rcases r1 with r1 | r1
        · exact .inl r1
        · rw [r1]; exact .inr List.mem_cons_self
      · exact .inr (List.mem_cons_of_mem _ h1)
    · rcases List.mem_cons.mp hp with rfl | hp
      · exact lexle_trans h2 r3
      · exact h3 p hp

/-- The reference's arg-min over a row is the first smallest place. -/
theorem argmin_apply {R C : ℕ} (hC : C ≤ 2 ^ 30) (x : FVec Ideal ⟨2, ![R, C]⟩ .f32) (y : IVec ⟨2, ![R, C]⟩ 32) (u : FVec Ideal S_ .f32) (v : IVec S_ 32)
    (hr : (⟨2, ![R, C]⟩ : Shape).ReducesTo [1] ⟨1, ![R]⟩) (hu : 0 < S_.numel) (r : Fin R) (k : Fin C)
    (hy : ∀ k : Fin C, y (ix2 r k) = BitVec.ofNat 32 k.val) (hiu : ∀ i, u i = (⊤ : EReal)) (hv : ∀ i, v i = 0#32)
    (h : IsFirstMin (fun c : Fin C => (x (ix2 r c) : EReal)) k) :
    (Host.argReduce (reducer_argmin_f32_i32 (F := Ideal)) x y u v hr hu (ix1 r)).2 = BitVec.ofNat 32 k.val := by
  rw [Ideal.argReduce_eq_reduce2, Host.reduce2_eq_foldl_fiber]
  have hmem : ∀ p, p ∈ Host.argReduceFiber x y hr (ix1 r) ↔ ∃ c : Fin C, p = (x (ix2 r c), BitVec.ofNat 32 c.val) := by
    intro p
    have hd : ∀ i : (⟨2, ![R, C]⟩ : Shape).Idx, hr.drop i = ix1 r ↔ i 0 = r := by
      intro i
      constructor
      · intro h
        have h' := congrArg (fun q : (⟨1, ![R]⟩ : Shape).Idx => (q 0).val) h
        exact Fin.ext h'
      · intro h
        funext a
        fin_cases a
        exact h
    unfold Host.argReduceFiber
    simp only [List.mem_map, List.mem_filter, List.mem_finRange, true_and, decide_eq_true_eq, hd]
    constructor
    · rintro ⟨n, hn, rfl⟩
      obtain ⟨c, hc⟩ : ∃ c : Fin C, (⟨2, ![R, C]⟩ : Shape).rowMajor.symm n = ix2 r c := by
        refine ⟨(⟨2, ![R, C]⟩ : Shape).rowMajor.symm n 1, ?_⟩
        funext a
        fin_cases a
        · exact hn
        · rfl
      exact ⟨c, by rw [hc, hy]⟩
    · rintro ⟨c, rfl⟩
      refine ⟨(⟨2, ![R, C]⟩ : Shape).rowMajor (ix2 r c), ?_, ?_⟩
      · rw [Equiv.symm_apply_apply]; rfl
      · rw [Equiv.symm_apply_apply, hy]
  obtain ⟨h1, h2, h3⟩ := foldl_spec (Host.argReduceFiber x y hr (ix1 r)) (u (Shape.Idx.first hu), v (Shape.Idx.first hu))
  generalize (Host.argReduceFiber x y hr (ix1 r)).foldl (reducer_argmin_f32_i32 (F := Ideal)) (u (Shape.Idx.first hu), v (Shape.Idx.first hu)) = p at *
  have hk := h3 _ ((hmem _).mpr ⟨k, rfl⟩)
  have hkt := toInt_ofNat (lt_of_lt_of_le k.isLt hC)
  rcases h1 with h1 | h1
  · rw [hiu, hv] at h1
    have h0 := h3 _ ((hmem _).mpr ⟨⟨0, lt_of_le_of_lt (Nat.zero_le _) k.isLt⟩, rfl⟩)
    have hp1 : (p.1 : EReal) = ⊤ := congrArg Prod.fst h1
    have hp2 : p.2 = 0#32 := congrArg Prod.snd h1
    rcases hk with hk | ⟨hk, _⟩
    · rw [hp1] at hk; exact absurd hk not_top_lt
    · rcases h0 with h0 | ⟨h0, _⟩
      · rw [hp1] at h0; exact absurd h0 not_top_lt
      · have := h.2 ⟨0, lt_of_le_of_lt (Nat.zero_le _) k.isLt⟩ (h0.symm.trans hk)
        have hk0 : k.val = 0 := Nat.le_zero.mp this
        rw [hp2, hk0]
  · obtain ⟨c, rfl⟩ := (hmem _).mp h1
    dsimp only at *
    have hct := toInt_ofNat (lt_of_lt_of_le c.isLt hC)
    rcases hk with hk | ⟨hk, hi⟩
    · exact absurd hk (not_lt.mpr (h.1 c))
    · have h4 := h.2 c hk
      have h4' : k.val ≤ c.val := h4
      dsimp only at hi
      rw [hct, hkt] at hi
      have : c.val = k.val := by omega
      rw [this]

end Cert.ReferenceIdeal.Val
-- ==== Proof.RefRest.lean ====
/-
  The reference's other layers at an index: the encoder's tail, the two nearest rows, the decoder's head.
-/
module

public import proofs.«01_k».proof.Proof.RefRun
public import proofs.«01_k».proof.Proof.Gathers
public import proofs.«01_k».proof.Proof.Conv
public import proofs.«01_k».proof.Proof.VqMath
public import Idealize.ShloMosaic.Lib.Routing.Ops
public import Idealize.ShloMosaic.Lib.Pipeline.ValueKit

@[expose] public section

set_option maxRecDepth 16384

noncomputable section

namespace Cert.Vq

open Idealize.ShloMosaic

/-- A square of a difference does not depend on its order. -/
theorem sq_sub_comm (x y : EReal) : (x - y) * (x - y) = (y - x) * (y - x) := by
  induction x using EReal.rec <;> induction y using EReal.rec
  all_goals first
    | rfl
    | simp
    | (rw [← EReal.coe_sub, ← EReal.coe_sub, ← EReal.coe_mul, ← EReal.coe_mul]; congr 1; ring)

/-- A nonnegative word given another way is kept by the wrap-around. -/
theorem wrap_of (n : ℕ) (hn : n < 2 ^ 31) (q a : BitVec 32) (h : q = BitVec.ofNat 32 n) :
    Scalar.select (IntOp.cmpi .slt q 0#32) a q = BitVec.ofNat 32 n := by
  rw [h]; exact wrap_ofNat n hn a

/-- The encoder's tail: the whole of each map against kernels, bias, rectifier, then a matrix and a bias. -/
def encTail {B C K D : ℕ} (X : Map4 B C 4 4) (w : Map4 K C 4 4) (b : Map1 K) (w2 : Map4 D K 1 1) (b2 : Map1 D) :
    (⟨2, ![B, D]⟩ : Shape).Idx → EReal :=
  fun y => (∑ k : Fin K, max ((∑ c : Fin C, ∑ kx : Fin 4, ∑ ky : Fin 4, X (ix4 (y 0) c ky kx) * w (ix4 k c ky kx)) + b (ix1 k)) 0
    * w2 (ix4 (y 1) k 0 0)) + b2 (ix1 (y 1))

/-- The decoder's first layer: a matrix, a bias, the rectifier. -/
def decHead {B C K : ℕ} (X : (⟨2, ![B, C]⟩ : Shape).Idx → EReal) (w : Map4 K C 1 1) (b : Map1 K) :
    (⟨2, ![B, K]⟩ : Shape).Idx → EReal :=
  fun y => max ((∑ c : Fin C, X (ix2 (y 0) c) * w (ix4 (y 1) c 0 0)) + b (ix1 (y 1))) 0

/-- The decoder's second layer: every vector spread to a map by kernels, bias, rectifier. -/
def decSpread {B C K : ℕ} (X : (⟨2, ![B, C]⟩ : Shape).Idx → EReal) (w : Map4 C K 4 4) (b : Map1 K) : Map4 B K 4 4 :=
  fun y => max ((∑ c : Fin C, X (ix2 (y 0) c) * w (ix4 c (y 1) (y 2) (y 3))) + b (ix1 (y 1))) 0

end Cert.Vq

namespace Cert.ReferenceIdeal.Val

open Cert.ReferenceIdeal Cert.ReferenceIdeal.Gen Cert.ReferenceIdeal.Facts₀
open Idealize.ShloMosaic Idealize.ShloMosaic.TcCoe Idealize.SL.Sem Idealize.ShloMosaic.StableHlo
open Cert.Vq
variable (V : Valuation τ sig (Elt Ideal))

/-- The encoder's tail. -/
theorem ref5 : U5 V (Proc.devRef .tc main_v142) = encTail (B := 256) (C := 64) (K := 128) (D := 64)
    (U4 V (Proc.devRef .tc main_v131)) (U4 V (Proc.devRef .tc main_arg9)) (U4 V (Proc.devRef .tc main_arg10))
    (U4 V (Proc.devRef .tc main_arg11)) (U4 V (Proc.devRef .tc main_arg12)) := by
  unfold U5
  after_reads_simp
  funext y
  obtain ⟨b, d, rfl⟩ : ∃ (b : Fin 256) (d : Fin 64), y = ix2 b d := ⟨y 0, y 1, funext fun a => by fin_cases a <;> rfl⟩
  pointwise [encTail]
  refine congrArg (· + _) (Finset.sum_congr rfl fun k _ => congrArg (fun t : EReal => max (t + _) 0 * _) ?_)
  exact dotAll_apply _ _ _ b k

/-- The decoder's first layer. -/
theorem ref7 : U7 V (Proc.devRef .tc main_v165) = decHead (B := 256) (C := 64) (K := 128)
    (U6 V (Proc.devRef .tc main_v158)) (U6 V (Proc.devRef .tc main_arg14)) (U6 V (Proc.devRef .tc main_arg15)) := by
  unfold U7
  after_reads_simp
  funext y
  pointwise [decHead]

/-- The decoder's second layer. -/
theorem ref8 : U8 V (Proc.devRef .tc main_v171) = decSpread (B := 256) (C := 128) (K := 64)
    (U7 V (Proc.devRef .tc main_v165)) (U7 V (Proc.devRef .tc main_arg16)) (U7 V (Proc.devRef .tc main_arg17)) := by
  unfold U8
  after_reads_simp
  funext y
  pointwise [decSpread]

/-- Each encoding's nearest row of the table. -/
theorem ref6 (r : Fin 256) (d : Fin 64) (k : Fin 1024)
    (h : IsFirstMin (fun c : Fin 1024 => Ideal.sqrt (dist2 (U5 V (Proc.devRef .tc main_arg13)) (U5 V (Proc.devRef .tc main_v142)) c r)) k) :
    (U6 V (Proc.devRef .tc main_v158) : FVec Ideal S256x64 .f32) (ix2 r d) = (U5 V (Proc.devRef .tc main_arg13) : FVec Ideal S1024x64 .f32) (ix2 k d) := by
  unfold U6
  after_reads_simp
  refine (Routing.gather_row _ rfl rfl rfl rfl rfl _ _ r d k ?_ (by decide))
  pointwise []
  refine wrap_of _ (by omega) _ _ ?_
  refine argmin_apply (by decide) _ _ _ _ _ _ r k (fun k => by pointwise []) (fun i => Cert.KernelIdeal.Val.inf_bits) (fun i => by pointwise [])
    ((congrArg (fun f => IsFirstMin f k) (funext fun c => ?_)).mpr h)
  pointwise [dist2]
  exact congrArg Ideal.sqrt (Finset.sum_congr rfl fun d _ => sq_sub_comm _ _)

/-- Each row's nearest encoding. -/
theorem ref13 (r : Fin 1024) (d : Fin 64) (k : Fin 256)
    (h : IsFirstMin (fun b : Fin 256 => Ideal.sqrt (dist2 (U12 V (Proc.devRef .tc main_arg13)) (U12 V (Proc.devRef .tc main_v142)) r b)) k) :
    (U13 V (Proc.devRef .tc main_v325) : FVec Ideal S1024x64 .f32) (ix2 r d) = (U12 V (Proc.devRef .tc main_v142) : FVec Ideal S256x64 .f32) (ix2 k d) := by
  unfold U13
  after_reads_simp
  refine (Routing.gather_row _ rfl rfl rfl rfl rfl _ _ r d k ?_ (by decide))
  pointwise []
  refine wrap_of _ (by omega) _ _ ?_
  refine argmin_apply (by decide) _ _ _ _ _ _ r k (fun k => by pointwise []) (fun i => Cert.KernelIdeal.Val.inf_bits) (fun i => by pointwise [])
    ((congrArg (fun f => IsFirstMin f k) (funext fun c => ?_)).mpr h)
  pointwise [dist2]

end Cert.ReferenceIdeal.Val
-- ==== Proof.KerTail.lean ====
/-
  The kernel's encoder after its convolution layers: the layer that takes in the whole map, and the projection.
-/
module

public import proofs.«01_k».proof.Proof.KerEnc
public import proofs.«01_k».proof.Proof.RegC
public import proofs.«01_k».proof.Proof.RefRest

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.Vq

variable (m : (ℓ : Loc nD τ sig) → Buf (Elt Ideal) ℓ) (ρ : Dev nD → PrngReg) (c : Dev nD)

/-- Layer 5's rows are the maps, laid out flat. -/
theorem x4_apply (X : Map4 256 64 4 4) (b : Fin 256)
    (hX : IsRows (W16 m ρ c (Proc.devRef .tc main_v179) : Map3 1 4096 64) X)
    (k : Fin 1024) (ch : Fin 64) (kx ky : Fin 4) (hk : k.val = (ky.val * 4 + kx.val) * 64 + ch.val) :
    (W17 m ρ c (Proc.devRef .tc main_v186) : Map3 1 256 1024) (ix3 0 b k) = X (ix4 b ch ky kx) := by
  after_reads_simp
  refine (unit_axis _ _ b k).trans ?_
  refine (shapeCast_apply _ _ _ (ix4 b ky kx ch) ?_).trans
    ((map_of_rows _ _ _ b ky kx ch ⟨(b.val * 4 + ky.val) * 4 + kx.val, by omega⟩ rfl).trans (hX b ch ky kx _ rfl))
  show _ = ((⟨2, ![256, 1024]⟩ : Shape).rowMajor (ix2 b k)).val
  rw [Shape.rowMajor_val_two, Shape.rowMajor_val_four]
  show ((b.val * 4 + ky.val) * 4 + kx.val) * 64 + ch.val = b.val * 1024 + k.val
  omega

/-- Layer 5's weights. -/
theorem w4_apply (k : Fin 1024) (ch : Fin 64) (kx ky : Fin 4) (o : Fin 128) (hk : k.val = (ky.val * 4 + kx.val) * 64 + ch.val) :
    (W17 m ρ c (Proc.devRef .tc main_v187) : Map3 1 1024 128) (ix3 0 k o) = (m ((c : Thread nD τ).loc main_arg9) : Map4 128 64 4 4) (ix4 o ch ky kx) := by
  after_reads_simp
  refine (unit_axis _ _ k o).trans ((weights_apply _ _ _ ky kx ch o k hk).trans ?_)
  exact congrFun (W16_args m ρ c main_arg9 (by simp [argRefs])) _

/-- Layer 5's bias. -/
theorem b4_apply (o : Fin 128) :
    (W17 m ρ c (Proc.devRef .tc main_v189) : Map3 1 1 128) (ix3 0 0 o) = (m ((c : Thread nD τ).loc main_arg10) : Map1 128) (ix1 o) := by
  after_reads_simp
  pointwise []
  exact congrFun (W16_args m ρ c main_arg10 (by simp [argRefs])) _

/-- Layer 5 of the kernel. -/
theorem ker4 (X : Map4 256 64 4 4) (hX : IsRows (W16 m ρ c (Proc.devRef .tc main_v179) : Map3 1 4096 64) X) (b : Fin 256) (o : Fin 128) :
    (W18 m ρ c (Proc.devRef .tc main_v190) : Map3 1 256 128) (ix3 0 b o)
      = max ((∑ ch : Fin 64, ∑ kx : Fin 4, ∑ ky : Fin 4, X (ix4 b ch ky kx) * (m ((c : Thread nD τ).loc main_arg9) : Map4 128 64 4 4) (ix4 o ch ky kx))
        + (m ((c : Thread nD τ).loc main_arg10) : Map1 128) (ix1 o)) 0 := by
  refine (congrFun ((W18_arr m ρ c 3).trans (arr4 (V17 m ρ) c)) (ix3 0 b o)).trans ?_
  refine congrArg₂ (fun s t : EReal => max (s + t) 0) ?_ (b4_apply m ρ c o)
  refine sum_window (C := 64) (by rfl) _ _ fun k ch kx ky hk => ?_
  exact congrArg₂ (fun s t : EReal => s * t) (x4_apply m ρ c X b hX k ch kx ky hk) (w4_apply m ρ c k ch kx ky o hk)

/-- The encoder's result in the kernel. -/
theorem ker5 (X : Map4 256 64 4 4) (hX : IsRows (W16 m ρ c (Proc.devRef .tc main_v179) : Map3 1 4096 64) X) :
    W20 m ρ c (Proc.devRef .tc main_v194) = encTail (B := 256) (C := 64) (K := 128) (D := 64) X
      (m ((c : Thread nD τ).loc main_arg9)) (m ((c : Thread nD τ).loc main_arg10)) (m ((c : Thread nD τ).loc main_arg11)) (m ((c : Thread nD τ).loc main_arg12)) := by
  refine (W20_arr m ρ c 3).trans ((arr5 (V19 m ρ) c).trans (funext fun y => ?_))
  obtain ⟨b, d, rfl⟩ : ∃ (b : Fin 256) (d : Fin 64), y = ix2 b d := ⟨y 0, y 1, funext fun a => by fin_cases a <;> rfl⟩
  refine (pay5 _ _ _ _).trans ?_
  refine congrArg₂ (fun s t : EReal => s + t) (Finset.sum_congr rfl fun k _ => congrArg₂ (fun s t : EReal => s * t) ?_ ?_)
    (congrFun (W19_args m ρ c main_arg12 (by simp [argRefs])) _)
  · refine Eq.trans ?_ (ker4 m ρ c X hX b k)
    show (W19 m ρ c (Proc.devRef .tc main_v191) : (⟨2, ![256, 128]⟩ : Shape).Idx → EReal) (ix2 b k) = _
    after_reads_simp
    pointwise []
  · show (W19 m ρ c (Proc.devRef .tc main_v193) : (⟨2, ![128, 64]⟩ : Shape).Idx → EReal) (ix2 k d) = _
    after_reads_simp
    pointwise []
    exact congrFun (W18_args m ρ c main_arg11 (by simp [argRefs])) _

end Cert.KernelIdeal.Val
-- ==== Proof.RegB.lean ====
module

public import proofs.«01_k».proof.Proof.Gen.KernelIdeal.Frame.Region7
public import proofs.«01_k».proof.Proof.Gen.KernelIdeal.Frame.Region8
public import proofs.«01_k».proof.Proof.Gen.KernelIdeal.Frame.Region9
public import proofs.«01_k».proof.Proof.Gen.KernelIdeal.Frame.Region10
public import proofs.«01_k».proof.Proof.Gen.KernelIdeal.Frame.Region11
public import proofs.«01_k».proof.Proof.Gen.KernelIdeal.Frame.Region12
public import proofs.«01_k».proof.Proof.Mm
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen Idealize.ShloMosaic Idealize.ShloMosaic.TcCoe Idealize.ShloMosaic.Pipeline
open Cert.Vq

variable (V : (c : Dev nD) → (b : Ref sig .tc) → Buf (Elt Ideal) ((c : Thread nD τ).loc b))

/-- Region 7's payload, read at an index: the block's product. -/
theorem pay7 (x : Vec Ideal S1x256x64 .bf16) (w : Vec Ideal S1x64x128 .bf16) (b : Vec Ideal S1x1x128 .f32) (j : S1x256x128.Idx) :
    k7_pay1 x w b j = mmRelu (M := 256) (K := 64) (N := 128) (φ := .bf16) (ψ := .f32) (χ := .bf16) x w b j := by
  pointwise [k7_pay1, mmRelu]
/-- Region 7's windows at step `t`: the row block `t` of the input and of the output, the whole of the others. -/
theorem idx7 : ∀ t : Fin grid7.N, win7_0.index t = ![0, t.val, 0] ∧ win7_1.index t = ![0, 0, 0] ∧
    win7_2.index t = ![0, 0, 0] ∧ win7_3.index t = ![0, t.val, 0] := by decide +kernel
/-- Region 7 leaves the whole product in its output array. -/
theorem arr7 (c : Dev nD) : (dat7 V c).arrAt 3 cfg7.N = mmRelu (M := 256) (K := 64) (N := 128) (φ := .bf16) (ψ := .f32) (χ := .bf16)
    (V c main_v200) (V c main_v201) (V c main_v203) := by
  refine (dat7 V c).arrAt_eq_of_covers 3 _ (by decide +kernel) fun t hf y => ?_
  blk_simp
  rw [after7_3]; frame_out
  rw [pay7]
  unfold mmRelu
  blk_point [iblk7, idx7 t]

/-- Region 8's payload, read at an index: the block's product. -/
theorem pay8 (x : Vec Ideal S1x256x128 .bf16) (w : Vec Ideal S1x128x1024 .bf16) (b : Vec Ideal S1x1x1024 .f32) (j : S1x256x1024.Idx) :
    k8_pay1 x w b j = mmRelu (M := 256) (K := 128) (N := 1024) (φ := .bf16) (ψ := .f32) (χ := .bf16) x w b j := by
  pointwise [k8_pay1, mmRelu]
/-- Region 8's windows at step `t`: the row block `t` of the input and of the output, the whole of the others. -/
theorem idx8 : ∀ t : Fin grid8.N, win8_0.index t = ![0, t.val, 0] ∧ win8_1.index t = ![0, 0, 0] ∧
    win8_2.index t = ![0, 0, 0] ∧ win8_3.index t = ![0, t.val, 0] := by decide +kernel
/-- Region 8 leaves the whole product in its output array. -/
theorem arr8 (c : Dev nD) : (dat8 V c).arrAt 3 cfg8.N = mmRelu (M := 256) (K := 128) (N := 1024) (φ := .bf16) (ψ := .f32) (χ := .bf16)
    (V c main_v210) (V c main_v211) (V c main_v213) := by
  refine (dat8 V c).arrAt_eq_of_covers 3 _ (by decide +kernel) fun t hf y => ?_
  blk_simp
  rw [after8_3]; frame_out
  rw [pay8]
  unfold mmRelu
  blk_point [iblk8, idx8 t]

/-- Region 9's payload, read at an index: the block's product. -/
theorem pay9 (x : Vec Ideal S1x4096x64 .bf16) (w : Vec Ideal S1x64x1024 .bf16) (b : Vec Ideal S1x1x1024 .f32) (j : S1x4096x1024.Idx) :
    k9_pay1 x w b j = mmLin (M := 4096) (K := 64) (N := 1024) (φ := .bf16) (ψ := .f32) (χ := .f32) x w b j := by
  pointwise [k9_pay1, mmLin]
/-- Region 9's windows at step `t`: the row block `t` of the input and of the output, the whole of the others. -/
theorem idx9 : ∀ t : Fin grid9.N, win9_0.index t = ![0, t.val, 0] ∧ win9_1.index t = ![0, 0, 0] ∧
    win9_2.index t = ![0, 0, 0] ∧ win9_3.index t = ![0, t.val, 0] := by decide +kernel
/-- Region 9 leaves the whole product in its output array. -/
theorem arr9 (c : Dev nD) : (dat9 V c).arrAt 3 cfg9.N = mmLin (M := 4096) (K := 64) (N := 1024) (φ := .bf16) (ψ := .f32) (χ := .f32)
    (V c main_v237) (V c main_v238) (V c main_v240) := by
  refine (dat9 V c).arrAt_eq_of_covers 3 _ (by decide +kernel) fun t hf y => ?_
  blk_simp
  rw [after9_3]; frame_out
  rw [pay9]
  unfold mmLin
  blk_point [iblk9, idx9 t]

/-- Region 10's payload, read at an index: the block's product. -/
theorem pay10 (x : Vec Ideal S1x4096x64 .bf16) (w : Vec Ideal S1x64x512 .bf16) (b : Vec Ideal S1x1x512 .f32) (j : S1x4096x512.Idx) :
    k10_pay1 x w b j = mmLin (M := 4096) (K := 64) (N := 512) (φ := .bf16) (ψ := .f32) (χ := .f32) x w b j := by
  pointwise [k10_pay1, mmLin]
/-- Region 10's windows at step `t`: the row block `t` of the input and of the output, the whole of the others. -/
theorem idx10 : ∀ t : Fin grid10.N, win10_0.index t = ![0, t.val, 0] ∧ win10_1.index t = ![0, 0, 0] ∧
    win10_2.index t = ![0, 0, 0] ∧ win10_3.index t = ![0, t.val, 0] := by decide +kernel
/-- Region 10 leaves the whole product in its output array. -/
theorem arr10 (c : Dev nD) : (dat10 V c).arrAt 3 cfg10.N = mmLin (M := 16384) (K := 64) (N := 512) (φ := .bf16) (ψ := .f32) (χ := .f32)
    (V c main_v370) (V c main_v371) (V c main_v373) := by
  refine (dat10 V c).arrAt_eq_of_covers 3 _ (by decide +kernel) fun t hf y => ?_
  blk_simp
  rw [after10_3]; frame_out
  rw [pay10]
  unfold mmLin
  blk_point [iblk10, idx10 t]

/-- Region 11's payload, read at an index: the block's product. -/
theorem pay11 (x : Vec Ideal S1x4096x32 .bf16) (w : Vec Ideal S1x32x512 .bf16) (b : Vec Ideal S1x1x512 .f32) (j : S1x4096x512.Idx) :
    k11_pay1 x w b j = mmLin (M := 4096) (K := 32) (N := 512) (φ := .bf16) (ψ := .f32) (χ := .f32) x w b j := by
  pointwise [k11_pay1, mmLin]
/-- Region 11's windows at step `t`: the row block `t` of the input and of the output, the whole of the others. -/
theorem idx11 : ∀ t : Fin grid11.N, win11_0.index t = ![0, t.val, 0] ∧ win11_1.index t = ![0, 0, 0] ∧
    win11_2.index t = ![0, 0, 0] ∧ win11_3.index t = ![0, t.val, 0] := by decide +kernel
/-- Region 11 leaves the whole product in its output array. -/
theorem arr11 (c : Dev nD) : (dat11 V c).arrAt 3 cfg11.N = mmLin (M := 65536) (K := 32) (N := 512) (φ := .bf16) (ψ := .f32) (χ := .f32)
    (V c main_v503) (V c main_v504) (V c main_v506) := by
  refine (dat11 V c).arrAt_eq_of_covers 3 _ (by decide +kernel) fun t hf y => ?_
  blk_simp
  rw [after11_3]; frame_out
  rw [pay11]
  unfold mmLin
  blk_point [iblk11, idx11 t]

/-- Region 12's payload, read at an index: the block's product. -/
theorem pay12 (x : Vec Ideal S1x4096x32 .bf16) (w : Vec Ideal S1x32x48 .bf16) (b : Vec Ideal S1x1x48 .f32) (j : S1x4096x48.Idx) :
    k12_pay1 x w b j = mmLin (M := 4096) (K := 32) (N := 48) (φ := .bf16) (ψ := .f32) (χ := .f32) x w b j := by
  pointwise [k12_pay1, mmLin]
/-- Region 12's windows at step `t`: the row block `t` of the input and of the output, the whole of the others. -/
theorem idx12 : ∀ t : Fin grid12.N, win12_0.index t = ![0, t.val, 0] ∧ win12_1.index t = ![0, 0, 0] ∧
    win12_2.index t = ![0, 0, 0] ∧ win12_3.index t = ![0, t.val, 0] := by decide +kernel
/-- Region 12 leaves the whole product in its output array. -/
theorem arr12 (c : Dev nD) : (dat12 V c).arrAt 3 cfg12.N = mmLin (M := 262144) (K := 32) (N := 48) (φ := .bf16) (ψ := .f32) (χ := .f32)
    (V c main_v636) (V c main_v637) (V c main_v639) := by
  refine (dat12 V c).arrAt_eq_of_covers 3 _ (by decide +kernel) fun t hf y => ?_
  blk_simp
  rw [after12_3]; frame_out
  rw [pay12]
  unfold mmLin
  blk_point [iblk12, idx12 t]

end Cert.KernelIdeal.Val
-- ==== Proof.VqRegion.lean ====
/-
  The nearest-neighbour launch: its scratch tables hold the squared distances, and its two results are the payloads of
  that table.
-/
module

public import proofs.«01_k».proof.Proof.VqDist

@[expose] public section

set_option maxRecDepth 16384

noncomputable section

namespace Cert.KernelIdeal.Val

open Cert.KernelIdeal Cert.KernelIdeal.Gen Cert.Vq Idealize.ShloMosaic Idealize.ShloMosaic.TcCoe Idealize.ShloMosaic.Pipeline

/-- The squared distances of a chunk of codebook rows are the table's. -/
theorem chunk_dist (z : Vec Ideal S256x64 .f32) (e : Vec Ideal S1024x64 .f32) (k : Fin k6_t1_loop.trips) (r : Fin 64) (b : Fin 256) :
    dist2 (View.ld e (Rect.unit (s := S1024x64) (k6_off1 k) S64x64.size (k6_off1_inb k))) z r b
      = distTab e z ((Rect.unit (s := S1024x256) (k6_off2 k) S64x256.size (k6_off2_inb k)).emb (ix2 r b)) := by
  have h1 := k6_off1_eq k
  have h2 := k6_off2_eq k
  unfold distTab dist2
  refine Finset.sum_congr rfl fun d _ => ?_
  have he : View.ld e (Rect.unit (s := S1024x64) (k6_off1 k) S64x64.size (k6_off1_inb k)) (ix2 r d)
      = e (ix2 ((Rect.unit (s := S1024x256) (k6_off2 k) S64x256.size (k6_off2_inb k)).emb (ix2 r b) 0) d) := by
    refine congrArg e (funext fun a => Fin.ext ?_)
    fin_cases a
    · show k6_off1 k 0 + 1 * r.val = k6_off2 k 0 + 1 * r.val
      rw [h1, h2]
    · show k6_off1 k 1 + 1 * d.val = d.val
      rw [h1]; simp
  have hz : (Rect.unit (s := S1024x256) (k6_off2 k) S64x256.size (k6_off2_inb k)).emb (ix2 r b) 1 = b := by
    apply Fin.ext
    show k6_off2 k 1 + 1 * b.val = b.val
    rw [h2]; simp
  rw [he, hz]

/-- A chunk's store into the first table is the table's block. -/
theorem trip_fst (𝒱 : Variants) (c : Dev nD) (bd : Option 𝒱.V) (arg0 : Memref sig .tc .vmem S256x64 .f32) (harg0 : arg0.IsWhole) (arg1 : Memref sig .tc .vmem S1024x64 .f32) (harg1 : arg1.IsWhole) (arg2 : Memref sig .tc .vmem S256x64 .f32) (harg2 : arg2.IsWhole) (arg3 : Memref sig .tc .vmem S1024x64 .f32) (harg3 : arg3.IsWhole) (arg4 : Memref sig .tc .vmem S1024x256 .f32) (harg4 : arg4.IsWhole) (arg5 : Memref sig .tc .vmem S1024x256 .f32) (harg5 : arg5.IsWhole) (z : Vec Ideal S256x64 .f32) (e : Vec Ideal S1024x64 .f32) (k : Fin k6_t1_loop.trips) :
    View.PiecesOf (distTab e z) (trip_k6_t1 (F := Ideal) 𝒱 c bd arg0 harg0 arg1 harg1 arg2 harg2 arg3 harg3 arg4 harg4 arg5 harg5 z (harg1.unread e) k).1 := by
  unfold trip_k6_t1
  dsimp only
  refine ⟨fun x => ?_, trivial⟩
  obtain ⟨r, b, rfl⟩ : ∃ (r : Fin 64) (b : Fin 256), x = ix2 r b := ⟨x 0, x 1, funext fun a => by fin_cases a <;> rfl⟩
  simp only [View.readAt_eq_ld, harg1.read_unread]
  exact (df_apply z _ r b).trans (chunk_dist z e k r b)

/-- A chunk's store into the second table is the table's block. -/
theorem trip_snd (𝒱 : Variants) (c : Dev nD) (bd : Option 𝒱.V) (arg0 : Memref sig .tc .vmem S256x64 .f32) (harg0 : arg0.IsWhole) (arg1 : Memref sig .tc .vmem S1024x64 .f32) (harg1 : arg1.IsWhole) (arg2 : Memref sig .tc .vmem S256x64 .f32) (harg2 : arg2.IsWhole) (arg3 : Memref sig .tc .vmem S1024x64 .f32) (harg3 : arg3.IsWhole) (arg4 : Memref sig .tc .vmem S1024x256 .f32) (harg4 : arg4.IsWhole) (arg5 : Memref sig .tc .vmem S1024x256 .f32) (harg5 : arg5.IsWhole) (z : Vec Ideal S256x64 .f32) (e : Vec Ideal S1024x64 .f32) (k : Fin k6_t1_loop.trips) :
    View.PiecesOf (distTab e z) (trip_k6_t1 (F := Ideal) 𝒱 c bd arg0 harg0 arg1 harg1 arg2 harg2 arg3 harg3 arg4 harg4 arg5 harg5 z (harg1.unread e) k).2.1 := by
  unfold trip_k6_t1
  dsimp only
  sl_unfold_words
  refine ⟨fun x => ?_, trivial⟩
  obtain ⟨r, b, rfl⟩ : ∃ (r : Fin 64) (b : Fin 256), x = ix2 r b := ⟨x 0, x 1, funext fun a => by fin_cases a <;> rfl⟩
  simp only [View.readAt_eq_ld, harg1.read_unread]
  exact (dr_apply z _ r b).trans (chunk_dist z e k r b)

/-- Blocks of one table, appended. -/
theorem piecesOf_append {s : Shape} {e : EltTy} {Val : EltTy → Type} {G : s.Idx → Val e} :
    ∀ {L L' : List (View.Piece Val s e)}, View.PiecesOf G L → View.PiecesOf G L' → View.PiecesOf G (L ++ L')
  | [], _, _, h => h
  | _ :: _, _, h, h' => ⟨h.1, piecesOf_append h.2 h'⟩

/-- Every store of the chunks so far is the table's block, in both tables. -/
theorem pb_pieces (𝒱 : Variants) (c : Dev nD) (bd : Option 𝒱.V) (arg0 : Memref sig .tc .vmem S256x64 .f32) (harg0 : arg0.IsWhole) (arg1 : Memref sig .tc .vmem S1024x64 .f32) (harg1 : arg1.IsWhole) (arg2 : Memref sig .tc .vmem S256x64 .f32) (harg2 : arg2.IsWhole) (arg3 : Memref sig .tc .vmem S1024x64 .f32) (harg3 : arg3.IsWhole) (arg4 : Memref sig .tc .vmem S1024x256 .f32) (harg4 : arg4.IsWhole) (arg5 : Memref sig .tc .vmem S1024x256 .f32) (harg5 : arg5.IsWhole) (z : Vec Ideal S256x64 .f32) (e : Vec Ideal S1024x64 .f32) :
    ∀ n, n ≤ k6_t1_loop.trips →
      View.PiecesOf (distTab e z) (pb_k6_t1 (F := Ideal) 𝒱 c bd arg0 harg0 arg1 harg1 arg2 harg2 arg3 harg3 arg4 harg4 arg5 harg5 z (harg1.unread e) n).1
        ∧ View.PiecesOf (distTab e z) (pb_k6_t1 (F := Ideal) 𝒱 c bd arg0 harg0 arg1 harg1 arg2 harg2 arg3 harg3 arg4 harg4 arg5 harg5 z (harg1.unread e) n).2
  | 0, _ => ⟨trivial, trivial⟩
  | n + 1, h => by
    have ih := pb_pieces 𝒱 c bd arg0 harg0 arg1 harg1 arg2 harg2 arg3 harg3 arg4 harg4 arg5 harg5 z e n (by omega)
    have hs := pb_k6_t1_succ (F := Ideal) 𝒱 c bd arg0 harg0 arg1 harg1 arg2 harg2 arg3 harg3 arg4 harg4 arg5 harg5 z (harg1.unread e) ⟨n, h⟩
    dsimp only at hs
    rw [hs]
    exact ⟨piecesOf_append (trip_fst 𝒱 c bd arg0 harg0 arg1 harg1 arg2 harg2 arg3 harg3 arg4 harg4 arg5 harg5 z e ⟨n, h⟩) ih.1, piecesOf_append (trip_snd 𝒱 c bd arg0 harg0 arg1 harg1 arg2 harg2 arg3 harg3 arg4 harg4 arg5 harg5 z e ⟨n, h⟩) ih.2⟩

/-- The two starting offsets are zero. -/
theorem off_zero : (![0, 0] : Fin 2 → Nat) = fun _ => 0 := funext fun a => by fin_cases a <;> rfl

/-- The second table, loaded after all chunks. -/
theorem read_snd (𝒱 : Variants) (c : Dev nD) (bd : Option 𝒱.V) (arg0 : Memref sig .tc .vmem S256x64 .f32) (harg0 : arg0.IsWhole) (arg1 : Memref sig .tc .vmem S1024x64 .f32) (harg1 : arg1.IsWhole) (arg2 : Memref sig .tc .vmem S256x64 .f32) (harg2 : arg2.IsWhole) (arg3 : Memref sig .tc .vmem S1024x64 .f32) (harg3 : arg3.IsWhole) (arg4 : Memref sig .tc .vmem S1024x256 .f32) (harg4 : arg4.IsWhole) (arg5 : Memref sig .tc .vmem S1024x256 .f32) (harg5 : arg5.IsWhole) (z : Vec Ideal S256x64 .f32) (e : Vec Ideal S1024x64 .f32) (v : View sig .tc .vmem S1024x256 .f32)
    (inb : ∀ a, (![0, 0] : Fin 2 → Nat) a + S1024x256.size a ≤ S1024x256.size a) :
    v.readCov (pb_k6_t1 (F := Ideal) 𝒱 c bd arg0 harg0 arg1 harg1 arg2 harg2 arg3 harg3 arg4 harg4 arg5 harg5 z (harg1.unread e) k6_t1_loop.trips).2 (Rect.unit (s := S1024x256) ![0, 0] S1024x256.size inb).toLoadRect
      = distTab e z := by
  have hc : ∀ y, ∃ p ∈ (pb_k6_t1 (F := Ideal) 𝒱 c bd arg0 harg0 arg1 harg1 arg2 harg2 arg3 harg3 arg4 harg4 arg5 harg5 z (harg1.unread e) k6_t1_loop.trips).2, y ∈ p.1.set := fun y =>
    View.cover_of_tiledL (s := S1024x256) _ ![64, 256] (by sl_kernel_rfl) y
  rw [View.readCov_eq_canon_ld _ _ _ hc, View.ld_unit_zero off_zero]
  exact funext fun y => View.canon_apply_of_pieces _ _ (pb_pieces 𝒱 c bd arg0 harg0 arg1 harg1 arg2 harg2 arg3 harg3 arg4 harg4 arg5 harg5 z e _ le_rfl).2.mem y (hc y)

/-- The first table, loaded after all chunks. -/
theorem read_fst (𝒱 : Variants) (c : Dev nD) (bd : Option 𝒱.V) (arg0 : Memref sig .tc .vmem S256x64 .f32) (harg0 : arg0.IsWhole) (arg1 : Memref sig .tc .vmem S1024x64 .f32) (harg1 : arg1.IsWhole) (arg2 : Memref sig .tc .vmem S256x64 .f32) (harg2 : arg2.IsWhole) (arg3 : Memref sig .tc .vmem S1024x64 .f32) (harg3 : arg3.IsWhole) (arg4 : Memref sig .tc .vmem S1024x256 .f32) (harg4 : arg4.IsWhole) (arg5 : Memref sig .tc .vmem S1024x256 .f32) (harg5 : arg5.IsWhole) (z : Vec Ideal S256x64 .f32) (e : Vec Ideal S1024x64 .f32) (v : View sig .tc .vmem S1024x256 .f32)
    (inb : ∀ a, (![0, 0] : Fin 2 → Nat) a + S1024x256.size a ≤ S1024x256.size a) :
    v.readCov (pb_k6_t1 (F := Ideal) 𝒱 c bd arg0 harg0 arg1 harg1 arg2 harg2 arg3 harg3 arg4 harg4 arg5 harg5 z (harg1.unread e) k6_t1_loop.trips).1 (Rect.unit (s := S1024x256) ![0, 0] S1024x256.size inb).toLoadRect
      = distTab e z := by
  have hc : ∀ y, ∃ p ∈ (pb_k6_t1 (F := Ideal) 𝒱 c bd arg0 harg0 arg1 harg1 arg2 harg2 arg3 harg3 arg4 harg4 arg5 harg5 z (harg1.unread e) k6_t1_loop.trips).1, y ∈ p.1.set := fun y =>
    View.cover_of_tiledL (s := S1024x256) _ ![64, 256] (by sl_kernel_rfl) y
  rw [View.readCov_eq_canon_ld _ _ _ hc, View.ld_unit_zero off_zero]
  exact funext fun y => View.canon_apply_of_pieces _ _ (pb_pieces 𝒱 c bd arg0 harg0 arg1 harg1 arg2 harg2 arg3 harg3 arg4 harg4 arg5 harg5 z e _ le_rfl).1.mem y (hc y)

/-- The launch's first result over whole buffers. -/
theorem out6_2 (c : Dev nD) (arg0 : Memref sig .tc .vmem S256x64 .f32) (harg0 : arg0.IsWhole) (arg1 : Memref sig .tc .vmem S1024x64 .f32) (harg1 : arg1.IsWhole) (arg2 : Memref sig .tc .vmem S256x64 .f32) (harg2 : arg2.IsWhole) (arg3 : Memref sig .tc .vmem S1024x64 .f32) (harg3 : arg3.IsWhole) (arg4 : Memref sig .tc .vmem S1024x256 .f32) (harg4 : arg4.IsWhole) (arg5 : Memref sig .tc .vmem S1024x256 .f32) (harg5 : arg5.IsWhole) (z : Vec Ideal S256x64 .f32) (e : Vec Ideal S1024x64 .f32) :
    out6_A_2 (F := Ideal) c arg0 harg0 arg1 harg1 arg2 harg2 arg3 harg3 arg4 harg4 arg5 harg5 z e = k6_pay1 (k6_pay11 (distTab e z)) e := by
  unfold out6_A_2
  rw [View.read_writes_eq_canon _ _ _ (cover6_A_2 c arg0 harg0 arg1 harg1 arg2 harg2 arg3 harg3 arg4 harg4 arg5 harg5 z e)]
  unfold kernelRun6_A
  dsimp only
  sl_unfold_words
  rw [View.canon_cons_unit_zero (S := S256x64) off_zero]
  simp only [View.readAt_eq_ld, harg0.read_unread, harg1.read_unread]
  rw [View.ld_unit_zero (S := S256x64) off_zero, View.ld_unit_zero (S := S1024x64) off_zero]
  exact congrArg (fun q => k6_pay1 (k6_pay11 q) e) (read_fst Variants.none c none arg0 harg0 arg1 harg1 arg2 harg2 arg3 harg3 arg4 harg4 arg5 harg5 z e _ _)

/-- The launch's second result over whole buffers. -/
theorem out6_3 (c : Dev nD) (arg0 : Memref sig .tc .vmem S256x64 .f32) (harg0 : arg0.IsWhole) (arg1 : Memref sig .tc .vmem S1024x64 .f32) (harg1 : arg1.IsWhole) (arg2 : Memref sig .tc .vmem S256x64 .f32) (harg2 : arg2.IsWhole) (arg3 : Memref sig .tc .vmem S1024x64 .f32) (harg3 : arg3.IsWhole) (arg4 : Memref sig .tc .vmem S1024x256 .f32) (harg4 : arg4.IsWhole) (arg5 : Memref sig .tc .vmem S1024x256 .f32) (harg5 : arg5.IsWhole) (z : Vec Ideal S256x64 .f32) (e : Vec Ideal S1024x64 .f32) :
    out6_A_3 (F := Ideal) c arg0 harg0 arg1 harg1 arg2 harg2 arg3 harg3 arg4 harg4 arg5 harg5 z e = k6_pay10 z (distTab e z) := by
  unfold out6_A_3
  rw [View.read_writes_eq_canon _ _ _ (cover6_A_3 c arg0 harg0 arg1 harg1 arg2 harg2 arg3 harg3 arg4 harg4 arg5 harg5 z e)]
  unfold kernelRun6_A
  dsimp only
  rw [View.canon_cons_unit_zero (S := S1024x64) off_zero]
  simp only [View.readAt_eq_ld, harg0.read_unread]
  rw [View.ld_unit_zero (S := S256x64) off_zero]
  exact congrArg (fun q => k6_pay10 z q) (read_snd Variants.none c none arg0 harg0 arg1 harg1 arg2 harg2 arg3 harg3 arg4 harg4 arg5 harg5 z e _ _)

variable (V : (c : Dev nD) → (b : Ref sig .tc) → Buf (Elt Ideal) ((c : Thread nD τ).loc b))

/-- Every window of the launch stays at its first block. -/
theorem idx6 : ∀ t : Fin grid6.N, win6_0.index t = ![0, 0] ∧ win6_1.index t = ![0, 0] ∧ win6_2.index t = ![0, 0] ∧ win6_3.index t = ![0, 0] := by decide +kernel

/-- The encodings' block is the whole array. -/
theorem iblk6_0 (c : Dev nD) (t : Fin cfg6.N) : iblk6 V c 0 t = V c main_v194 := by
  funext y
  blk_point [iblk6, idx6 t]

/-- The codebook's block is the whole array. -/
theorem iblk6_1 (c : Dev nD) (t : Fin cfg6.N) : iblk6 V c 1 t = V c main_arg13 := by
  funext y
  blk_point [iblk6, idx6 t]

/-- The launch's first result: the codebook rows nearest to the encodings. -/
theorem arr6_2 (c : Dev nD) : (dat6 V c).arrAt 2 cfg6.N = k6_pay1 (k6_pay11 (distTab (V c main_arg13) (V c main_v194))) (V c main_arg13) := by
  refine (dat6 V c).arrAt_eq_of_covers 2 _ (by decide +kernel) fun t hf y => ?_
  blk_simp
  rw [after6_2]
  unfold outsAt6
  dsimp only
  rw [out6_2, iblk6_0, iblk6_1]
  generalize k6_pay1 (k6_pay11 (distTab (V c main_arg13) (V c main_v194))) (V c main_arg13) = G
  blk_point [idx6 t]

/-- The launch's second result: the encodings nearest to the codebook rows. -/
theorem arr6_3 (c : Dev nD) : (dat6 V c).arrAt 3 cfg6.N = k6_pay10 (V c main_v194) (distTab (V c main_arg13) (V c main_v194)) := by
  refine (dat6 V c).arrAt_eq_of_covers 3 _ (by decide +kernel) fun t hf y => ?_
  blk_simp
  rw [after6_3]
  unfold outsAt6
  dsimp only
  rw [out6_3, iblk6_0, iblk6_1]
  generalize k6_pay10 (V c main_v194) (distTab (V c main_arg13) (V c main_v194)) = G
  blk_point [idx6 t]

end Cert.KernelIdeal.Val
-- ==== Proof.KerVq.lean ====
/-
  The kernel's two nearest vector results, and the decoder's first two layers.
-/
module

public import proofs.«01_k».proof.Proof.KerTail
public import proofs.«01_k».proof.Proof.RegB
public import proofs.«01_k».proof.Proof.VqRegion
public import proofs.«01_k».proof.Proof.VqMath

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.Vq

variable (m : (ℓ : Loc nD τ sig) → Buf (Elt Ideal) ℓ) (ρ : Dev nD → PrngReg) (c : Dev nD)

/-- The codes nearest to the encoder's vectors, in the kernel. -/
theorem ker6_2 (Z : (⟨2, ![256, 64]⟩ : Shape).Idx → EReal) (hZ : W20 m ρ c (Proc.devRef .tc main_v194) = Z) (r : Fin 256) (d : Fin 64) (k : Fin 1024)
    (h : IsFirstMin (fun b : Fin 1024 => Ideal.sqrt (dist2 (m ((c : Thread nD τ).loc main_arg13)) Z b r)) k) :
    (W21 m ρ c (Proc.devRef .tc main_v195_0) : (⟨2, ![256, 64]⟩ : Shape).Idx → EReal) (ix2 r d)
      = (m ((c : Thread nD τ).loc main_arg13) : (⟨2, ![1024, 64]⟩ : Shape).Idx → EReal) (ix2 k d) := by
  have he : V20 m ρ c main_arg13 = m ((c : Thread nD τ).loc main_arg13) := W20_args m ρ c main_arg13 (by simp [argRefs])
  have hz : V20 m ρ c main_v194 = Z := hZ
  refine (congrFun ((W21_arr m ρ c 2).trans (arr6_2 (V20 m ρ) c)) (ix2 r d)).trans ?_
  rw [he, hz]
  exact pay1_apply _ _ r d k h

/-- The encoder's vectors nearest to the codes, in the kernel. -/
theorem ker6_3 (Z : (⟨2, ![256, 64]⟩ : Shape).Idx → EReal) (hZ : W20 m ρ c (Proc.devRef .tc main_v194) = Z) (r : Fin 1024) (d : Fin 64) (k : Fin 256)
    (h : IsFirstMin (fun b : Fin 256 => Ideal.sqrt (dist2 (m ((c : Thread nD τ).loc main_arg13)) Z r b)) k) :
    (W21 m ρ c (Proc.devRef .tc main_v195_1) : (⟨2, ![1024, 64]⟩ : Shape).Idx → EReal) (ix2 r d) = Z (ix2 k d) := by
  have he : V20 m ρ c main_arg13 = m ((c : Thread nD τ).loc main_arg13) := W20_args m ρ c main_arg13 (by simp [argRefs])
  have hz : V20 m ρ c main_v194 = Z := hZ
  refine (congrFun ((W21_arr m ρ c 3).trans (arr6_3 (V20 m ρ) c)) (ix2 r d)).trans ?_
  rw [he, hz]
  exact pay10_apply _ _ r d k h

/-- The decoder's first layer in the kernel. -/
theorem ker7 (Y : (⟨2, ![256, 64]⟩ : Shape).Idx → EReal) (hY : W21 m ρ c (Proc.devRef .tc main_v195_0) = Y) (b : Fin 256) (o : Fin 128) :
    (W23 m ρ c (Proc.devRef .tc main_v204) : Map3 1 256 128) (ix3 0 b o)
      = decHead Y (m ((c : Thread nD τ).loc main_arg14) : Map4 128 64 1 1) (m ((c : Thread nD τ).loc main_arg15) : Map1 128) (ix2 b o) := by
  refine (congrFun ((W23_arr m ρ c 3).trans (arr7 (V22 m ρ) c)) (ix3 0 b o)).trans ?_
  refine congrArg₂ (fun s t : EReal => max (s + t) 0) (Finset.sum_congr rfl fun k _ => congrArg₂ (fun s t : EReal => s * t) ?_ ?_) ?_
  · show (W22 m ρ c (Proc.devRef .tc main_v200) : Map3 1 256 64) (ix3 0 b k) = _
    after_reads_simp
    pointwise []
    exact congrFun hY _
  · show (W22 m ρ c (Proc.devRef .tc main_v201) : Map3 1 64 128) (ix3 0 k o) = _
    after_reads_simp
    pointwise []
    exact congrFun (W21_args m ρ c main_arg14 (by simp [argRefs])) _
  · show (W22 m ρ c (Proc.devRef .tc main_v203) : Map3 1 1 128) (ix3 0 0 o) = _
    after_reads_simp
    pointwise []
    exact congrFun (W21_args m ρ c main_arg15 (by simp [argRefs])) _

/-- The decoder's second layer in the kernel. -/
theorem ker8 (Y : (⟨2, ![256, 128]⟩ : Shape).Idx → EReal)
    (hY : ∀ (b : Fin 256) (o : Fin 128), (W23 m ρ c (Proc.devRef .tc main_v204) : Map3 1 256 128) (ix3 0 b o) = Y (ix2 b o))
    (b : Fin 256) (o : Fin 64) (y x : Fin 4) (q : Fin 1024) (hq : q.val = (o.val * 4 + y.val) * 4 + x.val) :
    (W25 m ρ c (Proc.devRef .tc main_v214) : Map3 1 256 1024) (ix3 0 b q)
      = decSpread Y (m ((c : Thread nD τ).loc main_arg16) : Map4 128 64 4 4) (m ((c : Thread nD τ).loc main_arg17) : Map1 64) (ix4 b o y x) := by
  have ho := o.isLt
  have hy := y.isLt
  have hx := x.isLt
  refine (congrFun ((W25_arr m ρ c 3).trans (arr8 (V24 m ρ) c)) (ix3 0 b q)).trans ?_
  refine congrArg₂ (fun s t : EReal => max (s + t) 0) (Finset.sum_congr rfl fun k _ => congrArg₂ (fun s t : EReal => s * t) ?_ ?_) ?_
  · show (W24 m ρ c (Proc.devRef .tc main_v210) : Map3 1 256 128) (ix3 0 b k) = _
    after_reads_simp
    pointwise []
    exact hY b k
  · show (W24 m ρ c (Proc.devRef .tc main_v211) : Map3 1 128 1024) (ix3 0 k q) = _
    after_reads_simp
    refine (unit_axis _ _ k q).trans ((shapeCast_apply _ _ _ (ix4 k o y x) ?_).trans (congrFun (W23_args m ρ c main_arg16 (by simp [argRefs])) _))
    show _ = ((⟨2, ![128, 1024]⟩ : Shape).rowMajor (ix2 k q)).val
    rw [Shape.rowMajor_val_two]
    refine (Shape.rowMajor_val_four _).trans ?_
    show ((k.val * 64 + o.val) * 4 + y.val) * 4 + x.val = k.val * 1024 + q.val
    omega
  · show (W24 m ρ c (Proc.devRef .tc main_v213) : Map3 1 1 1024) (ix3 0 0 q) = _
    after_reads_simp
    have hqo : (⟨q.val / 16, by omega⟩ : Fin 64) = o := Fin.ext (by show q.val / 16 = o.val; omega)
    pointwise []
    rw [hqo]
    exact congrFun (W23_args m ρ c main_arg17 (by simp [argRefs])) _

end Cert.KernelIdeal.Val
-- ==== Proof.DecTaps.lean ====
/-
  The kernel's decoder on the host: a matrix product gives every place's contribution to its neighbours, shifted
  reads of it are summed for each parity of the result's place, and the four parities are woven into one map.
-/
module

public import proofs.«01_k».proof.Proof.Taps
public import proofs.«01_k».proof.Proof.Gathers
public import proofs.«01_k».proof.Proof.RefRest
public import Idealize.ShloMosaic.Lib.ValueIdxRank6

@[expose] public section

set_option maxRecDepth 16384

noncomputable section

namespace Cert.Vq

open Idealize.ShloMosaic

variable {B C O H W P Q M N : ℕ}

/-- The order in which the kernel takes a transposed convolution's rows and columns. -/
def order4 : Fin 4 → Fin 4 := ![3, 1, 2, 0]

/-- A matrix holding, at each place and each pair of kernel row and column, that place's contribution. -/
def IsTaps (v : Map3 1 M N) (X : Map4 B C H W) (w : Map4 C O 4 4) : Prop :=
  ∀ (b : Fin B) (y : Fin H) (x : Fin W) (r : Fin M) (cy cx : Fin 4) (o : Fin O) (q : Fin N),
    r.val = (b.val * H + y.val) * W + x.val → q.val = (cy.val * 4 + cx.val) * O + o.val →
    v (ix3 0 r q) = ∑ c : Fin C, X (ix4 b c y x) * w (ix4 c o (order4 cy) (order4 cx))

/-- A matrix product with no bias of a map's rows and reordered kernels holds the contributions. -/
theorem taps_of_mm {φ ψ χ : FTy} (X : Map4 B C H W) (w : Map4 C O 4 4)
    (x0 : FVec Ideal ⟨3, ![1, M, C]⟩ φ) (w0 : FVec Ideal ⟨3, ![1, C, N]⟩ φ) (b0 : FVec Ideal ⟨3, ![1, 1, N]⟩ ψ)
    (hx : IsRows x0 X)
    (hw : ∀ (c : Fin C) (q : Fin N) (cy cx : Fin 4) (o : Fin O), q.val = (cy.val * 4 + cx.val) * O + o.val →
      w0 (ix3 0 c q) = w (ix4 c o (order4 cy) (order4 cx)))
    (hb : ∀ q : Fin N, b0 (ix3 0 0 q) = 0) : IsTaps (mmLin (χ := χ) x0 w0 b0) X w := by
  intro b y x r cy cx o q hr hq
  refine (congrArg₂ (fun s t : EReal => s + t) (Finset.sum_congr rfl fun c _ => ?_) (hb q)).trans (add_zero _)
  exact congrArg₂ (fun s t : EReal => s * t) (hx b c y x r hr) (hw c q cy cx o hq)

/-- A place in a product of two ranges. -/
theorem place_lt {a A d D : ℕ} (ha : a < A) (hd : d < D) : a * D + d < A * D :=
  calc a * D + d < a * D + D := by omega
    _ = (a + 1) * D := by ring
    _ ≤ A * D := Nat.mul_le_mul_right _ ha

/-- One shifted read of the contributions. -/
theorem shift_apply {Hp Wp : ℕ} (v : Map3 1 M N) (X : Map4 B C H W) (w : Map4 C O 4 4) (hv : IsTaps v X w) (hM : M = B * H * W) (hN : N = 16 * O)
    (h1 : (⟨3, ![1, M, N]⟩ : Shape).ShapeCasts ⟨2, ![M, N]⟩) (h2 : (⟨2, ![M, N]⟩ : Shape).ShapeCasts ⟨6, ![B, H, W, 4, 4, O]⟩)
    (cy cx dy dx : ℕ) (hcy : cy < 4) (hcx : cx < 4)
    (hs1 : (⟨6, ![B, H, W, 4, 4, O]⟩ : Shape).Slices ![0, 0, 0, cy, cx, 0] ⟨6, ![B, H, W, 1, 1, O]⟩)
    (h3 : (⟨6, ![B, H, W, 1, 1, O]⟩ : Shape).ShapeCasts ⟨4, ![B, H, W, O]⟩)
    {u : Shape} (z : u.Idx → EReal)
    (hp : (⟨4, ![B, H, W, O]⟩ : Shape).Pads ![0, 1, 1, 0] ![0, 1, 1, 0] ![0, 0, 0, 0] ⟨4, ![B, Hp, Wp, O]⟩) (hu : 0 < u.numel) (hz : ∀ i, z i = 0)
    (hs2 : (⟨4, ![B, Hp, Wp, O]⟩ : Shape).Slices ![0, dy, dx, 0] ⟨4, ![B, H, W, O]⟩)
    (b : Fin B) (i : Fin H) (j : Fin W) (o : Fin O) :
    extractStridedSlice ⟨4, ![B, H, W, O]⟩ ![0, dy, dx, 0]
      (pad ⟨4, ![B, Hp, Wp, O]⟩ ![0, 1, 1, 0] ![0, 1, 1, 0] ![0, 0, 0, 0]
        (shapeCast ⟨4, ![B, H, W, O]⟩ (extractStridedSlice ⟨6, ![B, H, W, 1, 1, O]⟩ ![0, 0, 0, cy, cx, 0]
          (shapeCast ⟨6, ![B, H, W, 4, 4, O]⟩ (shapeCast ⟨2, ![M, N]⟩ v h1) h2) hs1) h3) z hp hu) hs2 (ix4 b i j o)
      = padRd (fun y x => ∑ c : Fin C, X (ix4 b c y x) * w (ix4 c o (order4 ⟨cy, hcy⟩) (order4 ⟨cx, hcx⟩))) (i.val + dy) (j.val + dx) := by
  have e1 : dy + i.val < Hp := by
    have hl : dy + H ≤ Hp := hs2.2 1
    have := i.isLt; omega
  have e2 : dx + j.val < Wp := by
    have hl : dx + W ≤ Wp := hs2.2 2
    have := j.isLt; omega
  refine (extractStridedSlice_apply _ _ _ _ (ix4 b ⟨dy + i.val, e1⟩ ⟨dx + j.val, e2⟩ o) fun a => ?_).trans ?_
  · fin_cases a
    · show b.val = 0 + b.val; omega
    · rfl
    · rfl
    · show o.val = 0 + o.val; omega
  rw [pad_nhwc _ z hp hu hz, Nat.add_comm i.val, Nat.add_comm j.val]
  refine congrArg (fun f => padRd f (dy + i.val) (dx + j.val)) (funext fun y => funext fun x => ?_)
  subst hM hN
  have hq : (cy * 4 + cx) * O + o.val < 16 * O := place_lt (by omega) o.isLt
  refine (shapeCast_apply _ _ _ (ix6 b y x 0 0 o) ?_).trans
    ((extractStridedSlice_apply _ _ _ _ (ix6 b y x ⟨cy, hcy⟩ ⟨cx, hcx⟩ o) fun a => ?_).trans
    ((shapeCast_apply _ _ _ (ix2 ⟨(b.val * H + y.val) * W + x.val, place_lt (place_lt b.isLt y.isLt) x.isLt⟩ ⟨(cy * 4 + cx) * O + o.val, hq⟩) ?_).trans
    ((shapeCast_apply _ _ _ (ix3 0 ⟨(b.val * H + y.val) * W + x.val, place_lt (place_lt b.isLt y.isLt) x.isLt⟩ ⟨(cy * 4 + cx) * O + o.val, hq⟩) ?_).trans
    (hv b y x _ ⟨cy, hcy⟩ ⟨cx, hcx⟩ o _ rfl rfl))))
  · rw [Shape.rowMajor_val_four, Shape.rowMajor_val_six]
    show ((((b.val * H + y.val) * W + x.val) * 1 + 0) * 1 + 0) * O + o.val = ((b.val * H + y.val) * W + x.val) * O + o.val
    ring
  · fin_cases a
    · show b.val = 0 + b.val; omega
    · show y.val = 0 + y.val; omega
    · show x.val = 0 + x.val; omega
    · rfl
    · rfl
    · show o.val = 0 + o.val; omega
  · rw [Shape.rowMajor_val_two, Shape.rowMajor_val_six]
    show ((b.val * H + y.val) * W + x.val) * (16 * O) + ((cy * 4 + cx) * O + o.val) = ((((b.val * H + y.val) * W + x.val) * 4 + cy) * 4 + cx) * O + o.val
    ring
  · rw [Shape.rowMajor_val_two, Shape.rowMajor_val_three]
    show (0 * (B * H * W) + ((b.val * H + y.val) * W + x.val)) * (16 * O) + ((cy * 4 + cx) * O + o.val) = ((b.val * H + y.val) * W + x.val) * (16 * O) + ((cy * 4 + cx) * O + o.val)
    ring

/-- A shifted read of the contributions is one term of the transposed convolution. -/
theorem tap_term (X : Map4 B C H W) (w : Map4 C O 4 4) (b : Fin B) (o : Fin O) (i j : ℕ) (py px sy sx : Fin 2) (ky kx : Fin 4) (dy dx : ℕ)
    (hy : ky.val = 3 - py.val - 2 * sy.val) (hx : kx.val = 3 - px.val - 2 * sx.val) (hdy : dy = py.val + sy.val) (hdx : dx = px.val + sx.val) :
    padRd (fun y x => ∑ c : Fin C, X (ix4 b c y x) * w (ix4 c o ky kx)) (i + dy) (j + dx) = tapT X w b o i j py px sy sx := by
  subst hdy hdx
  unfold tapT
  rw [padRd_sum, ← Nat.add_assoc, ← Nat.add_assoc]
  refine Finset.sum_congr rfl fun c _ => ?_
  rw [padRd_mul]
  exact congrArg₂ (fun k l => padRd (fun y x => X (ix4 b c y x)) (i + py.val + sy.val) (j + px.val + sx.val) * w (ix4 c o k l)) (Fin.ext hy) (Fin.ext hx)

/-- The concatenation of four arrays along their unit axis, read at piece `t`. -/
theorem concat4 (x0 x1 x2 x3 : Map5 1 B P Q C) (h) (T : Fin 4 → EReal) (t : Fin 4) (b : Fin B) (i : Fin P) (j : Fin Q) (c : Fin C)
    (h0 : x0 (ix5 0 b i j c) = T 0) (h1 : x1 (ix5 0 b i j c) = T 1) (h2 : x2 (ix5 0 b i j c) = T 2) (h3 : x3 (ix5 0 b i j c) = T 3) :
    concatenate ⟨5, ![4, B, P, Q, C]⟩ 0 [⟨⟨5, ![1, B, P, Q, C]⟩, x0⟩, ⟨⟨5, ![1, B, P, Q, C]⟩, x1⟩, ⟨⟨5, ![1, B, P, Q, C]⟩, x2⟩,
      ⟨⟨5, ![1, B, P, Q, C]⟩, x3⟩] h (ix5 t b i j c) = T t := by
  have pc (k : ℕ) (hk : k < 4) (x : Map5 1 B P Q C) (hx : x (ix5 0 b i j c) = T ⟨k, hk⟩) :
      PieceAt (t := ⟨5, ![4, B, P, Q, C]⟩) 0 (ix5 t b i j c) (T t) ⟨5, ![1, B, P, Q, C]⟩ x k := by
    intro ht hr i' h0 hoff
    have e : i' = ix5 0 b i j c := by
      funext a
      fin_cases a
      · exact Fin.ext h0
      · exact Fin.ext (hoff 1 (show (1 : Fin 5) ≠ 0 by decide))
      · exact Fin.ext (hoff 2 (show (2 : Fin 5) ≠ 0 by decide))
      · exact Fin.ext (hoff 3 (show (3 : Fin 5) ≠ 0 by decide))
      · exact Fin.ext (hoff 4 (show (4 : Fin 5) ≠ 0 by decide))
    rw [e, hx]
    exact congrArg T (Fin.ext (Eq.symm ht))
  refine concatenate_unit_eq _ _ h _ _ (decide_eq_true fun s hs => ?_)
    ⟨pc 0 (by omega) _ h0, pc 1 (by omega) _ h1, pc 2 (by omega) _ h2, pc 3 (by omega) _ h3, trivial⟩
  have hs' : s = ⟨5, ![1, B, P, Q, C]⟩ := by
    simp only [List.map_cons, List.map_nil, List.mem_cons, List.not_mem_nil, or_false, or_self] at hs
    exact hs
  subst hs'
  rfl

/-- The four parities woven into one map. -/
theorem weave_apply (x0 x1 x2 x3 : Map5 1 B H W O) (h)
    (h1 : (⟨5, ![4, B, H, W, O]⟩ : Shape).ShapeCasts ⟨3, ![4, M, O]⟩) (h2 : (⟨3, ![4, M, O]⟩ : Shape).ShapeCasts ⟨6, ![2, 2, B, H, W, O]⟩)
    (ht : (⟨6, ![2, 2, B, H, W, O]⟩ : Shape).Transposes [2, 5, 3, 0, 4, 1] ⟨6, ![B, O, H, 2, W, 2]⟩)
    (h3 : (⟨6, ![B, O, H, 2, W, 2]⟩ : Shape).ShapeCasts ⟨4, ![B, O, P, Q]⟩) (hP : P = H * 2) (hQ : Q = W * 2) (hM : M = B * H * W)
    (F : Map4 B O P Q) (b : Fin B) (o : Fin O) (y : Fin P) (x : Fin Q)
    (h00 : ∀ (i : Fin H) (j : Fin W) (y : Fin P) (x : Fin Q), y.val = 2 * i.val + (0 : Fin 2).val → x.val = 2 * j.val + (0 : Fin 2).val → x0 (ix5 0 b i j o) = F (ix4 b o y x))
    (h01 : ∀ (i : Fin H) (j : Fin W) (y : Fin P) (x : Fin Q), y.val = 2 * i.val + (0 : Fin 2).val → x.val = 2 * j.val + (1 : Fin 2).val → x1 (ix5 0 b i j o) = F (ix4 b o y x))
    (h10 : ∀ (i : Fin H) (j : Fin W) (y : Fin P) (x : Fin Q), y.val = 2 * i.val + (1 : Fin 2).val → x.val = 2 * j.val + (0 : Fin 2).val → x2 (ix5 0 b i j o) = F (ix4 b o y x))
    (h11 : ∀ (i : Fin H) (j : Fin W) (y : Fin P) (x : Fin Q), y.val = 2 * i.val + (1 : Fin 2).val → x.val = 2 * j.val + (1 : Fin 2).val → x3 (ix5 0 b i j o) = F (ix4 b o y x)) :
    shapeCast ⟨4, ![B, O, P, Q]⟩ (transpose ⟨6, ![B, O, H, 2, W, 2]⟩ [2, 5, 3, 0, 4, 1]
      (shapeCast ⟨6, ![2, 2, B, H, W, O]⟩ (shapeCast ⟨3, ![4, M, O]⟩
        (concatenate ⟨5, ![4, B, H, W, O]⟩ 0 [⟨⟨5, ![1, B, H, W, O]⟩, x0⟩, ⟨⟨5, ![1, B, H, W, O]⟩, x1⟩, ⟨⟨5, ![1, B, H, W, O]⟩, x2⟩,
          ⟨⟨5, ![1, B, H, W, O]⟩, x3⟩] h) h1) h2) ht) h3 (ix4 b o y x) = F (ix4 b o y x) := by
  subst hP hQ hM
  have hy := y.isLt
  have hx := x.isLt
  have ey : y.val = 2 * (y.val / 2) + y.val % 2 := by omega
  have ex : x.val = 2 * (x.val / 2) + x.val % 2 := by omega
  let i : Fin H := ⟨y.val / 2, by omega⟩
  let j : Fin W := ⟨x.val / 2, by omega⟩
  let py : Fin 2 := ⟨y.val % 2, by omega⟩
  let px : Fin 2 := ⟨x.val % 2, by omega⟩
  let t : Fin 4 := ⟨py.val * 2 + px.val, by omega⟩
  have eb : (b.val * H + i.val) * W + j.val < B * H * W := place_lt (place_lt b.isLt i.isLt) j.isLt
  refine (shapeCast_apply _ _ _ (ix6 b o i py j px) ?_).trans
    ((transpose_apply _ _ _ _ (ix6 py px b i j o) fun a => by fin_cases a <;> rfl).trans
    ((shapeCast_apply _ _ _ (ix3 t ⟨(b.val * H + i.val) * W + j.val, eb⟩ o) ?_).trans
    ((shapeCast_apply _ _ _ (ix5 t b i j o) ?_).trans
    ((concat4 x0 x1 x2 x3 h (fun s => ![x0, x1, x2, x3] s (ix5 0 b i j o)) t b i j o rfl rfl rfl rfl).trans ?_))))
  · rw [Shape.rowMajor_val_four, Shape.rowMajor_val_six]
    show ((((b.val * O + o.val) * H + y.val / 2) * 2 + y.val % 2) * W + x.val / 2) * 2 + x.val % 2 = ((b.val * O + o.val) * (H * 2) + y.val) * (W * 2) + x.val
    generalize y.val / 2 = a at ey
    generalize y.val % 2 = d at ey
    generalize x.val / 2 = e at ex
    generalize x.val % 2 = f at ex
    rw [ey, ex]; ring
  · rw [Shape.rowMajor_val_three, Shape.rowMajor_val_six]
    show ((py.val * 2 + px.val) * (B * H * W) + ((b.val * H + i.val) * W + j.val)) * O + o.val = ((((py.val * 2 + px.val) * B + b.val) * H + i.val) * W + j.val) * O + o.val
    ring
  · rw [Shape.rowMajor_val_three, Shape.rowMajor_val_five]
    show (((t.val * B + b.val) * H + i.val) * W + j.val) * O + o.val = (t.val * (B * H * W) + ((b.val * H + i.val) * W + j.val)) * O + o.val
    ring
  · have key (p q : Fin 2) (hp : y.val = 2 * i.val + p.val) (hq : x.val = 2 * j.val + q.val) (hh : p.val * 2 + q.val < 4) :
        (![x0, x1, x2, x3] : Fin 4 → Map5 1 B H W O) ⟨p.val * 2 + q.val, hh⟩ (ix5 0 b i j o) = F (ix4 b o y x) := by
      fin_cases p <;> fin_cases q
      · exact h00 i j y x hp hq
      · exact h01 i j y x hp hq
      · exact h10 i j y x hp hq
      · exact h11 i j y x hp hq
    exact key py px ey ex _

/-- An array under a unit axis in front. -/
theorem lead_axis {α : Type} (z : (⟨4, ![B, H, W, O]⟩ : Shape).Idx → α) (hb : (⟨4, ![B, H, W, O]⟩ : Shape).BroadcastsInDim ⟨5, ![1, B, H, W, O]⟩ ![1, 2, 3, 4])
    (b : Fin B) (i : Fin H) (j : Fin W) (o : Fin O) : broadcastInDim ⟨5, ![1, B, H, W, O]⟩ ![1, 2, 3, 4] hb z (ix5 0 b i j o) = z (ix4 b i j o) := by
  refine broadcastInDim_apply _ _ _ _ (ix4 b i j o) fun a => ?_
  have hb' := b.isLt
  have hi := i.isLt
  have hj := j.isLt
  have ho := o.isLt
  fin_cases a
  · show b.val = if B = 1 then 0 else b.val
    split_ifs <;> omega
  · show i.val = if H = 1 then 0 else i.val
    split_ifs <;> omega
  · show j.val = if W = 1 then 0 else j.val
    split_ifs <;> omega
  · show o.val = if O = 1 then 0 else o.val
    split_ifs <;> omega

/-- The four terms of one parity and the bias, summed, are the transposed convolution with bias at the place. -/
theorem parity_lin {φ : FTy} (X : Map4 B C H W) (w : Map4 C O 4 4) (bias : Map1 O) (t00 t01 t10 t11 bb : FVec Ideal ⟨4, ![B, H, W, O]⟩ φ)
    (b : Fin B) (i : Fin H) (j : Fin W) (o : Fin O) (py px : Fin 2) (y : Fin P) (x : Fin Q)
    (hy : y.val = 2 * i.val + py.val) (hx : x.val = 2 * j.val + px.val)
    (h00 : t00 (ix4 b i j o) = tapT X w b o i.val j.val py px 0 0) (h01 : t01 (ix4 b i j o) = tapT X w b o i.val j.val py px 0 1)
    (h10 : t10 (ix4 b i j o) = tapT X w b o i.val j.val py px 1 0) (h11 : t11 (ix4 b i j o) = tapT X w b o i.val j.val py px 1 1)
    (hb : bb (ix4 b i j o) = bias (ix1 o)) :
    addf (addf (addf (addf t00 t01) t10) t11) bb (ix4 b i j o) = decLin (P := P) (Q := Q) X w bias (ix4 b o y x) := by
  show (((t00 (ix4 b i j o) + t01 (ix4 b i j o) : EReal) + t10 (ix4 b i j o)) + t11 (ix4 b i j o)) + bb (ix4 b i j o) = convTAt X w b o y.val x.val + bias (ix1 o)
  rw [h00, h01, h10, h11, hb, hy, hx, convTAt_parity]

/-- The same under the rectifier. -/
theorem parity_relu {φ : FTy} (X : Map4 B C H W) (w : Map4 C O 4 4) (bias : Map1 O) (t00 t01 t10 t11 bb zz : FVec Ideal ⟨4, ![B, H, W, O]⟩ φ)
    (b : Fin B) (i : Fin H) (j : Fin W) (o : Fin O) (py px : Fin 2) (y : Fin P) (x : Fin Q)
    (hy : y.val = 2 * i.val + py.val) (hx : x.val = 2 * j.val + px.val)
    (h00 : t00 (ix4 b i j o) = tapT X w b o i.val j.val py px 0 0) (h01 : t01 (ix4 b i j o) = tapT X w b o i.val j.val py px 0 1)
    (h10 : t10 (ix4 b i j o) = tapT X w b o i.val j.val py px 1 0) (h11 : t11 (ix4 b i j o) = tapT X w b o i.val j.val py px 1 1)
    (hb : bb (ix4 b i j o) = bias (ix1 o)) (hz : zz (ix4 b i j o) = 0) :
    maximumf (addf (addf (addf (addf t00 t01) t10) t11) bb) zz (ix4 b i j o) = decLayer (P := P) (Q := Q) X w bias (ix4 b o y x) :=
  congrArg₂ (fun s t : EReal => max s t) (parity_lin X w bias t00 t01 t10 t11 bb b i j o py px y x hy hx h00 h01 h10 h11 hb) hz

/-- A map's places as the rows of a matrix, channels last. -/
theorem rows_of_map (A : Map4 B H W C) (hc : (⟨4, ![B, H, W, C]⟩ : Shape).ShapeCasts ⟨2, ![M, C]⟩) (b : Fin B) (y : Fin H) (x : Fin W) (c : Fin C)
    (r : Fin M) (hr : r.val = (b.val * H + y.val) * W + x.val) : shapeCast ⟨2, ![M, C]⟩ A hc (ix2 r c) = A (ix4 b y x c) := by
  refine shapeCast_apply _ _ _ (ix4 b y x c) ?_
  rw [Shape.rowMajor_val_two, Shape.rowMajor_val_four]
  show ((b.val * H + y.val) * W + x.val) * C + c.val = r.val * C + c.val
  rw [hr]

/-- Channels moved last. -/
theorem last_apply {α : Type} (A : (⟨4, ![B, C, H, W]⟩ : Shape).Idx → α) (ht : (⟨4, ![B, C, H, W]⟩ : Shape).Transposes [0, 2, 3, 1] ⟨4, ![B, H, W, C]⟩)
    (b : Fin B) (y : Fin H) (x : Fin W) (c : Fin C) : transpose ⟨4, ![B, H, W, C]⟩ [0, 2, 3, 1] A ht (ix4 b y x c) = A (ix4 b c y x) :=
  transpose_apply _ _ _ _ _ fun a => by fin_cases a <;> rfl

/-- A change of format keeps the number. -/
theorem trunc_apply {S : Shape} {φ ψ : FTy} (A : FVec Ideal S φ) (h : ψ.bits < φ.bits) (j : S.Idx) : truncf ψ A h j = A j := rfl

/-- The constant zero is zero. -/
theorem zero_const {S : Shape} (j : S.Idx) : (constant (F := Ideal) S .f32 0#32) j = 0 := by
  pointwise []

/-- A spread of the constant zero is zero. -/
theorem zero_spread {R S T U : Shape} (d : Fin R.rank → Fin S.rank) (e : Fin S.rank → Fin T.rank) (h1 : R.BroadcastsInDim S d)
    (h2 : S.BroadcastsInDim T e) (h3 : T.ShapeCasts U) (j : U.Idx) :
    shapeCast U (broadcastInDim T e h2 (broadcastInDim S d h1 (constant (F := Ideal) R .f32 0#32))) h3 j = (0 : EReal) :=
  zero_const (S := ⟨0, ![]⟩) (fun a => a.elim0)

/-- Four words giving the order of rows and columns. -/
def IsOrder (v : (⟨1, ![4]⟩ : Shape).Idx → BitVec 32) : Prop :=
  ∀ p : Fin 4, v (ix1 p) = BitVec.ofNat 32 (order4 p).val

/-- The order of rows and columns, as it is handed to a gather. -/
theorem order_idx (v z a : IVec ⟨1, ![4]⟩ 32) (hv : IsOrder v) (hz : ∀ p, z p = 0#32)
    (hb : (⟨1, ![4]⟩ : Shape).BroadcastsInDim ⟨2, ![4, 1]⟩ ![0]) (p : Fin 4) :
    broadcastInDim ⟨2, ![4, 1]⟩ ![0] hb (select (cmpi .slt v z) a v) (ix2 p 0) = BitVec.ofNat 32 (order4 p).val := by
  refine (broadcastInDim_apply _ _ _ _ (ix1 p) fun a => by fin_cases a; rfl).trans ?_
  show Scalar.select (IntOp.cmpi .slt (v (ix1 p)) (z (ix1 p))) (a (ix1 p)) (v (ix1 p)) = _
  rw [hz]
  exact wrap_of _ (by have := (order4 p).isLt; omega) _ _ (hv p)

/-- A transposed convolution's kernels as a matrix: rows by channel, columns by window place and output. -/
theorem columns_apply (w : Map4 C O 4 4) (ht : (⟨4, ![C, O, 4, 4]⟩ : Shape).Transposes [0, 2, 3, 1] ⟨4, ![C, 4, 4, O]⟩)
    (hc : (⟨4, ![C, 4, 4, O]⟩ : Shape).ShapeCasts ⟨2, ![C, N]⟩) (hN : N = 16 * O) (c : Fin C) (q : Fin N) (cy cx : Fin 4) (o : Fin O)
    (hq : q.val = (cy.val * 4 + cx.val) * O + o.val) :
    shapeCast ⟨2, ![C, N]⟩ (transpose ⟨4, ![C, 4, 4, O]⟩ [0, 2, 3, 1] w ht) hc (ix2 c q) = w (ix4 c o cy cx) := by
  refine (shapeCast_apply _ _ _ (ix4 c cy cx o) ?_).trans (transpose_apply _ _ _ _ _ fun a => by fin_cases a <;> rfl)
  rw [Shape.rowMajor_val_two, Shape.rowMajor_val_four]
  show ((c.val * 4 + cy.val) * 4 + cx.val) * O + o.val = c.val * N + q.val
  rw [hq, hN]; ring

end Cert.Vq
-- ==== Proof.KerKeep.lean ====
/-
  What stays as it was between the kernel's regions: the words ordering a transposed convolution's rows and
  columns, and the results written early.
-/
module

public import proofs.«01_k».proof.Proof.DecTaps
public import proofs.«01_k».proof.Proof.Gen.KernelIdeal.Frame
public import Idealize.ShloMosaic.Lib.StableHlo.RunRead

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.Vq

variable (m : (ℓ : Loc nD τ sig) → Buf (Elt Ideal) ℓ) (ρ : Dev nD → PrngReg) (c : Dev nD)

/-- The words ordering rows and columns. -/
abbrev orders : List (Ref sig .tc) := [main_c, main_c_0, main_c_1, main_c_2, main_c_3, main_c_4, main_c_5, main_c_6]

/-- The results written before the decoder's transposed convolutions. -/
abbrev early : List (Ref sig .tc) := [main_v194, main_v195_0, main_v195_1]

/-- Up to the decoder the words stay. -/
theorem orders25 : ∀ a ∈ orders, W25 m ρ c (Proc.devRef .tc a) = W3 m ρ c (Proc.devRef .tc a) := by
  intro a ha
  simp only [List.mem_cons, List.not_mem_nil, or_false] at ha
  rcases ha with rfl | rfl | rfl | rfl | rfl | rfl | rfl | rfl
  all_goals
    rw [W25_of m ρ c _ (by decide +kernel)]
    after_reads_simp
    rw [W23_of m ρ c _ (by decide +kernel)]
    after_reads_simp
    rw [W21_of m ρ c _ (by decide +kernel), W20_of m ρ c _ (by decide +kernel)]
    after_reads_simp
    rw [W18_of m ρ c _ (by decide +kernel)]
    after_reads_simp
    rw [W16_of m ρ c _ (by decide +kernel)]
    after_reads_simp
    rw [W12_of m ρ c _ (by decide +kernel)]
    after_reads_simp
    rw [W8_of m ρ c _ (by decide +kernel)]
    after_reads_simp
    rw [W4_of m ρ c _ (by decide +kernel)]
    after_reads_simp

/-- Over the first transposed convolution's product they stay. -/
theorem orders27 : ∀ a ∈ orders, W27 m ρ c (Proc.devRef .tc a) = W25 m ρ c (Proc.devRef .tc a) := by
  intro a ha
  simp only [List.mem_cons, List.not_mem_nil, or_false] at ha
  rcases ha with rfl | rfl | rfl | rfl | rfl | rfl | rfl | rfl
  all_goals
    rw [W27_of m ρ c _ (by decide +kernel)]
    after_reads_simp

/-- The encoder's result stays up to the first transposed convolution. -/
theorem early27_0 : W27 m ρ c (Proc.devRef .tc main_v194) = W20 m ρ c (Proc.devRef .tc main_v194) := by
  rw [W27_of m ρ c _ (by decide +kernel)]
  after_reads_simp
  rw [W25_of m ρ c _ (by decide +kernel)]
  after_reads_simp
  rw [W23_of m ρ c _ (by decide +kernel)]
  after_reads_simp
  rw [W21_of m ρ c _ (by decide +kernel)]

/-- The two nearest vector results stay up to the first transposed convolution. -/
theorem early27 : ∀ a ∈ [main_v195_0, main_v195_1], W27 m ρ c (Proc.devRef .tc a) = W21 m ρ c (Proc.devRef .tc a) := by
  intro a ha
  simp only [List.mem_cons, List.not_mem_nil, or_false] at ha
  rcases ha with rfl | rfl
  all_goals
    rw [W27_of m ρ c _ (by decide +kernel)]
    after_reads_simp
    rw [W25_of m ρ c _ (by decide +kernel)]
    after_reads_simp
    rw [W23_of m ρ c _ (by decide +kernel)]
    after_reads_simp

/-- Over the stretch of the host up to region 10's end all of them stay. -/
theorem stay61 : ∀ a ∈ orders ++ early, W61 m ρ c (Proc.devRef .tc a) = W27 m ρ c (Proc.devRef .tc a) := by
  intro a ha
  simp only [List.cons_append, List.nil_append, List.mem_cons, List.not_mem_nil, or_false] at ha
  rcases ha with rfl | rfl | rfl | rfl | rfl | rfl | rfl | rfl | rfl | rfl | rfl
  all_goals
    rw [W61_of m ρ c _ (by decide +kernel)]
    after_reads_simp

/-- Over the stretch of the host up to region 11's end all of them stay. -/
theorem stay95 : ∀ a ∈ orders ++ early, W95 m ρ c (Proc.devRef .tc a) = W61 m ρ c (Proc.devRef .tc a) := by
  intro a ha
  simp only [List.cons_append, List.nil_append, List.mem_cons, List.not_mem_nil, or_false] at ha
  rcases ha with rfl | rfl | rfl | rfl | rfl | rfl | rfl | rfl | rfl | rfl | rfl
  all_goals
    rw [W95_of m ρ c _ (by decide +kernel)]
    after_reads_simp

/-- Over the stretch of the host up to region 12's end all of them stay. -/
theorem stay129 : ∀ a ∈ orders ++ early, W129 m ρ c (Proc.devRef .tc a) = W95 m ρ c (Proc.devRef .tc a) := by
  intro a ha
  simp only [List.cons_append, List.nil_append, List.mem_cons, List.not_mem_nil, or_false] at ha
  rcases ha with rfl | rfl | rfl | rfl | rfl | rfl | rfl | rfl | rfl | rfl | rfl
  all_goals
    rw [W129_of m ρ c _ (by decide +kernel)]
    after_reads_simp

/-- Over the last stretch of the host the early results stay. -/
theorem stay162 : ∀ a ∈ early, W162 m ρ c (Proc.devRef .tc a) = W129 m ρ c (Proc.devRef .tc a) := by
  intro a ha
  simp only [List.mem_cons, List.not_mem_nil, or_false] at ha
  rcases ha with rfl | rfl | rfl
  all_goals
    after_reads_simp

/-- From the first transposed convolution's product to the end the early results stay. -/
theorem early162 (a : Ref sig .tc) (ha : a ∈ early) : W162 m ρ c (Proc.devRef .tc a) = W27 m ρ c (Proc.devRef .tc a) :=
  (stay162 m ρ c a ha).trans ((stay129 m ρ c a (List.mem_append_right _ ha)).trans ((stay95 m ρ c a (List.mem_append_right _ ha)).trans
    (stay61 m ρ c a (List.mem_append_right _ ha))))

/-- The words of the list numbered 0 where they are used. -/
theorem order_0 : IsOrder (W25 m ρ c (Proc.devRef .tc main_c)) := by
  intro p
  rw [orders25 m ρ c main_c (by simp)]
  after_reads_simp
  fin_cases p <;> rfl

/-- The words of the list numbered 1 where they are used. -/
theorem order_1 : IsOrder (W25 m ρ c (Proc.devRef .tc main_c_0)) := by
  intro p
  rw [orders25 m ρ c main_c_0 (by simp)]
  after_reads_simp
  fin_cases p <;> rfl

/-- The words of the list numbered 2 where they are used. -/
theorem order_2 : IsOrder (W27 m ρ c (Proc.devRef .tc main_c_1)) := by
  intro p
  rw [orders27 m ρ c main_c_1 (by simp), orders25 m ρ c main_c_1 (by simp)]
  after_reads_simp
  fin_cases p <;> rfl

/-- The words of the list numbered 3 where they are used. -/
theorem order_3 : IsOrder (W27 m ρ c (Proc.devRef .tc main_c_2)) := by
  intro p
  rw [orders27 m ρ c main_c_2 (by simp), orders25 m ρ c main_c_2 (by simp)]
  after_reads_simp
  fin_cases p <;> rfl

/-- The words of the list numbered 4 where they are used. -/
theorem order_4 : IsOrder (W61 m ρ c (Proc.devRef .tc main_c_3)) := by
  intro p
  rw [stay61 m ρ c main_c_3 (by simp), orders27 m ρ c main_c_3 (by simp), orders25 m ρ c main_c_3 (by simp)]
  after_reads_simp
  fin_cases p <;> rfl

/-- The words of the list numbered 5 where they are used. -/
theorem order_5 : IsOrder (W61 m ρ c (Proc.devRef .tc main_c_4)) := by
  intro p
  rw [stay61 m ρ c main_c_4 (by simp), orders27 m ρ c main_c_4 (by simp), orders25 m ρ c main_c_4 (by simp)]
  after_reads_simp
  fin_cases p <;> rfl

/-- The words of the list numbered 6 where they are used. -/
theorem order_6 : IsOrder (W95 m ρ c (Proc.devRef .tc main_c_5)) := by
  intro p
  rw [stay95 m ρ c main_c_5 (by simp), stay61 m ρ c main_c_5 (by simp), orders27 m ρ c main_c_5 (by simp), orders25 m ρ c main_c_5 (by simp)]
  after_reads_simp
  fin_cases p <;> rfl

/-- The words of the list numbered 7 where they are used. -/
theorem order_7 : IsOrder (W95 m ρ c (Proc.devRef .tc main_c_6)) := by
  intro p
  rw [stay95 m ρ c main_c_6 (by simp), stay61 m ρ c main_c_6 (by simp), orders27 m ρ c main_c_6 (by simp), orders25 m ρ c main_c_6 (by simp)]
  after_reads_simp
  fin_cases p <;> rfl

end Cert.KernelIdeal.Val
-- ==== Proof.KerDec.lean ====
/-
  The kernel's decoder, layer by layer: what each matrix region is given and what it leaves.
-/
module

public import proofs.«01_k».proof.Proof.DecTaps
public import proofs.«01_k».proof.Proof.KerKeep
public import proofs.«01_k».proof.Proof.RegB
public import proofs.«01_k».proof.Proof.Gen.KernelIdeal.Frame
public import Idealize.ShloMosaic.Lib.StableHlo.RunRead

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.Vq

variable (m : (ℓ : Loc nD τ sig) → Buf (Elt Ideal) ℓ) (ρ : Dev nD → PrngReg) (c : Dev nD)

/-- Region 9's rows are the map the decoder's second layer leaves. -/
theorem rows9 (X : Map4 256 64 4 4)
    (hX : ∀ (b : Fin 256) (o : Fin 64) (y x : Fin 4) (q : Fin 1024), q.val = (o.val * 4 + y.val) * 4 + x.val →
      (W25 m ρ c (Proc.devRef .tc main_v214) : Map3 1 256 1024) (ix3 0 b q) = X (ix4 b o y x)) :
    IsRows (W26 m ρ c (Proc.devRef .tc main_v237) : Map3 1 4096 64) X := by
  intro b o y x r hr
  after_reads_simp
  have ho := o.isLt
  have hy := y.isLt
  have hx := x.isLt
  refine (unit_axis _ _ r o).trans ((rows_of_map _ _ b y x o r hr).trans ((last_apply _ _ b y x o).trans
    ((shapeCast_apply _ _ _ (ix2 b ⟨(o.val * 4 + y.val) * 4 + x.val, by omega⟩) ?_).trans
    ((shapeCast_apply _ _ _ (ix3 0 b ⟨(o.val * 4 + y.val) * 4 + x.val, by omega⟩) ?_).trans (hX b o y x _ rfl)))))
  · refine ((Shape.rowMajor_val_two (d := ![256, 1024]) _).trans ?_).trans (Shape.rowMajor_val_four (d := ![256, 64, 4, 4]) _).symm
    show b.val * 1024 + ((o.val * 4 + y.val) * 4 + x.val) = ((b.val * 64 + o.val) * 4 + y.val) * 4 + x.val
    omega
  · refine ((Shape.rowMajor_val_three (d := ![1, 256, 1024]) _).trans ?_).trans (Shape.rowMajor_val_two (d := ![256, 1024]) _).symm
    show (0 * 256 + b.val) * 1024 + ((o.val * 4 + y.val) * 4 + x.val) = b.val * 1024 + ((o.val * 4 + y.val) * 4 + x.val)
    omega

/-- Region 9's weights. -/
theorem w9_apply (ch : Fin 64) (q : Fin 1024) (cy cx : Fin 4) (o : Fin 64) (hq : q.val = (cy.val * 4 + cx.val) * 64 + o.val) :
    (W26 m ρ c (Proc.devRef .tc main_v238) : Map3 1 64 1024) (ix3 0 ch q)
      = (m ((c : Thread nD τ).loc main_arg18) : Map4 64 64 4 4) (ix4 ch o (order4 cy) (order4 cx)) := by
  after_reads_simp
  refine (unit_axis _ _ ch q).trans ((columns_apply _ _ _ (by rfl) ch q cy cx o hq).trans
    ((gatherB_apply _ _ _ ch o cy cx (order4 cx) (order_idx _ _ _ (order_1 m ρ c) (fun p => rfl) _ cx) (by norm_num)).trans
    ((gatherA_apply _ _ _ ch o cy (order4 cx) (order4 cy) (order_idx _ _ _ (order_0 m ρ c) (fun p => rfl) _ cy) (by norm_num)).trans ?_)))
  refine (trunc_apply (φ := .f32) (ψ := .bf16) _ _ _).trans ?_
  exact congrFun (W25_args m ρ c main_arg18 (by simp [argRefs])) _

/-- Region 9 has no bias. -/
theorem b9_apply (q : Fin 1024) : (W26 m ρ c (Proc.devRef .tc main_v240) : Map3 1 1 1024) (ix3 0 0 q) = (0 : EReal) := by
  after_reads_simp
  exact zero_spread _ _ _ _ _ _

/-- Region 9 leaves every place's contributions. -/
theorem taps9 (X : Map4 256 64 4 4) (hX : IsRows (W26 m ρ c (Proc.devRef .tc main_v237) : Map3 1 4096 64) X) :
    IsTaps (W27 m ρ c (Proc.devRef .tc main_v241) : Map3 1 4096 1024) X (m ((c : Thread nD τ).loc main_arg18) : Map4 64 64 4 4) := by
  intro b y x r cy cx o q hr hq
  refine (congrFun ((W27_arr m ρ c 3).trans (arr9 (V26 m ρ) c)) (ix3 0 r q)).trans ?_
  exact taps_of_mm X _ _ _ _ hX (fun ch q cy cx o hq => w9_apply m ρ c ch q cy cx o hq) (fun q => b9_apply m ρ c q) b y x r cy cx o q hr hq

set_option maxHeartbeats 4000000 in
/-- Region 10's rows are the layer whose contributions region 9 left. -/
theorem rows10 (X : Map4 256 64 4 4) (w : Map4 64 64 4 4) (hv : IsTaps (W27 m ρ c (Proc.devRef .tc main_v241) : Map3 1 4096 1024) X w) :
    IsRows (W60 m ρ c (Proc.devRef .tc main_v370) : Map3 1 16384 64) (decLayer (P := 8) (Q := 8) X w (m ((c : Thread nD τ).loc main_arg19) : Map1 64)) := by
  intro b o y x r hr
  after_reads_simp
  refine (unit_axis _ _ r o).trans ?_
  refine (rows_of_map _ _ b y x o r hr).trans ((trunc_apply (φ := .f32) (ψ := .bf16) _ _ _).trans ((last_apply _ _ b y x o).trans ?_))
  refine weave_apply (B := 256) (H := 4) (W := 4) (O := 64) (P := 8) (Q := 8) (M := 4096) _ _ _ _ _ _ _ _ _ (by rfl) (by rfl) (by rfl) _ b o y x ?_ ?_ ?_ ?_
  all_goals
    intro i j y x hy hx
    simp only [Matrix.cons_val]
    after_reads_simp
    simp -implicitDefEqProofs only [TRef.toBuf, TRef.ofBuf, cast_eq]
    refine (lead_axis _ _ b i j o).trans (parity_relu X w _ _ _ _ _ _ _ b i j o _ _ y x hy hx ?_ ?_ ?_ ?_ ?_ ?_)
  all_goals try (
    refine (shift_apply _ X w hv (by rfl) (by rfl) _ _ _ _ _ _ (by decide) (by decide) _ _ _ _ _ (fun i => zero_cell _ i) _ b i j o).trans
      (tap_term X w b o i.val j.val _ _ _ _ _ _ _ _ rfl rfl rfl rfl))
  all_goals
    pointwise []
    try exact congrFun (W27_args m ρ c main_arg19 (by simp [argRefs])) _

/-- Region 10's weights. -/
theorem w10_apply (ch : Fin 64) (q : Fin 512) (cy cx : Fin 4) (o : Fin 32) (hq : q.val = (cy.val * 4 + cx.val) * 32 + o.val) :
    (W60 m ρ c (Proc.devRef .tc main_v371) : Map3 1 64 512) (ix3 0 ch q)
      = (m ((c : Thread nD τ).loc main_arg20) : Map4 64 32 4 4) (ix4 ch o (order4 cy) (order4 cx)) := by
  after_reads_simp
  refine (unit_axis _ _ ch q).trans ((columns_apply _ _ _ (by rfl) ch q cy cx o hq).trans
    ((gatherB_apply _ _ _ ch o cy cx (order4 cx) (order_idx _ _ _ (order_3 m ρ c) (fun p => rfl) _ cx) (by norm_num)).trans
    ((gatherA_apply _ _ _ ch o cy (order4 cx) (order4 cy) (order_idx _ _ _ (order_2 m ρ c) (fun p => rfl) _ cy) (by norm_num)).trans ?_)))
  refine (trunc_apply (φ := .f32) (ψ := .bf16) _ _ _).trans ?_
  exact congrFun (W27_args m ρ c main_arg20 (by simp [argRefs])) _

/-- Region 10 has no bias. -/
theorem b10_apply (q : Fin 512) : (W60 m ρ c (Proc.devRef .tc main_v373) : Map3 1 1 512) (ix3 0 0 q) = (0 : EReal) := by
  after_reads_simp
  exact zero_spread _ _ _ _ _ _

/-- Region 10 leaves every place's contributions. -/
theorem taps10 (X : Map4 256 64 8 8) (hX : IsRows (W60 m ρ c (Proc.devRef .tc main_v370) : Map3 1 16384 64) X) :
    IsTaps (W61 m ρ c (Proc.devRef .tc main_v374) : Map3 1 16384 512) X (m ((c : Thread nD τ).loc main_arg20) : Map4 64 32 4 4) := by
  intro b y x r cy cx o q hr hq
  refine (congrFun ((W61_arr m ρ c 3).trans (arr10 (V60 m ρ) c)) (ix3 0 r q)).trans ?_
  exact taps_of_mm X _ _ _ _ hX (fun ch q cy cx o hq => w10_apply m ρ c ch q cy cx o hq) (fun q => b10_apply m ρ c q) b y x r cy cx o q hr hq

set_option maxHeartbeats 4000000 in
/-- Region 11's rows are the layer whose contributions region 10 left. -/
theorem rows11 (X : Map4 256 64 8 8) (w : Map4 64 32 4 4) (hv : IsTaps (W61 m ρ c (Proc.devRef .tc main_v374) : Map3 1 16384 512) X w) :
    IsRows (W94 m ρ c (Proc.devRef .tc main_v503) : Map3 1 65536 32) (decLayer (P := 16) (Q := 16) X w (m ((c : Thread nD τ).loc main_arg21) : Map1 32)) := by
  intro b o y x r hr
  after_reads_simp
  refine (unit_axis _ _ r o).trans ?_
  refine (rows_of_map _ _ b y x o r hr).trans ((trunc_apply (φ := .f32) (ψ := .bf16) _ _ _).trans ((last_apply _ _ b y x o).trans ?_))
  refine weave_apply (B := 256) (H := 8) (W := 8) (O := 32) (P := 16) (Q := 16) (M := 16384) _ _ _ _ _ _ _ _ _ (by rfl) (by rfl) (by rfl) _ b o y x ?_ ?_ ?_ ?_
  all_goals
    intro i j y x hy hx
    simp only [Matrix.cons_val]
    after_reads_simp
    simp -implicitDefEqProofs only [TRef.toBuf, TRef.ofBuf, cast_eq]
    refine (lead_axis _ _ b i j o).trans (parity_relu X w _ _ _ _ _ _ _ b i j o _ _ y x hy hx ?_ ?_ ?_ ?_ ?_ ?_)
  all_goals try (
    refine (shift_apply _ X w hv (by rfl) (by rfl) _ _ _ _ _ _ (by decide) (by decide) _ _ _ _ _ (fun i => zero_cell _ i) _ b i j o).trans
      (tap_term X w b o i.val j.val _ _ _ _ _ _ _ _ rfl rfl rfl rfl))
  all_goals
    pointwise []
    try exact congrFun (W61_args m ρ c main_arg21 (by simp [argRefs])) _

/-- Region 11's weights. -/
theorem w11_apply (ch : Fin 32) (q : Fin 512) (cy cx : Fin 4) (o : Fin 32) (hq : q.val = (cy.val * 4 + cx.val) * 32 + o.val) :
    (W94 m ρ c (Proc.devRef .tc main_v504) : Map3 1 32 512) (ix3 0 ch q)
      = (m ((c : Thread nD τ).loc main_arg22) : Map4 32 32 4 4) (ix4 ch o (order4 cy) (order4 cx)) := by
  after_reads_simp
  refine (unit_axis _ _ ch q).trans ((columns_apply _ _ _ (by rfl) ch q cy cx o hq).trans
    ((gatherB_apply _ _ _ ch o cy cx (order4 cx) (order_idx _ _ _ (order_5 m ρ c) (fun p => rfl) _ cx) (by norm_num)).trans
    ((gatherA_apply _ _ _ ch o cy (order4 cx) (order4 cy) (order_idx _ _ _ (order_4 m ρ c) (fun p => rfl) _ cy) (by norm_num)).trans ?_)))
  refine (trunc_apply (φ := .f32) (ψ := .bf16) _ _ _).trans ?_
  exact congrFun (W61_args m ρ c main_arg22 (by simp [argRefs])) _

/-- Region 11 has no bias. -/
theorem b11_apply (q : Fin 512) : (W94 m ρ c (Proc.devRef .tc main_v506) : Map3 1 1 512) (ix3 0 0 q) = (0 : EReal) := by
  after_reads_simp
  exact zero_spread _ _ _ _ _ _

/-- Region 11 leaves every place's contributions. -/
theorem taps11 (X : Map4 256 32 16 16) (hX : IsRows (W94 m ρ c (Proc.devRef .tc main_v503) : Map3 1 65536 32) X) :
    IsTaps (W95 m ρ c (Proc.devRef .tc main_v507) : Map3 1 65536 512) X (m ((c : Thread nD τ).loc main_arg22) : Map4 32 32 4 4) := by
  intro b y x r cy cx o q hr hq
  refine (congrFun ((W95_arr m ρ c 3).trans (arr11 (V94 m ρ) c)) (ix3 0 r q)).trans ?_
  exact taps_of_mm X _ _ _ _ hX (fun ch q cy cx o hq => w11_apply m ρ c ch q cy cx o hq) (fun q => b11_apply m ρ c q) b y x r cy cx o q hr hq

set_option maxHeartbeats 4000000 in
/-- Region 12's rows are the layer whose contributions region 11 left. -/
theorem rows12 (X : Map4 256 32 16 16) (w : Map4 32 32 4 4) (hv : IsTaps (W95 m ρ c (Proc.devRef .tc main_v507) : Map3 1 65536 512) X w) :
    IsRows (W128 m ρ c (Proc.devRef .tc main_v636) : Map3 1 262144 32) (decLayer (P := 32) (Q := 32) X w (m ((c : Thread nD τ).loc main_arg23) : Map1 32)) := by
  intro b o y x r hr
  after_reads_simp
  refine (unit_axis _ _ r o).trans ?_
  refine (rows_of_map _ _ b y x o r hr).trans ((trunc_apply (φ := .f32) (ψ := .bf16) _ _ _).trans ((last_apply _ _ b y x o).trans ?_))
  refine weave_apply (B := 256) (H := 16) (W := 16) (O := 32) (P := 32) (Q := 32) (M := 65536) _ _ _ _ _ _ _ _ _ (by rfl) (by rfl) (by rfl) _ b o y x ?_ ?_ ?_ ?_
  all_goals
    intro i j y x hy hx
    simp only [Matrix.cons_val]
    after_reads_simp
    simp -implicitDefEqProofs only [TRef.toBuf, TRef.ofBuf, cast_eq]
    refine (lead_axis _ _ b i j o).trans (parity_relu X w _ _ _ _ _ _ _ b i j o _ _ y x hy hx ?_ ?_ ?_ ?_ ?_ ?_)
  all_goals try (
    refine (shift_apply _ X w hv (by rfl) (by rfl) _ _ _ _ _ _ (by decide) (by decide) _ _ _ _ _ (fun i => zero_cell _ i) _ b i j o).trans
      (tap_term X w b o i.val j.val _ _ _ _ _ _ _ _ rfl rfl rfl rfl))
  all_goals
    pointwise []
    try exact congrFun (W95_args m ρ c main_arg23 (by simp [argRefs])) _

/-- Region 12's weights. -/
theorem w12_apply (ch : Fin 32) (q : Fin 48) (cy cx : Fin 4) (o : Fin 3) (hq : q.val = (cy.val * 4 + cx.val) * 3 + o.val) :
    (W128 m ρ c (Proc.devRef .tc main_v637) : Map3 1 32 48) (ix3 0 ch q)
      = (m ((c : Thread nD τ).loc main_arg24) : Map4 32 3 4 4) (ix4 ch o (order4 cy) (order4 cx)) := by
  after_reads_simp
  refine (unit_axis _ _ ch q).trans ((columns_apply _ _ _ (by rfl) ch q cy cx o hq).trans
    ((gatherB_apply _ _ _ ch o cy cx (order4 cx) (order_idx _ _ _ (order_7 m ρ c) (fun p => rfl) _ cx) (by norm_num)).trans
    ((gatherA_apply _ _ _ ch o cy (order4 cx) (order4 cy) (order_idx _ _ _ (order_6 m ρ c) (fun p => rfl) _ cy) (by norm_num)).trans ?_)))
  refine (trunc_apply (φ := .f32) (ψ := .bf16) _ _ _).trans ?_
  exact congrFun (W95_args m ρ c main_arg24 (by simp [argRefs])) _

/-- Region 12 has no bias. -/
theorem b12_apply (q : Fin 48) : (W128 m ρ c (Proc.devRef .tc main_v639) : Map3 1 1 48) (ix3 0 0 q) = (0 : EReal) := by
  after_reads_simp
  exact zero_spread _ _ _ _ _ _

/-- Region 12 leaves every place's contributions. -/
theorem taps12 (X : Map4 256 32 32 32) (hX : IsRows (W128 m ρ c (Proc.devRef .tc main_v636) : Map3 1 262144 32) X) :
    IsTaps (W129 m ρ c (Proc.devRef .tc main_v640) : Map3 1 262144 48) X (m ((c : Thread nD τ).loc main_arg24) : Map4 32 3 4 4) := by
  intro b y x r cy cx o q hr hq
  refine (congrFun ((W129_arr m ρ c 3).trans (arr12 (V128 m ρ) c)) (ix3 0 r q)).trans ?_
  exact taps_of_mm X _ _ _ _ hX (fun ch q cy cx o hq => w12_apply m ρ c ch q cy cx o hq) (fun q => b12_apply m ρ c q) b y x r cy cx o q hr hq

set_option maxHeartbeats 4000000 in
/-- The kernel's reconstruction is the last layer. -/
theorem result12 (X : Map4 256 32 32 32) (w : Map4 32 3 4 4) (hv : IsTaps (W129 m ρ c (Proc.devRef .tc main_v640) : Map3 1 262144 48) X w) :
    W162 m ρ c (Proc.devRef .tc main_v739) = decLin (P := 64) (Q := 64) X w (m ((c : Thread nD τ).loc main_arg25) : Map1 3) := by
  funext i
  obtain ⟨b, o, y, x, rfl⟩ : ∃ (b : Fin 256) (o : Fin 3) (y x : Fin 64), i = ix4 b o y x := ⟨i 0, i 1, i 2, i 3, funext fun a => by fin_cases a <;> rfl⟩
  after_reads_simp
  refine weave_apply (B := 256) (H := 32) (W := 32) (O := 3) (P := 64) (Q := 64) (M := 262144) _ _ _ _ _ _ _ _ _ (by rfl) (by rfl) (by rfl) _ b o y x ?_ ?_ ?_ ?_
  all_goals
    intro i j y x hy hx
    simp only [Matrix.cons_val]
    after_reads_simp
    simp -implicitDefEqProofs only [TRef.toBuf, TRef.ofBuf, cast_eq]
    refine (lead_axis _ _ b i j o).trans (parity_lin X w _ _ _ _ _ _ b i j o _ _ y x hy hx ?_ ?_ ?_ ?_ ?_)
  all_goals try (
    refine (shift_apply _ X w hv (by rfl) (by rfl) _ _ _ _ _ _ (by decide) (by decide) _ _ _ _ _ (fun i => zero_cell _ i) _ b i j o).trans
      (tap_term X w b o i.val j.val _ _ _ _ _ _ _ _ rfl rfl rfl rfl))
  all_goals
    pointwise []
    try exact congrFun (W129_args m ρ c main_arg25 (by simp [argRefs])) _

end Cert.KernelIdeal.Val
-- ==== Proof.Model.lean ====
/-
  The network as a function of its arguments: the encodings, the nearest rows both ways, and the reconstruction.
-/
module

public import proofs.«01_k».proof.Proof.Conv
public import proofs.«01_k».proof.Proof.VqMath
public import proofs.«01_k».proof.Proof.RefRest

@[expose] public section

noncomputable section

namespace Cert.Vq

open Idealize.ShloMosaic

/-- A matrix of extended reals. -/
abbrev Tab (A B : ℕ) : Type := (⟨2, ![A, B]⟩ : Shape).Idx → EReal

/-- The first place at which a function on a nonempty range is least. -/
def firstMin {n : ℕ} (hn : 0 < n) (f : Fin n → EReal) : Fin n := (exists_firstMin hn f).choose

/-- It is the first such place. -/
theorem firstMin_spec {n : ℕ} (hn : 0 < n) (f : Fin n → EReal) : IsFirstMin f (firstMin hn f) := (exists_firstMin hn f).choose_spec

/-- The encodings of the images. -/
def encoded (a0 : Map4 256 3 64 64) (a1 : Map4 32 3 4 4) (a2 : Map1 32) (a3 : Map4 32 32 4 4) (a4 : Map1 32) (a5 : Map4 64 32 4 4) (a6 : Map1 64)
    (a7 : Map4 64 64 4 4) (a8 : Map1 64) (a9 : Map4 128 64 4 4) (a10 : Map1 128) (a11 : Map4 64 128 1 1) (a12 : Map1 64) : Tab 256 64 :=
  encTail (encLayer (P := 4) (Q := 4) (encLayer (P := 8) (Q := 8) (encLayer (P := 16) (Q := 16) (encLayer (P := 32) (Q := 32) a0 a1 a2) a3 a4) a5 a6) a7 a8)
    a9 a10 a11 a12

/-- Each encoding's nearest row of the table. -/
def nearestRows (T : Tab 1024 64) (Z : Tab 256 64) : Tab 256 64 :=
  fun y => T (ix2 (firstMin (by decide) fun k : Fin 1024 => Ideal.sqrt (dist2 T Z k (y 0))) (y 1))

/-- Each row's nearest encoding. -/
def nearestCodes (T : Tab 1024 64) (Z : Tab 256 64) : Tab 1024 64 :=
  fun y => Z (ix2 (firstMin (by decide) fun b : Fin 256 => Ideal.sqrt (dist2 T Z (y 0) b)) (y 1))

/-- The reconstruction from the chosen rows. -/
def decoded (Y : Tab 256 64) (a14 : Map4 128 64 1 1) (a15 : Map1 128) (a16 : Map4 128 64 4 4) (a17 : Map1 64) (a18 : Map4 64 64 4 4) (a19 : Map1 64)
    (a20 : Map4 64 32 4 4) (a21 : Map1 32) (a22 : Map4 32 32 4 4) (a23 : Map1 32) (a24 : Map4 32 3 4 4) (a25 : Map1 3) : Map4 256 3 64 64 :=
  decLin (P := 64) (Q := 64) (decLayer (P := 32) (Q := 32) (decLayer (P := 16) (Q := 16) (decLayer (P := 8) (Q := 8)
    (decSpread (decHead Y a14 a15) a16 a17) a18 a19) a20 a21) a22 a23) a24 a25

end Cert.Vq
-- ==== Proof.KerAll.lean ====
/-
  The kernel's four results as the network's functions of its arguments.
-/
module

public import proofs.«01_k».proof.Proof.KerEnc
public import proofs.«01_k».proof.Proof.KerTail
public import proofs.«01_k».proof.Proof.KerVq
public import proofs.«01_k».proof.Proof.KerDec
public import proofs.«01_k».proof.Proof.Model

@[expose] public section

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.Vq

variable (m : (ℓ : Loc nD τ sig) → Buf (Elt Ideal) ℓ) (ρ : Dev nD → PrngReg) (c : Dev nD)

/-- The encodings the kernel's arguments have. -/
abbrev enc : Tab 256 64 := encoded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The table's rows the kernel's arguments choose. -/
abbrev rowsOf : Tab 256 64 := nearestRows (m ((c : Thread nD τ).loc main_arg13)) (enc m c)

/-- After the encoder the kernel holds the encodings. -/
theorem enc20 : W20 m ρ c (Proc.devRef .tc main_v194) = enc m c :=
  ker5 m ρ c _ (ker3 m ρ c _ (ker2 m ρ c _ (ker1 m ρ c _ (ker0 m ρ c))))

/-- The chosen rows, after the nearest vectors are found. -/
theorem rows21 : W21 m ρ c (Proc.devRef .tc main_v195_0) = rowsOf m c := by
  funext y
  obtain ⟨r, d, rfl⟩ : ∃ (r : Fin 256) (d : Fin 64), y = ix2 r d := ⟨y 0, y 1, funext fun a => by fin_cases a <;> rfl⟩
  exact ker6_2 m ρ c (enc m c) (enc20 m ρ c) r d _ (firstMin_spec _ _)

/-- The chosen encodings, after the nearest vectors are found. -/
theorem codes21 : W21 m ρ c (Proc.devRef .tc main_v195_1) = nearestCodes (m ((c : Thread nD τ).loc main_arg13)) (enc m c) := by
  funext y
  obtain ⟨r, d, rfl⟩ : ∃ (r : Fin 1024) (d : Fin 64), y = ix2 r d := ⟨y 0, y 1, funext fun a => by fin_cases a <;> rfl⟩
  exact ker6_3 m ρ c (enc m c) (enc20 m ρ c) r d _ (firstMin_spec _ _)

/-- The kernel's second result is the encodings. -/
theorem result1 : W162 m ρ c (Proc.devRef .tc main_v194) = enc m c :=
  (early162 m ρ c main_v194 (by simp [early])).trans ((early27_0 m ρ c).trans (enc20 m ρ c))

/-- The kernel's third result is the chosen rows. -/
theorem result2 : W162 m ρ c (Proc.devRef .tc main_v195_0) = rowsOf m c :=
  (early162 m ρ c main_v195_0 (by simp [early])).trans ((early27 m ρ c main_v195_0 (by simp)).trans (rows21 m ρ c))

/-- The kernel's fourth result is the chosen encodings. -/
theorem result3 : W162 m ρ c (Proc.devRef .tc main_v195_1) = nearestCodes (m ((c : Thread nD τ).loc main_arg13)) (enc m c) :=
  (early162 m ρ c main_v195_1 (by simp [early])).trans ((early27 m ρ c main_v195_1 (by simp)).trans (codes21 m ρ c))

/-- The kernel's first result is the reconstruction from the chosen rows. -/
theorem result0 : W162 m ρ c (Proc.devRef .tc main_v739) = decoded (rowsOf m c) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) := by
  have h8 := rows9 m ρ c _ fun b o y x q hq => ker8 m ρ c _ (fun b o => ker7 m ρ c _ (rows21 m ρ c) b o) b o y x q hq
  have h9 := rows10 m ρ c _ _ (taps9 m ρ c _ h8)
  have h10 := rows11 m ρ c _ _ (taps10 m ρ c _ h9)
  have h11 := rows12 m ρ c _ _ (taps11 m ρ c _ h10)
  exact result12 m ρ c _ _ (taps12 m ρ c _ h11)

end Cert.KernelIdeal.Val
-- ==== Proof.RefConv.lean ====
/-
  The reference's layers as sums at an index.
-/
module

public import proofs.«01_k».proof.Proof.RefRun
public import proofs.«01_k».proof.Proof.Gathers
public import proofs.«01_k».proof.Proof.Conv
public import Idealize.ShloMosaic.Lib.Pipeline.ValueKit

@[expose] public section

set_option maxRecDepth 16384

noncomputable section

namespace Cert.ReferenceIdeal.Val

open Cert.ReferenceIdeal Cert.ReferenceIdeal.Gen Cert.ReferenceIdeal.Facts₀
open Idealize.ShloMosaic Idealize.ShloMosaic.TcCoe Idealize.SL.Sem Idealize.ShloMosaic.StableHlo
open Cert.Vq
variable {B O P Q N : ℕ}

/-- A layer's sums, its bias added spot by spot, read as a map. -/
theorem spots_bias (L : Fin B → Fin O → Fin P → Fin Q → EReal) (bias : Map1 O) (hN : N = P * Q)
    (D : FVec Ideal ⟨4, ![O, B, P, Q]⟩ .f32) (hD : ∀ o b i j, D (ix4 o b i j) = L b o i j)
    (bc : FVec Ideal ⟨3, ![B, O, N]⟩ .f32) (hbc : ∀ b o n, bc (ix3 b o n) = bias (ix1 o))
    (hc : (⟨4, ![O, B, P, Q]⟩ : Shape).ShapeCasts ⟨3, ![O, B, N]⟩)
    (ht : (⟨3, ![O, B, N]⟩ : Shape).Transposes [1, 0, 2] ⟨3, ![B, O, N]⟩)
    (hr : (⟨3, ![B, O, N]⟩ : Shape).ShapeCasts ⟨4, ![B, O, P, Q]⟩) :
    shapeCast ⟨4, ![B, O, P, Q]⟩ (addf (transpose ⟨3, ![B, O, N]⟩ [1, 0, 2] (shapeCast ⟨3, ![O, B, N]⟩ D hc) ht) bc) hr
      = fun y => L (y 0) (y 1) (y 2) (y 3) + bias (ix1 (y 1)) := by
  funext y
  obtain ⟨b, o, i, j, rfl⟩ : ∃ (b : Fin B) (o : Fin O) (i : Fin P) (j : Fin Q), y = ix4 b o i j :=
    ⟨y 0, y 1, y 2, y 3, funext fun a => by fin_cases a <;> rfl⟩
  let n : Fin N := ⟨i.val * Q + j.val, by
    have hi := Nat.mul_le_mul_right Q i.isLt
    rw [Nat.succ_mul] at hi
    have := j.isLt
    omega⟩
  refine (shapeCast_apply _ _ _ (ix3 b o n) ?_).trans (congrArg₂ (fun s t : EReal => s + t) ?_ (hbc b o n))
  · rw [Shape.rowMajor_val_three, Shape.rowMajor_val_four]
    show (b.val * O + o.val) * N + (i.val * Q + j.val) = ((b.val * O + o.val) * P + i.val) * Q + j.val
    rw [hN]; ring
  · refine (transpose_apply _ _ _ (ix3 b o n) (ix3 o b n) (fun a => by fin_cases a <;> rfl)).trans
      ((shapeCast_apply _ _ _ (ix4 o b i j) ?_).trans (hD o b i j))
    rw [Shape.rowMajor_val_three, Shape.rowMajor_val_four]
    show ((o.val * B + b.val) * P + i.val) * Q + j.val = (o.val * B + b.val) * N + (i.val * Q + j.val)
    rw [hN]; ring

/-- The same, negative values replaced by zero. -/
theorem spots_relu (L : Fin B → Fin O → Fin P → Fin Q → EReal) (bias : Map1 O) (hN : N = P * Q)
    (D : FVec Ideal ⟨4, ![O, B, P, Q]⟩ .f32) (hD : ∀ o b i j, D (ix4 o b i j) = L b o i j)
    (bc : FVec Ideal ⟨3, ![B, O, N]⟩ .f32) (hbc : ∀ b o n, bc (ix3 b o n) = bias (ix1 o))
    (hc : (⟨4, ![O, B, P, Q]⟩ : Shape).ShapeCasts ⟨3, ![O, B, N]⟩)
    (ht : (⟨3, ![O, B, N]⟩ : Shape).Transposes [1, 0, 2] ⟨3, ![B, O, N]⟩)
    (z : FVec Ideal ⟨3, ![B, O, N]⟩ .f32) (hz : ∀ y, z y = (0 : EReal))
    (hr : (⟨3, ![B, O, N]⟩ : Shape).ShapeCasts ⟨4, ![B, O, P, Q]⟩) :
    shapeCast ⟨4, ![B, O, P, Q]⟩ (maximumf (addf (transpose ⟨3, ![B, O, N]⟩ [1, 0, 2] (shapeCast ⟨3, ![O, B, N]⟩ D hc) ht) bc) z) hr
      = fun y => max (L (y 0) (y 1) (y 2) (y 3) + bias (ix1 (y 1))) 0 := by
  funext y
  exact congrArg₂ max (congrFun (spots_bias L bias hN D hD bc hbc hc ht hr) y) (hz _)

variable (V : Valuation τ sig (Elt Ideal))

/-- The encoder's layer 1. -/
theorem ref1 : U1 V (Proc.devRef .tc main_v32) =
    encLayer (B := 256) (C := 3) (O := 32) (H := 64) (W := 64) (P := 32) (Q := 32) (V (Proc.devRef .tc main_arg0)) (V (Proc.devRef .tc main_arg1)) (V (Proc.devRef .tc main_arg2)) := by
  unfold U1
  after_reads_simp
  refine spots_relu (fun b o i j => convAt _ _ b o i.val j.val) _ rfl _ (fun o b i j => ?_) _ (fun b o n => ?_) _ _ _ (fun y => ?_) _
  · refine win_conv _ _ _ _ _ _ (fun p k => ?_) (by decide) (by decide) _ _ _ (fun i => ?_) o b i j
    · pointwise []
      exact wrap_at 2 p.val k.val (by omega) _
    · pointwise []
  · pointwise []
  · pointwise []

/-- The encoder's layer 2. -/
theorem ref2 : U2 V (Proc.devRef .tc main_v65) =
    encLayer (B := 256) (C := 32) (O := 32) (H := 32) (W := 32) (P := 16) (Q := 16) ((U1 V) (Proc.devRef .tc main_v32)) ((U1 V) (Proc.devRef .tc main_arg3)) ((U1 V) (Proc.devRef .tc main_arg4)) := by
  unfold U2
  after_reads_simp
  refine spots_relu (fun b o i j => convAt _ _ b o i.val j.val) _ rfl _ (fun o b i j => ?_) _ (fun b o n => ?_) _ _ _ (fun y => ?_) _
  · refine win_conv _ _ _ _ _ _ (fun p k => ?_) (by decide) (by decide) _ _ _ (fun i => ?_) o b i j
    · pointwise []
      exact wrap_at 2 p.val k.val (by omega) _
    · pointwise []
  · pointwise []
  · pointwise []

/-- The encoder's layer 3. -/
theorem ref3 : U3 V (Proc.devRef .tc main_v98) =
    encLayer (B := 256) (C := 32) (O := 64) (H := 16) (W := 16) (P := 8) (Q := 8) ((U2 V) (Proc.devRef .tc main_v65)) ((U2 V) (Proc.devRef .tc main_arg5)) ((U2 V) (Proc.devRef .tc main_arg6)) := by
  unfold U3
  after_reads_simp
  refine spots_relu (fun b o i j => convAt _ _ b o i.val j.val) _ rfl _ (fun o b i j => ?_) _ (fun b o n => ?_) _ _ _ (fun y => ?_) _
  · refine win_conv _ _ _ _ _ _ (fun p k => ?_) (by decide) (by decide) _ _ _ (fun i => ?_) o b i j
    · pointwise []
      exact wrap_at 2 p.val k.val (by omega) _
    · pointwise []
  · pointwise []
  · pointwise []

/-- The encoder's layer 4. -/
theorem ref4 : U4 V (Proc.devRef .tc main_v131) =
    encLayer (B := 256) (C := 64) (O := 64) (H := 8) (W := 8) (P := 4) (Q := 4) ((U3 V) (Proc.devRef .tc main_v98)) ((U3 V) (Proc.devRef .tc main_arg7)) ((U3 V) (Proc.devRef .tc main_arg8)) := by
  unfold U4
  after_reads_simp
  refine spots_relu (fun b o i j => convAt _ _ b o i.val j.val) _ rfl _ (fun o b i j => ?_) _ (fun b o n => ?_) _ _ _ (fun y => ?_) _
  · refine win_conv _ _ _ _ _ _ (fun p k => ?_) (by decide) (by decide) _ _ _ (fun i => ?_) o b i j
    · pointwise []
      exact wrap_at 2 p.val k.val (by omega) _
    · pointwise []
  · pointwise []
  · pointwise []

/-- The decoder's layer 3. -/
theorem ref9 : U9 V (Proc.devRef .tc main_v206) =
    decLayer (B := 256) (C := 64) (O := 64) (H := 4) (W := 4) (P := 8) (Q := 8) (U8 V (Proc.devRef .tc main_v171)) (U8 V (Proc.devRef .tc main_arg18)) (U8 V (Proc.devRef .tc main_arg19)) := by
  unfold U9
  after_reads_simp
  refine spots_relu (fun b o i j => convTAt _ (U8 V (Proc.devRef .tc main_arg18)) b o i.val j.val) _ rfl _ (fun o b i j => ?_) _ (fun b o n => ?_) _ _ _ (fun y => ?_) _
  · refine win_convT _ _ _ _ (U8 V (Proc.devRef .tc main_arg18)) _ (fun o c ky kx => ?_) _ (fun p k => ?_) (by decide) (by decide) _ _ _ (fun i => ?_) o b i j
    · pointwise []
      rfl
    · pointwise []
      exact (wrap_at 1 p.val k.val (by omega) _).trans (by rw [Nat.one_mul])
    · pointwise []
  · pointwise []
  · pointwise []

/-- The decoder's layer 4. -/
theorem ref10 : U10 V (Proc.devRef .tc main_v241) =
    decLayer (B := 256) (C := 64) (O := 32) (H := 8) (W := 8) (P := 16) (Q := 16) (U9 V (Proc.devRef .tc main_v206)) (U9 V (Proc.devRef .tc main_arg20)) (U9 V (Proc.devRef .tc main_arg21)) := by
  unfold U10
  after_reads_simp
  refine spots_relu (fun b o i j => convTAt _ (U9 V (Proc.devRef .tc main_arg20)) b o i.val j.val) _ rfl _ (fun o b i j => ?_) _ (fun b o n => ?_) _ _ _ (fun y => ?_) _
  · refine win_convT _ _ _ _ (U9 V (Proc.devRef .tc main_arg20)) _ (fun o c ky kx => ?_) _ (fun p k => ?_) (by decide) (by decide) _ _ _ (fun i => ?_) o b i j
    · pointwise []
      rfl
    · pointwise []
      exact (wrap_at 1 p.val k.val (by omega) _).trans (by rw [Nat.one_mul])
    · pointwise []
  · pointwise []
  · pointwise []

/-- The decoder's layer 5. -/
theorem ref11 : U11 V (Proc.devRef .tc main_v276) =
    decLayer (B := 256) (C := 32) (O := 32) (H := 16) (W := 16) (P := 32) (Q := 32) (U10 V (Proc.devRef .tc main_v241)) (U10 V (Proc.devRef .tc main_arg22)) (U10 V (Proc.devRef .tc main_arg23)) := by
  unfold U11
  after_reads_simp
  refine spots_relu (fun b o i j => convTAt _ (U10 V (Proc.devRef .tc main_arg22)) b o i.val j.val) _ rfl _ (fun o b i j => ?_) _ (fun b o n => ?_) _ _ _ (fun y => ?_) _
  · refine win_convT _ _ _ _ (U10 V (Proc.devRef .tc main_arg22)) _ (fun o c ky kx => ?_) _ (fun p k => ?_) (by decide) (by decide) _ _ _ (fun i => ?_) o b i j
    · pointwise []
      rfl
    · pointwise []
      exact (wrap_at 1 p.val k.val (by omega) _).trans (by rw [Nat.one_mul])
    · pointwise []
  · pointwise []
  · pointwise []

/-- The decoder's layer 6. -/
theorem ref12 : U12 V (Proc.devRef .tc main_v309) =
    decLin (B := 256) (C := 32) (O := 3) (H := 32) (W := 32) (P := 64) (Q := 64) (U11 V (Proc.devRef .tc main_v276)) (U11 V (Proc.devRef .tc main_arg24)) (U11 V (Proc.devRef .tc main_arg25)) := by
  unfold U12
  after_reads_simp
  refine spots_bias (fun b o i j => convTAt _ (U11 V (Proc.devRef .tc main_arg24)) b o i.val j.val) _ rfl _ (fun o b i j => ?_) _ (fun b o n => ?_) _ _ _
  · refine win_convT _ _ _ _ (U11 V (Proc.devRef .tc main_arg24)) _ (fun o c ky kx => ?_) _ (fun p k => ?_) (by decide) (by decide) _ _ _ (fun i => ?_) o b i j
    · pointwise []
      rfl
    · pointwise []
      exact (wrap_at 1 p.val k.val (by omega) _).trans (by rw [Nat.one_mul])
    · pointwise []
  · pointwise []

end Cert.ReferenceIdeal.Val
-- ==== Proof.RefAll.lean ====
/-
  The reference's four results as the network's functions of its arguments.
-/
module

public import proofs.«01_k».proof.Proof.RefConv
public import proofs.«01_k».proof.Proof.RefRest
public import proofs.«01_k».proof.Proof.Model

@[expose] public section

set_option maxRecDepth 16384

noncomputable section

namespace Cert.ReferenceIdeal.Val

open Cert.ReferenceIdeal Cert.ReferenceIdeal.Gen
open Idealize.ShloMosaic Idealize.ShloMosaic.TcCoe Idealize.SL.Sem Idealize.ShloMosaic.StableHlo
open Cert.Vq

variable (V : Valuation τ sig (Elt Ideal))

/-- The encodings the reference's arguments have. -/
abbrev enc : Tab 256 64 := encoded (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))

/-- The table's rows the reference's arguments choose. -/
abbrev rowsOf : Tab 256 64 := nearestRows (V (Proc.devRef .tc main_arg13)) (enc V)

/-- After its encoder the reference holds the encodings. -/
theorem enc5 : U5 V (Proc.devRef .tc main_v142) = enc V := by
  rw [ref5, ref4, ref3, ref2, ref1]
  rw [U1_args V main_arg3 (by simp [argRefs]), U1_args V main_arg4 (by simp [argRefs])]
  rw [U2_args V main_arg5 (by simp [argRefs]), U2_args V main_arg6 (by simp [argRefs])]
  rw [U3_args V main_arg7 (by simp [argRefs]), U3_args V main_arg8 (by simp [argRefs])]
  rw [U4_args V main_arg9 (by simp [argRefs]), U4_args V main_arg10 (by simp [argRefs]), U4_args V main_arg11 (by simp [argRefs]), U4_args V main_arg12 (by simp [argRefs])]
  rfl

/-- The chosen rows, after the first search. -/
theorem rows6 : U6 V (Proc.devRef .tc main_v158) = rowsOf V := by
  funext y
  obtain ⟨r, d, rfl⟩ : ∃ (r : Fin 256) (d : Fin 64), y = ix2 r d := ⟨y 0, y 1, funext fun a => by fin_cases a <;> rfl⟩
  have h := ref6 V r d
  rw [enc5, U5_args V main_arg13 (by simp [argRefs])] at h
  exact h _ (firstMin_spec _ _)

/-- The encodings stay up to the second search. -/
theorem enc12 : U12 V (Proc.devRef .tc main_v142) = enc V := by
  rw [U12_of V main_v142 (by decide +kernel), U11_of V main_v142 (by decide +kernel), U10_of V main_v142 (by decide +kernel), U9_of V main_v142 (by decide +kernel), U8_of V main_v142 (by decide +kernel), U7_of V main_v142 (by decide +kernel), U6_of V main_v142 (by decide +kernel), enc5]

/-- The reference's second result is the encodings. -/
theorem result1 : U13 V (Proc.devRef .tc main_v142) = enc V :=
  (U13_of V main_v142 (by decide +kernel)).trans (enc12 V)

/-- The reference's third result is the chosen rows. -/
theorem result2 : U13 V (Proc.devRef .tc main_v158) = rowsOf V := by
  rw [U13_of V main_v158 (by decide +kernel), U12_of V main_v158 (by decide +kernel), U11_of V main_v158 (by decide +kernel), U10_of V main_v158 (by decide +kernel), U9_of V main_v158 (by decide +kernel), U8_of V main_v158 (by decide +kernel), U7_of V main_v158 (by decide +kernel), rows6]

/-- The reference's fourth result is the chosen encodings. -/
theorem result3 : U13 V (Proc.devRef .tc main_v325) = nearestCodes (V (Proc.devRef .tc main_arg13)) (enc V) := by
  funext y
  obtain ⟨r, d, rfl⟩ : ∃ (r : Fin 1024) (d : Fin 64), y = ix2 r d := ⟨y 0, y 1, funext fun a => by fin_cases a <;> rfl⟩
  have h := ref13 V r d
  rw [enc12, U12_args V main_arg13 (by simp [argRefs])] at h
  exact h _ (firstMin_spec _ _)

/-- The reference's first result is the reconstruction from the chosen rows. -/
theorem result0 : U13 V (Proc.devRef .tc main_v309) = decoded (rowsOf V) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [U13_of V main_v309 (by decide +kernel), ref12, ref11, ref10, ref9, ref8, ref7, rows6]
  rw [U6_args V main_arg14 (by simp [argRefs]), U6_args V main_arg15 (by simp [argRefs])]
  rw [U7_args V main_arg16 (by simp [argRefs]), U7_args V main_arg17 (by simp [argRefs])]
  rw [U8_args V main_arg18 (by simp [argRefs]), U8_args V main_arg19 (by simp [argRefs])]
  rw [U9_args V main_arg20 (by simp [argRefs]), U9_args V main_arg21 (by simp [argRefs])]
  rw [U10_args V main_arg22 (by simp [argRefs]), U10_args V main_arg23 (by simp [argRefs])]
  rw [U11_args V main_arg24 (by simp [argRefs]), U11_args V main_arg25 (by simp [argRefs])]
  rfl

end Cert.ReferenceIdeal.Val
-- ==== Proof.Agree.lean ====
/-
  Where the arguments agree, the kernel and the reference have the same encodings, chosen rows, chosen encodings and reconstruction.
-/
module

public import proofs.«01_k».proof.Proof.KerAll
public import proofs.«01_k».proof.Proof.RefAll

@[expose] public section

set_option maxRecDepth 16384

noncomputable section

namespace Cert.Agree

open Idealize.ShloMosaic Idealize.SL.Sem Idealize.ShloMosaic.StableHlo
open Cert.Vq

variable (m : (ℓ : Loc Cert.KernelIdeal.nD Cert.KernelIdeal.τ Cert.KernelIdeal.sig) → Buf (Elt Ideal) ℓ) (g : Dev Cert.KernelIdeal.nD → PrngReg)
variable (m' : (ℓ : Loc Cert.ReferenceIdeal.nD Cert.ReferenceIdeal.τ Cert.ReferenceIdeal.sig) → Buf (Elt Ideal) ℓ)

/-- The two memories hold the same arguments on a device. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)

variable {m m'} {c : Dev Cert.KernelIdeal.nD}

/-- The same encodings. -/
theorem enc_same (h : Same m m' c) : Cert.ReferenceIdeal.Val.enc (launchContents m' c) = Cert.KernelIdeal.Val.enc m c := by
  obtain ⟨h0, h1, h2, h3, h4, h5, h6, h7, h8, h9, h10, h11, h12, h13, h14, h15, h16, h17, h18, h19, h20, h21, h22, h23, h24, h25⟩ := h
  show encoded (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) = _
  rw [h0, h1, h2, h3, h4, h5, h6, h7, h8, h9, h10, h11, h12]

/-- The same table. -/
theorem table_same (h : Same m m' c) : (launchContents m' c (Proc.devRef .tc Cert.ReferenceIdeal.main_arg13) : Tab 1024 64)
    = m ((c.tc : Thread Cert.KernelIdeal.nD Cert.KernelIdeal.τ).loc Cert.KernelIdeal.main_arg13) :=
  h.2.2.2.2.2.2.2.2.2.2.2.2.2.1

/-- The same chosen rows. -/
theorem rows_same (h : Same m m' c) : Cert.ReferenceIdeal.Val.rowsOf (launchContents m' c) = Cert.KernelIdeal.Val.rowsOf m c :=
  congrArg₂ nearestRows (table_same h) (enc_same h)

/-- The first results agree. -/
theorem result0 (h : Same m m' c) : Cert.ReferenceIdeal.Val.U13 (launchContents m' c) (Proc.devRef .tc Cert.ReferenceIdeal.main_v309)
    = Cert.KernelIdeal.Gen.W162 m g c (Proc.devRef .tc Cert.KernelIdeal.main_v739) := by
  refine (Cert.ReferenceIdeal.Val.result0 _).trans (Eq.trans ?_ (Cert.KernelIdeal.Val.result0 m g c).symm)
  rw [rows_same h]
  obtain ⟨h0, h1, h2, h3, h4, h5, h6, h7, h8, h9, h10, h11, h12, h13, h14, h15, h16, h17, h18, h19, h20, h21, h22, h23, h24, h25⟩ := h
  show decoded (Cert.KernelIdeal.Val.rowsOf m c) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) = _
  rw [h14, h15, h16, h17, h18, h19, h20, h21, h22, h23, h24, h25]

/-- The second results agree. -/
theorem result1 (h : Same m m' c) : Cert.ReferenceIdeal.Val.U13 (launchContents m' c) (Proc.devRef .tc Cert.ReferenceIdeal.main_v142)
    = Cert.KernelIdeal.Gen.W162 m g c (Proc.devRef .tc Cert.KernelIdeal.main_v194) :=
  (Cert.ReferenceIdeal.Val.result1 _).trans ((enc_same h).trans (Cert.KernelIdeal.Val.result1 m g c).symm)

/-- The third results agree. -/
theorem result2 (h : Same m m' c) : Cert.ReferenceIdeal.Val.U13 (launchContents m' c) (Proc.devRef .tc Cert.ReferenceIdeal.main_v158)
    = Cert.KernelIdeal.Gen.W162 m g c (Proc.devRef .tc Cert.KernelIdeal.main_v195_0) :=
  (Cert.ReferenceIdeal.Val.result2 _).trans ((rows_same h).trans (Cert.KernelIdeal.Val.result2 m g c).symm)

/-- The fourth results agree. -/
theorem result3 (h : Same m m' c) : Cert.ReferenceIdeal.Val.U13 (launchContents m' c) (Proc.devRef .tc Cert.ReferenceIdeal.main_v325)
    = Cert.KernelIdeal.Gen.W162 m g c (Proc.devRef .tc Cert.KernelIdeal.main_v195_1) :=
  (Cert.ReferenceIdeal.Val.result3 _).trans ((congrArg₂ nearestCodes (table_same h) (enc_same h)).trans (Cert.KernelIdeal.Val.result3 m g c).symm)

end Cert.Agree
-- ==== Proof.lean ====
/-
  The certificate: the frames of the kernel, of its idealization and of the idealized reference, and the equality of all
  four results of the two over the extended reals.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.RefFacts
public import proofs.«01_k».proof.Proof.RefRun
public import proofs.«01_k».proof.Proof.Launch
public import proofs.«01_k».proof.Proof.Agree
public import Idealize.ShloMosaic.Adequacy
public import Idealize.ShloMosaic.Init

@[expose] public section

set_option maxRecDepth 16384

noncomputable section

namespace Cert.Proof

open Idealize.ShloMosaic Idealize.SL.Sem Idealize.ShloMosaic.StableHlo

/-- The reference leaves its arguments as they were. -/
theorem ref_keeps (m : (ℓ : Loc Cert.ReferenceIdeal.nD Cert.ReferenceIdeal.τ Cert.ReferenceIdeal.sig) → Buf (Elt Ideal) ℓ)
    (c : Dev Cert.ReferenceIdeal.nD) (a : Ref Cert.ReferenceIdeal.sig .tc) (ha : a ∈ Cert.ReferenceIdeal.Val.argRefs) :
    Cert.ReferenceIdeal.Val.U13 (launchContents m c) (Proc.devRef .tc a)
      = m ((c.tc : Thread Cert.ReferenceIdeal.nD Cert.ReferenceIdeal.τ).loc a) :=
  Cert.ReferenceIdeal.Val.U13_args _ a ha

/-- The reference runs, keeps its arguments and leaves no counter raised. -/
theorem frame_reference : Cert.quiescent_ReferenceIdeal := by
  intro m g _
  refine θ_run_mono (Cert.ReferenceIdeal.Val.run m g) fun r h => ⟨fun c => ?_, sem_eq_zero_of_no_sems (by decide) r.2⟩
  have key (a : Ref Cert.ReferenceIdeal.sig .tc) (ha : a ∈ Cert.ReferenceIdeal.Val.argRefs) := (h c a).trans (ref_keeps m c a ha)
  refine ⟨?_, ?_, ?_, ?_, ?_, ?_, ?_, ?_, ?_, ?_, ?_, ?_, ?_, ?_, ?_, ?_, ?_, ?_, ?_, ?_, ?_, ?_, ?_, ?_, ?_, ?_⟩ <;> exact key _ (by simp [Cert.ReferenceIdeal.Val.argRefs])

/-- From equal arguments the kernel and the reference end with equal results. -/
theorem algebraic : Cert.algebraic_KernelIdeal_ReferenceIdeal := by
  intro m g m' g' _ hs
  refine ⟨fun c => Cert.KernelIdeal.Gen.W162 m g c (Proc.devRef .tc Cert.KernelIdeal.main_v739),
    fun c => Cert.KernelIdeal.Gen.W162 m g c (Proc.devRef .tc Cert.KernelIdeal.main_v194),
    fun c => Cert.KernelIdeal.Gen.W162 m g c (Proc.devRef .tc Cert.KernelIdeal.main_v195_0),
    fun c => Cert.KernelIdeal.Gen.W162 m g c (Proc.devRef .tc Cert.KernelIdeal.main_v195_1), ?_, ?_⟩
  · refine θ_run_mono (Cert.KernelIdeal.Val.run m g) fun r h c => ?_
    have key (a : Ref Cert.KernelIdeal.sig .tc) (ha : a ∈ Cert.KernelIdeal.Gen.argRefs) (hn : ¬ (Proc.devRef .tc a : DevRef Cert.KernelIdeal.τ Cert.KernelIdeal.sig).isScoped) :=
      (h c a hn).trans (Cert.KernelIdeal.Gen.W162_args m g c a ha)
    refine ⟨h c _ (by decide), h c _ (by decide), h c _ (by decide), h c _ (by decide), ?_, ?_, ?_, ?_, ?_, ?_, ?_, ?_, ?_, ?_, ?_, ?_, ?_, ?_, ?_, ?_, ?_, ?_, ?_, ?_, ?_, ?_, ?_, ?_, ?_, ?_⟩ <;> exact key _ (by simp [Cert.KernelIdeal.Gen.argRefs]) (by decide)
  · refine θ_run_mono (Cert.ReferenceIdeal.Val.run m' g') fun r h c => ?_
    have key (a : Ref Cert.ReferenceIdeal.sig .tc) (ha : a ∈ Cert.ReferenceIdeal.Val.argRefs) := (h c a).trans (ref_keeps m' c a ha)
    have same : Cert.Agree.Same m m' c := hs c
    refine ⟨(h c _).trans (Cert.Agree.result0 g same), (h c _).trans (Cert.Agree.result1 g same),
      (h c _).trans (Cert.Agree.result2 g same), (h c _).trans (Cert.Agree.result3 g same), ?_, ?_, ?_, ?_, ?_, ?_, ?_, ?_, ?_, ?_, ?_, ?_, ?_, ?_, ?_, ?_, ?_, ?_, ?_, ?_, ?_, ?_, ?_, ?_, ?_, ?_⟩ <;> exact key _ (by simp [Cert.ReferenceIdeal.Val.argRefs])

/-- The certificate's claims. -/
theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, frame_reference, trivial, algebraic⟩

end Cert.Proof

end
